-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16896x2048 : Shape := ⟨2, ![16896, 2048]⟩
abbrev S2048x16896 : Shape := ⟨2, ![2048, 16896]⟩
abbrev S16896x16 : Shape := ⟨2, ![16896, 16]⟩
abbrev S_ : Shape := ⟨0, ![]⟩

class Facts : Prop where
  bitsLt_bf16_f32 : FTy.bits .bf16 < FTy.bits .f32
  bcast_S_S16896x2048 : S_.BroadcastsInDim S16896x2048 (![] : Fin 0 → Fin S16896x2048.rank)
  bcast_S_S2048x16896 : S_.BroadcastsInDim S2048x16896 (![] : Fin 0 → Fin S2048x16896.rank)
  bcast_S_S16896x16 : S_.BroadcastsInDim S16896x16 (![] : Fin 0 → Fin S16896x16.rank)

variable [Facts]

def fn {F : FTy → Type} [FloatOps F] (main_arg0 : FVec F S16896x2048 .bf16) (main_arg1 : FVec F S2048x16896 .bf16) (main_arg2 : FVec F S16896x2048 .bf16) (main_arg3 : FVec F S16896x16 .f32) : IVec S16896x2048 1 × IVec S2048x16896 1 × IVec S16896x2048 1 × IVec S16896x16 1 :=
  let main_v0 : FVec F S16896x2048 .f32 := (extf .f32 · bitsLt_bf16_f32) main_arg0
  let main_v1 : FVec F S16896x2048 .f32 := Host.absf main_v0
  let main_cst : FVec F S_ .f32 := constant S_ .f32 0x7F800000#32
  let main_v2 : FVec F S16896x2048 .f32 := broadcastInDim S16896x2048 ![] bcast_S_S16896x2048 main_cst
  let main_v3 : IVec S16896x2048 1 := cmpf .olt main_v1 main_v2
  let main_v4 : FVec F S2048x16896 .f32 := (extf .f32 · bitsLt_bf16_f32) main_arg1
  let main_v5 : FVec F S2048x16896 .f32 := Host.absf main_v4
  let main_cst_0 : FVec F S_ .f32 := constant S_ .f32 0x7F800000#32
  let main_v6 : FVec F S2048x16896 .f32 := broadcastInDim S2048x16896 ![] bcast_S_S2048x16896 main_cst_0
  let main_v7 : IVec S2048x16896 1 := cmpf .olt main_v5 main_v6
  let main_v8 : FVec F S16896x2048 .f32 := (extf .f32 · bitsLt_bf16_f32) main_arg2
  let main_v9 : FVec F S16896x2048 .f32 := Host.absf main_v8
  let main_cst_1 : FVec F S_ .f32 := constant S_ .f32 0x7F800000#32
  let main_v10 : FVec F S16896x2048 .f32 := broadcastInDim S16896x2048 ![] bcast_S_S16896x2048 main_cst_1
  let main_v11 : IVec S16896x2048 1 := cmpf .olt main_v9 main_v10
  let main_v12 : FVec F S16896x16 .f32 := Host.absf main_arg3
  let main_cst_2 : FVec F S_ .f32 := constant S_ .f32 0x7F800000#32
  let main_v13 : FVec F S16896x16 .f32 := broadcastInDim S16896x16 ![] bcast_S_S16896x16 main_cst_2
  let main_v14 : IVec S16896x16 1 := cmpf .olt main_v12 main_v13
  (main_v3, main_v7, main_v11, main_v14)
-- ==== Kernel.lean ====
abbrev S16896x2048 : Shape := ⟨2, ![16896, 2048]⟩
abbrev S2048x16896 : Shape := ⟨2, ![2048, 16896]⟩
abbrev S16896x16 : Shape := ⟨2, ![16896, 16]⟩
abbrev S16x16896 : Shape := ⟨2, ![16, 16896]⟩
abbrev S_ : Shape := ⟨0, ![]⟩
abbrev S256x256 : Shape := ⟨2, ![256, 256]⟩
abbrev S1x256x256 : Shape := ⟨3, ![1, 256, 256]⟩
abbrev S2x256x256 : Shape := ⟨3, ![2, 256, 256]⟩
abbrev S256x2048 : Shape := ⟨2, ![256, 2048]⟩
abbrev S2048x256 : Shape := ⟨2, ![2048, 256]⟩
abbrev S256x16 : Shape := ⟨2, ![256, 16]⟩
abbrev S16x256 : Shape := ⟨2, ![16, 256]⟩
abbrev S2x4x512x512 : Shape := ⟨4, ![2, 4, 512, 512]⟩
abbrev S2x4x512x128 : Shape := ⟨4, ![2, 4, 512, 128]⟩
abbrev S2x4x8x128 : Shape := ⟨4, ![2, 4, 8, 128]⟩
abbrev S256x1 : Shape := ⟨2, ![256, 1]⟩
abbrev S1x256 : Shape := ⟨2, ![1, 256]⟩
abbrev S256x512 : Shape := ⟨2, ![256, 512]⟩
abbrev S512x256 : Shape := ⟨2, ![512, 256]⟩
abbrev S256 : Shape := ⟨1, ![256]⟩
abbrev S1 : Shape := ⟨1, ![1]⟩
abbrev S1x1 : Shape := ⟨2, ![1, 1]⟩
abbrev S1x1x8x128 : Shape := ⟨4, ![1, 1, 8, 128]⟩
abbrev S8x128 : Shape := ⟨2, ![8, 128]⟩
abbrev S1x1x512x512 : Shape := ⟨4, ![1, 1, 512, 512]⟩
abbrev S512x512 : Shape := ⟨2, ![512, 512]⟩
abbrev S1x1x512x128 : Shape := ⟨4, ![1, 1, 512, 128]⟩
abbrev S512x128 : Shape := ⟨2, ![512, 128]⟩
abbrev S256x128 : Shape := ⟨2, ![256, 128]⟩

abbrev nBuf : Space → Nat
  | .hbm => 31
  | .vmem => 30
  | .smem => 0
  | _ => 0

abbrev bufTy : (tb : Table) → Fin (tcTables nBuf tb) → BufTy
  | .hbm, ⟨0, _⟩ => ⟨S16896x2048, .bf16⟩
  | .hbm, ⟨1, _⟩ => ⟨S2048x16896, .bf16⟩
  | .hbm, ⟨2, _⟩ => ⟨S16896x2048, .bf16⟩
  | .hbm, ⟨3, _⟩ => ⟨S16896x16, .f32⟩
  | .hbm, ⟨4, _⟩ => ⟨S16x16896, .f32⟩
  | .hbm, ⟨5, _⟩ => ⟨S_, .f32⟩
  | .hbm, ⟨6, _⟩ => ⟨S256x256, .f32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S1x256x256, .f32⟩
  | .hbm, ⟨18, _⟩ => ⟨S1x256x256, .f32⟩
  | .hbm, ⟨19, _⟩ => ⟨S2x256x256, .f32⟩
  | .hbm, ⟨20, _⟩ => ⟨S_, .f32⟩
  | .hbm, ⟨21, _⟩ => ⟨S2x256x256, .f32⟩
  | .hbm, ⟨22, _⟩ => ⟨S2x256x256, .i1⟩
  | .hbm, ⟨23, _⟩ => ⟨S_, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S2x256x256, .f32⟩
  | .hbm, ⟨28, _⟩ => ⟨S2x256x256, .f32⟩
  | .hbm, ⟨29, _⟩ => ⟨S16896x2048, .bf16⟩
  | .hbm, ⟨30, _⟩ => ⟨S16896x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x256, .bf16⟩
  | .local _ .vmem, ⟨3, _⟩ => ⟨S2048x256, .bf16⟩
  | .local _ .vmem, ⟨4, _⟩ => ⟨S256x2048, .bf16⟩
  | .local _ .vmem, ⟨5, _⟩ => ⟨S256x2048, .bf16⟩
  | .local _ .vmem, ⟨6, _⟩ => ⟨S256x16, .f32⟩
  | .local _ .vmem, ⟨7, _⟩ => ⟨S256x16, .f32⟩
  | .local _ .vmem, ⟨8, _⟩ => ⟨S16x256, .f32⟩
  | .local _ .vmem, ⟨9, _⟩ => ⟨S16x256, .f32⟩
  | .local _ .vmem, ⟨10, _⟩ => ⟨S256x2048, .bf16⟩
  | .local _ .vmem, ⟨11, _⟩ => ⟨S256x2048, .bf16⟩
  | .local _ .vmem, ⟨12, _⟩ => ⟨S2048x256, .bf16⟩
  | .local _ .vmem, ⟨13, _⟩ => ⟨S2048x256, .bf16⟩
  | .local _ .vmem, ⟨14, _⟩ => ⟨S256x2048, .bf16⟩
  | .local _ .vmem, ⟨15, _⟩ => ⟨S256x2048, .bf16⟩
  | .local _ .vmem, ⟨16, _⟩ => ⟨S256x16, .f32⟩
  | .local _ .vmem, ⟨17, _⟩ => ⟨S256x16, .f32⟩
  | .local _ .vmem, ⟨18, _⟩ => ⟨S16x256, .f32⟩
  | .local _ .vmem, ⟨19, _⟩ => ⟨S16x256, .f32⟩
  | .local _ .vmem, ⟨20, _⟩ => ⟨S2x256x256, .f32⟩
  | .local _ .vmem, ⟨21, _⟩ => ⟨S2x256x256, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S2x4x512x512, .f32⟩
  | .local _ .vmem, ⟨27, _⟩ => ⟨S2x4x512x512, .bf16⟩
  | .local _ .vmem, ⟨28, _⟩ => ⟨S2x4x512x128, .f32⟩
  | .local _ .vmem, ⟨29, _⟩ => ⟨S2x4x8x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![2, 1, 33], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let v3 : BitVec 32 := Scalar.addi v2 arg2
  let c32_i32 : BitVec 32 := 32#32
  let v4 : BitVec 32 := Scalar.muli arg0 c32_i32
  let c1_i32_1 : BitVec 32 := 1#32
  let v5 : BitVec 32 := Scalar.subi arg2 c1_i32_1
  let v6 : BitVec 32 := Scalar.addi v4 v5
  let v7 : BitVec 32 := Scalar.select v0 v3 v6
  let c0_i32 : BitVec 32 := 0#32
  ![v7.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let v3 : BitVec 32 := Scalar.addi v2 arg2
  let c32_i32 : BitVec 32 := 32#32
  let v4 : BitVec 32 := Scalar.muli arg0 c32_i32
  let c1_i32_1 : BitVec 32 := 1#32
  let v5 : BitVec 32 := Scalar.subi arg2 c1_i32_1
  let v6 : BitVec 32 := Scalar.addi v4 v5
  let v7 : BitVec 32 := Scalar.select v0 v3 v6
  let c0_i32 : BitVec 32 := 0#32
  ![arg1.toNat, v7.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let v3 : BitVec 32 := Scalar.addi v2 arg2
  let c32_i32 : BitVec 32 := 32#32
  let v4 : BitVec 32 := Scalar.muli arg0 c32_i32
  let c1_i32_1 : BitVec 32 := 1#32
  let v5 : BitVec 32 := Scalar.subi arg2 c1_i32_1
  let v6 : BitVec 32 := Scalar.addi v4 v5
  let v7 : BitVec 32 := Scalar.select v0 v3 v6
  let c0_i32 : BitVec 32 := 0#32
  ![v7.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let v3 : BitVec 32 := Scalar.addi v2 arg2
  let c32_i32 : BitVec 32 := 32#32
  let v4 : BitVec 32 := Scalar.muli arg0 c32_i32
  let c1_i32_1 : BitVec 32 := 1#32
  let v5 : BitVec 32 := Scalar.subi arg2 c1_i32_1
  let v6 : BitVec 32 := Scalar.addi v4 v5
  let v7 : BitVec 32 := Scalar.select v0 v3 v6
  let c0_i32 : BitVec 32 := 0#32
  let c0_i32_2 : BitVec 32 := 0#32
  ![v7.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let v3 : BitVec 32 := Scalar.addi v2 arg2
  let c32_i32 : BitVec 32 := 32#32
  let v4 : BitVec 32 := Scalar.muli arg0 c32_i32
  let c1_i32_1 : BitVec 32 := 1#32
  let v5 : BitVec 32 := Scalar.subi arg2 c1_i32_1
  let v6 : BitVec 32 := Scalar.addi v4 v5
  let v7 : BitVec 32 := Scalar.select v0 v3 v6
  let c0_i32 : BitVec 32 := 0#32
  let c0_i32_2 : BitVec 32 := 0#32
  ![c0_i32.toNat, v7.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let c0_i32 : BitVec 32 := 0#32
  let v3 : BitVec 32 := Scalar.subi c0_i32 arg2
  let v4 : BitVec 32 := Scalar.addi v2 v3
  let c32_i32 : BitVec 32 := 32#32
  let v5 : BitVec 32 := Scalar.muli arg0 c32_i32
  let c1_i32_1 : BitVec 32 := 1#32
  let v6 : BitVec 32 := Scalar.subi arg2 c1_i32_1
  let c31_i32 : BitVec 32 := 31#32
  let v7 : BitVec 32 := Scalar.subi c31_i32 v6
  let v8 : BitVec 32 := Scalar.addi v5 v7
  let v9 : BitVec 32 := Scalar.select v0 v4 v8
  let c0_i32_2 : BitVec 32 := 0#32
  ![v9.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let c0_i32 : BitVec 32 := 0#32
  let v3 : BitVec 32 := Scalar.subi c0_i32 arg2
  let v4 : BitVec 32 := Scalar.addi v2 v3
  let c32_i32 : BitVec 32 := 32#32
  let v5 : BitVec 32 := Scalar.muli arg0 c32_i32
  let c1_i32_1 : BitVec 32 := 1#32
  let v6 : BitVec 32 := Scalar.subi arg2 c1_i32_1
  let c31_i32 : BitVec 32 := 31#32
  let v7 : BitVec 32 := Scalar.subi c31_i32 v6
  let v8 : BitVec 32 := Scalar.addi v5 v7
  let v9 : BitVec 32 := Scalar.select v0 v4 v8
  let c0_i32_2 : BitVec 32 := 0#32
  ![arg1.toNat, v9.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let c0_i32 : BitVec 32 := 0#32
  let v3 : BitVec 32 := Scalar.subi c0_i32 arg2
  let v4 : BitVec 32 := Scalar.addi v2 v3
  let c32_i32 : BitVec 32 := 32#32
  let v5 : BitVec 32 := Scalar.muli arg0 c32_i32
  let c1_i32_1 : BitVec 32 := 1#32
  let v6 : BitVec 32 := Scalar.subi arg2 c1_i32_1
  let c31_i32 : BitVec 32 := 31#32
  let v7 : BitVec 32 := Scalar.subi c31_i32 v6
  let v8 : BitVec 32 := Scalar.addi v5 v7
  let v9 : BitVec 32 := Scalar.select v0 v4 v8
  let c0_i32_2 : BitVec 32 := 0#32
  ![v9.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let c0_i32 : BitVec 32 := 0#32
  let v3 : BitVec 32 := Scalar.subi c0_i32 arg2
  let v4 : BitVec 32 := Scalar.addi v2 v3
  let c32_i32 : BitVec 32 := 32#32
  let v5 : BitVec 32 := Scalar.muli arg0 c32_i32
  let c1_i32_1 : BitVec 32 := 1#32
  let v6 : BitVec 32 := Scalar.subi arg2 c1_i32_1
  let c31_i32 : BitVec 32 := 31#32
  let v7 : BitVec 32 := Scalar.subi c31_i32 v6
  let v8 : BitVec 32 := Scalar.addi v5 v7
  let v9 : BitVec 32 := Scalar.select v0 v4 v8
  let c0_i32_2 : BitVec 32 := 0#32
  let c0_i32_3 : BitVec 32 := 0#32
  ![v9.toNat, c0_i32_2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let c0_i32 : BitVec 32 := 0#32
  let v3 : BitVec 32 := Scalar.subi c0_i32 arg2
  let v4 : BitVec 32 := Scalar.addi v2 v3
  let c32_i32 : BitVec 32 := 32#32
  let v5 : BitVec 32 := Scalar.muli arg0 c32_i32
  let c1_i32_1 : BitVec 32 := 1#32
  let v6 : BitVec 32 := Scalar.subi arg2 c1_i32_1
  let c31_i32 : BitVec 32 := 31#32
  let v7 : BitVec 32 := Scalar.subi c31_i32 v6
  let v8 : BitVec 32 := Scalar.addi v5 v7
  let v9 : BitVec 32 := Scalar.select v0 v4 v8
  let c0_i32_2 : BitVec 32 := 0#32
  let c0_i32_3 : BitVec 32 := 0#32
  ![c0_i32_2.toNat, v9.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let v3 : BitVec 32 := Scalar.addi v2 arg2
  let c32_i32 : BitVec 32 := 32#32
  let v4 : BitVec 32 := Scalar.muli arg0 c32_i32
  let c1_i32_1 : BitVec 32 := 1#32
  let v5 : BitVec 32 := Scalar.subi arg2 c1_i32_1
  let v6 : BitVec 32 := Scalar.addi v4 v5
  let v7 : BitVec 32 := Scalar.select v0 v3 v6
  let c0_i32 : BitVec 32 := 0#32
  ![v7.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c1_i32_0 : BitVec 32 := 1#32
  let v1 : BitVec 32 := Scalar.muli arg0 c1_i32_0
  let c64_i32 : BitVec 32 := 64#32
  let v2 : BitVec 32 := Scalar.addi c64_i32 v1
  let c0_i32 : BitVec 32 := 0#32
  let v3 : BitVec 32 := Scalar.subi c0_i32 arg2
  let v4 : BitVec 32 := Scalar.addi v2 v3
  let c32_i32 : BitVec 32 := 32#32
  let v5 : BitVec 32 := Scalar.muli arg0 c32_i32
  let c1_i32_1 : BitVec 32 := 1#32
  let v6 : BitVec 32 := Scalar.subi arg2 c1_i32_1
  let c31_i32 : BitVec 32 := 31#32
  let v7 : BitVec 32 := Scalar.subi c31_i32 v6
  let v8 : BitVec 32 := Scalar.addi v5 v7
  let v9 : BitVec 32 := Scalar.select v0 v4 v8
  let c0_i32_2 : BitVec 32 := 0#32
  ![v9.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 1 → Memref sig .tc .vmem S2x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S2x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ReferenceIdeal.lean ====
abbrev S16896x2048 : Shape := ⟨2, ![16896, 2048]⟩
abbrev S2048x16896 : Shape := ⟨2, ![2048, 16896]⟩
abbrev S16896x16 : Shape := ⟨2, ![16896, 16]⟩
abbrev S16384x16 : Shape := ⟨2, ![16384, 16]⟩
abbrev S2x8192x16 : Shape := ⟨3, ![2, 8192, 16]⟩
abbrev S512x16 : Shape := ⟨2, ![512, 16]⟩
abbrev S2x256x16 : Shape := ⟨3, ![2, 256, 16]⟩
abbrev S2x8448x16 : Shape := ⟨3, ![2, 8448, 16]⟩
abbrev S2x8448x8 : Shape := ⟨3, ![2, 8448, 8]⟩
abbrev S4x8448x8 : Shape := ⟨3, ![4, 8448, 8]⟩
abbrev S4x8x8448 : Shape := ⟨3, ![4, 8, 8448]⟩
abbrev S4x4x8448 : Shape := ⟨3, ![4, 4, 8448]⟩
abbrev S_ : Shape := ⟨0, ![]⟩
abbrev S4x4x512x512 : Shape := ⟨4, ![4, 4, 512, 512]⟩
abbrev S4x4x512 : Shape := ⟨3, ![4, 4, 512]⟩
abbrev S4x4 : Shape := ⟨2, ![4, 4]⟩
abbrev S16384x2048 : Shape := ⟨2, ![16384, 2048]⟩
abbrev S2x8192x2048 : Shape := ⟨3, ![2, 8192, 2048]⟩
abbrev S512x2048 : Shape := ⟨2, ![512, 2048]⟩
abbrev S2x256x2048 : Shape := ⟨3, ![2, 256, 2048]⟩
abbrev S2x8448x2048 : Shape := ⟨3, ![2, 8448, 2048]⟩
abbrev S4x8448x2048 : Shape := ⟨3, ![4, 8448, 2048]⟩
abbrev S4x8448x4x512 : Shape := ⟨4, ![4, 8448, 4, 512]⟩
abbrev S4x4x8448x512 : Shape := ⟨4, ![4, 4, 8448, 512]⟩
abbrev S64x64 : Shape := ⟨2, ![64, 64]⟩
abbrev S4x4x132x64x512 : Shape := ⟨5, ![4, 4, 132, 64, 512]⟩
abbrev S132x4x4x64x512 : Shape := ⟨5, ![132, 4, 4, 64, 512]⟩
abbrev S4x4x132x64 : Shape := ⟨4, ![4, 4, 132, 64]⟩
abbrev S132x4x4x64 : Shape := ⟨4, ![132, 4, 4, 64]⟩
abbrev S1x4x4x64x512 : Shape := ⟨5, ![1, 4, 4, 64, 512]⟩
abbrev S4x4x64x512 : Shape := ⟨4, ![4, 4, 64, 512]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩

abbrev nBuf : Space → Nat
  | .hbm => 248
  | .vmem => 0
  | .smem => 0
  | _ => 0

abbrev hbmTy0_0 (i : Nat) : BufTy := match i % 128 with
  | 0 => ⟨S16896x2048, .bf16⟩
  | 1 => ⟨S2048x16896, .bf16⟩
  | 2 => ⟨S16896x2048, .bf16⟩
  | 3 => ⟨S16896x16, .f32⟩
  | 4 => ⟨S16384x16, .f32⟩
  | 5 => ⟨S2x8192x16, .f32⟩
  | 6 => ⟨S512x16, .f32⟩
  | 7 => ⟨S2x256x16, .f32⟩
  | 8 => ⟨S2x8448x16, .f32⟩
  | 9 => ⟨S2x256x16, .f32⟩
  | 10 => ⟨S2x8192x16, .f32⟩
  | 11 => ⟨S2x8448x16, .f32⟩
  | 12 => ⟨S2x8448x8, .f32⟩
  | 13 => ⟨S2x8448x8, .f32⟩
  | 14 => ⟨S4x8448x8, .f32⟩
  | 15 => ⟨S4x8x8448, .f32⟩
  | 16 => ⟨S4x4x8448, .f32⟩
  | 17 => ⟨S4x4x8448, .f32⟩
  | 18 => ⟨S4x4x8448, .f32⟩
  | 19 => ⟨S_, .f32⟩
  | 20 => ⟨S4x4x8448, .f32⟩
  | 21 => ⟨S4x4x8448, .f32⟩
  | 22 => ⟨S4x4x8448, .f32⟩
  | 23 => ⟨S4x4x8448, .f32⟩
  | 24 => ⟨S4x4x8448, .i1⟩
  | 25 => ⟨S4x4x8448, .f32⟩
  | 26 => ⟨S4x4x8448, .f32⟩
  | 27 => ⟨S4x4x8448, .f32⟩
  | 28 => ⟨S4x4x8448, .f32⟩
  | 29 => ⟨S4x4x8448, .f32⟩
  | 30 => ⟨S4x4x8448, .f32⟩
  | 31 => ⟨S4x4x8448, .f32⟩
  | 32 => ⟨S4x4x8448, .f32⟩
  | 33 => ⟨S4x4x8448, .f32⟩
  | 34 => ⟨S_, .f32⟩
  | 35 => ⟨S4x4x512x512, .f32⟩
  | 36 => ⟨S_, .f32⟩
  | 37 => ⟨S4x4x512, .f32⟩
  | 38 => ⟨S_, .f32⟩
  | 39 => ⟨S4x4, .f32⟩
  | 40 => ⟨S16896x2048, .f32⟩
  | 41 => ⟨S16384x2048, .f32⟩
  | 42 => ⟨S2x8192x2048, .f32⟩
  | 43 => ⟨S512x2048, .f32⟩
  | 44 => ⟨S2x256x2048, .f32⟩
  | 45 => ⟨S2x8448x2048, .f32⟩
  | 46 => ⟨S2x256x2048, .f32⟩
  | 47 => ⟨S2x8192x2048, .f32⟩
  | 48 => ⟨S2x8448x2048, .f32⟩
  | 49 => ⟨S4x8448x2048, .f32⟩
  | 50 => ⟨S4x8448x4x512, .f32⟩
  | 51 => ⟨S4x4x8448x512, .f32⟩
  | 52 => ⟨S16896x2048, .bf16⟩
  | 53 => ⟨S16896x2048, .f32⟩
  | 54 => ⟨S16384x2048, .f32⟩
  | 55 => ⟨S2x8192x2048, .f32⟩
  | 56 => ⟨S512x2048, .f32⟩
  | 57 => ⟨S2x256x2048, .f32⟩
  | 58 => ⟨S2x8448x2048, .f32⟩
  | 59 => ⟨S2x256x2048, .f32⟩
  | 60 => ⟨S2x8192x2048, .f32⟩
  | 61 => ⟨S2x8448x2048, .f32⟩
  | 62 => ⟨S4x8448x2048, .f32⟩
  | 63 => ⟨S4x8448x4x512, .f32⟩
  | 64 => ⟨S4x4x8448x512, .f32⟩
  | 65 => ⟨S16896x2048, .f32⟩
  | 66 => ⟨S16384x2048, .f32⟩
  | 67 => ⟨S2x8192x2048, .f32⟩
  | 68 => ⟨S512x2048, .f32⟩
  | 69 => ⟨S2x256x2048, .f32⟩
  | 70 => ⟨S2x8448x2048, .f32⟩
  | 71 => ⟨S2x256x2048, .f32⟩
  | 72 => ⟨S2x8192x2048, .f32⟩
  | 73 => ⟨S2x8448x2048, .f32⟩
  | 74 => ⟨S4x8448x2048, .f32⟩
  | 75 => ⟨S4x8448x4x512, .f32⟩
  | 76 => ⟨S4x4x8448x512, .f32⟩
  | 77 => ⟨S_, .i1⟩
  | 78 => ⟨S64x64, .i1⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .i1⟩
  | 86 => ⟨S64x64, .i1⟩
  | 87 => ⟨S64x64, .i1⟩
  | 88 => ⟨S4x4x132x64x512, .f32⟩
  | 89 => ⟨S132x4x4x64x512, .f32⟩
  | 90 => ⟨S4x4x132x64x512, .f32⟩
  | 91 => ⟨S132x4x4x64x512, .f32⟩
  | 92 => ⟨S4x4x132x64x512, .f32⟩
  | 93 => ⟨S132x4x4x64x512, .f32⟩
  | 94 => ⟨S4x4x132x64, .f32⟩
  | 95 => ⟨S132x4x4x64, .f32⟩
  | 96 => ⟨S4x4x132x64, .f32⟩
  | 97 => ⟨S132x4x4x64, .f32⟩
  | 98 => ⟨S_, .f32⟩
  | 99 => ⟨S132x4x4x64x512, .f32⟩
  | 100 => ⟨S_, .i32⟩
  | 101 => ⟨S132x4x4x64x512, .f32⟩
  | 102 => ⟨S132x4x4x64x512, .f32⟩
  | 103 => ⟨S132x4x4x64x512, .f32⟩
  | 104 => ⟨S132x4x4x64, .f32⟩
  | 105 => ⟨S132x4x4x64, .f32⟩
  | 106 => ⟨S64x64, .i1⟩
  | 107 => ⟨S_, .i32⟩
  | 108 => ⟨S4x4x512x512, .f32⟩
  | 109 => ⟨S4x4x512, .f32⟩
  | 110 => ⟨S4x4, .f32⟩
  | 111 => ⟨S132x4x4x64x512, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1x4x4x64x512, .f32⟩
  | 119 => ⟨S4x4x64x512, .f32⟩
  | 120 => ⟨S_, .i32⟩
  | 121 => ⟨S_, .i32⟩
  | 122 => ⟨S_, .i32⟩
  | 123 => ⟨S_, .i32⟩
  | 124 => ⟨S1x4x4x64x512, .f32⟩
  | 125 => ⟨S4x4x64x512, .f32⟩
  | 126 => ⟨S_, .i32⟩
  | 127 => ⟨S_, .i32⟩
  | _ => ⟨S16896x2048, .bf16⟩

abbrev hbmTy0_1 (i : Nat) : BufTy := match i % 128 with
  | 0 => ⟨S_, .i32⟩
  | 1 => ⟨S_, .i32⟩
  | 2 => ⟨S1x4x4x64x512, .f32⟩
  | 3 => ⟨S4x4x64x512, .f32⟩
  | 4 => ⟨S_, .i32⟩
  | 5 => ⟨S_, .i32⟩
  | 6 => ⟨S_, .i32⟩
  | 7 => ⟨S1x4x4x64, .f32⟩
  | 8 => ⟨S4x4x64, .f32⟩
  | 9 => ⟨S_, .i32⟩
  | 10 => ⟨S_, .i32⟩
  | 11 => ⟨S_, .i32⟩
  | 12 => ⟨S1x4x4x64, .f32⟩
  | 13 => ⟨S4x4x64, .f32⟩
  | 14 => ⟨S_, .f32⟩
  | 15 => ⟨S_, .f32⟩
  | 16 => ⟨S4x4x64, .f32⟩
  | 17 => ⟨S4x4x64x1, .f32⟩
  | 18 => ⟨S4x4x1x64, .f32⟩
  | 19 => ⟨S4x4x64x64, .f32⟩
  | 20 => ⟨S4x4x64x64, .f32⟩
  | 21 => ⟨S4x4x64x64, .f32⟩
  | 22 => ⟨S4x4x1x64, .f32⟩
  | 23 => ⟨S4x4x64x64, .f32⟩
  | 24 => ⟨S4x4x64x64, .f32⟩
  | 25 => ⟨S_, .f32⟩
  | 26 => ⟨S_, .f32⟩
  | 27 => ⟨S4x4x64x64, .i1⟩
  | 28 => ⟨S4x4x64x64, .f32⟩
  | 29 => ⟨S4x4x64x64, .f32⟩
  | 30 => ⟨S4x4x1, .f32⟩
  | 31 => ⟨S4x4x64, .f32⟩
  | 32 => ⟨S4x4x64, .f32⟩
  | 33 => ⟨S_, .f32⟩
  | 34 => ⟨S4x4x64, .f32⟩
  | 35 => ⟨S4x4x64, .f32⟩
  | 36 => ⟨S4x4x64x64, .f32⟩
  | 37 => ⟨S4x4x64x1, .f32⟩
  | 38 => ⟨S4x4x64x64, .f32⟩
  | 39 => ⟨S4x4x64x64, .f32⟩
  | 40 => ⟨S4x4x64x64, .f32⟩
  | 41 => ⟨S4x4x64x64, .f32⟩
  | 42 => ⟨S4x4x64, .f32⟩
  | 43 => ⟨S4x4x64, .f32⟩
  | 44 => ⟨S4x4x64x512, .f32⟩
  | 45 => ⟨S4x4x64x1, .f32⟩
  | 46 => ⟨S4x4x64x512, .f32⟩
  | 47 => ⟨S4x4x64x512, .f32⟩
  | 48 => ⟨S4x4x64x512, .f32⟩
  | 49 => ⟨S4x4x64x512, .f32⟩
  | 50 => ⟨S_, .f32⟩
  | 51 => ⟨S4x4x64, .f32⟩
  | 52 => ⟨S4x4x64, .f32⟩
  | 53 => ⟨S4x4x64, .f32⟩
  | 54 => ⟨S4x4x64, .f32⟩
  | 55 => ⟨S4x4x64, .f32⟩
  | 56 => ⟨S4x4x64, .f32⟩
  | 57 => ⟨S4x4x64, .f32⟩
  | 58 => ⟨S4x4x64, .f32⟩
  | 59 => ⟨S4x4x64x1, .f32⟩
  | 60 => ⟨S4x4x64x512, .f32⟩
  | 61 => ⟨S4x4x64x512, .f32⟩
  | 62 => ⟨S4x4x1, .f32⟩
  | 63 => ⟨S4x4, .f32⟩
  | 64 => ⟨S4x4x1, .f32⟩
  | 65 => ⟨S4x4x64, .f32⟩
  | 66 => ⟨S4x4x64, .f32⟩
  | 67 => ⟨S4x4x64, .f32⟩
  | 68 => ⟨S4x4, .f32⟩
  | 69 => ⟨S_, .f32⟩
  | 70 => ⟨S4x4, .f32⟩
  | 71 => ⟨S4x4, .f32⟩
  | 72 => ⟨S4x4x1, .f32⟩
  | 73 => ⟨S4x4x64, .f32⟩
  | 74 => ⟨S4x4x64, .f32⟩
  | 75 => ⟨S4x4x64, .f32⟩
  | 76 => ⟨S4x4, .f32⟩
  | 77 => ⟨S4x4, .f32⟩
  | 78 => ⟨S4x4, .f32⟩
  | 79 => ⟨S4x4x1x1, .f32⟩
  | 80 => ⟨S4x4x512x512, .f32⟩
  | 81 => ⟨S4x4x512x512, .f32⟩
  | 82 => ⟨S4x4x64x1, .f32⟩
  | 83 => ⟨S4x4x64x512, .f32⟩
  | 84 => ⟨S4x4x64x512, .f32⟩
  | 85 => ⟨S4x4x512x512, .f32⟩
  | 86 => ⟨S4x4x512x512, .f32⟩
  | 87 => ⟨S4x4x1, .f32⟩
  | 88 => ⟨S4x4x512, .f32⟩
  | 89 => ⟨S4x4x512, .f32⟩
  | 90 => ⟨S4x4x512, .f32⟩
  | 91 => ⟨S4x4x512, .f32⟩
  | 92 => ⟨S1x4x4x64x512, .f32⟩
  | 93 => ⟨S_, .i32⟩
  | 94 => ⟨S_, .i32⟩
  | 95 => ⟨S_, .i32⟩
  | 96 => ⟨S_, .i32⟩
  | 97 => ⟨S132x4x4x64x512, .f32⟩
  | 98 => ⟨S_, .i32⟩
  | 99 => ⟨S_, .i32⟩
  | 100 => ⟨S4x4x132x64x512, .f32⟩
  | 101 => ⟨S4x4x8448x512, .f32⟩
  | 102 => ⟨S4x8448x4x512, .f32⟩
  | 103 => ⟨S4x8448x2048, .f32⟩
  | 104 => ⟨S2x8448x2048, .f32⟩
  | 105 => ⟨S2x8448x2048, .f32⟩
  | 106 => ⟨S2x256x2048, .f32⟩
  | 107 => ⟨S2x8192x2048, .f32⟩
  | 108 => ⟨S16384x2048, .f32⟩
  | 109 => ⟨S512x2048, .f32⟩
  | 110 => ⟨S16896x2048, .f32⟩
  | 111 => ⟨S16896x2048, .bf16⟩
  | 112 => ⟨S2x256x2048, .f32⟩
  | 113 => ⟨S2x256x2048, .f32⟩
  | 114 => ⟨S2x8192x2048, .f32⟩
  | 115 => ⟨S2x8192x2048, .f32⟩
  | 116 => ⟨S16384x2048, .f32⟩
  | 117 => ⟨S512x2048, .f32⟩
  | 118 => ⟨S16896x2048, .f32⟩
  | 119 => ⟨S16896x2048, .bf16⟩
  | _ => ⟨S16896x2048, .bf16⟩

abbrev hbmTy (i : Nat) : BufTy := match i / 128 with
  | 0 => hbmTy0_0 i
  | 1 => hbmTy0_1 i
  | _ => ⟨S16896x2048, .bf16⟩

abbrev bufTy : (tb : Table) → Fin (tcTables nBuf tb) → BufTy
  | .hbm, ⟨i, _⟩ => hbmTy i
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call2_cst : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c : Ref sig .tc := ⟨.hbm, 77, rfl⟩
abbrev main_v57 : Ref sig .tc := ⟨.hbm, 78, rfl⟩
abbrev main_call9_v0 : Ref sig .tc := ⟨.hbm, 79, rfl⟩
abbrev main_call9_c : Ref sig .tc := ⟨.hbm, 80, rfl⟩
abbrev main_call9_v1 : Ref sig .tc := ⟨.hbm, 81, rfl⟩
abbrev main_call9_v2 : Ref sig .tc := ⟨.hbm, 82, rfl⟩
abbrev main_call9_v3 : Ref sig .tc := ⟨.hbm, 83, rfl⟩
abbrev main_call9_v4 : Ref sig .tc := ⟨.hbm, 84, rfl⟩
abbrev main_call9_c_0 : Ref sig .tc := ⟨.hbm, 85, rfl⟩
abbrev main_call9_v5 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_2 : Ref sig .tc := ⟨.hbm, 98, rfl⟩
abbrev main_v69 : Ref sig .tc := ⟨.hbm, 99, rfl⟩
abbrev main_c_3 : Ref sig .tc := ⟨.hbm, 100, rfl⟩
abbrev main_v70_0 : Ref sig .tc := ⟨.hbm, 101, rfl⟩
abbrev main_v70_1 : Ref sig .tc := ⟨.hbm, 102, rfl⟩
abbrev main_v70_2 : Ref sig .tc := ⟨.hbm, 103, rfl⟩
abbrev main_v70_3 : Ref sig .tc := ⟨.hbm, 104, rfl⟩
abbrev main_v70_4 : Ref sig .tc := ⟨.hbm, 105, rfl⟩
abbrev main_v70_5 : Ref sig .tc := ⟨.hbm, 106, rfl⟩
abbrev main_v70_6 : Ref sig .tc := ⟨.hbm, 107, rfl⟩
abbrev main_v70_7 : Ref sig .tc := ⟨.hbm, 108, rfl⟩
abbrev main_v70_8 : Ref sig .tc := ⟨.hbm, 109, rfl⟩
abbrev main_v70_9 : Ref sig .tc := ⟨.hbm, 110, rfl⟩
abbrev main_v70_10 : Ref sig .tc := ⟨.hbm, 111, rfl⟩
abbrev main_while0c_c_14 : Ref sig .tc := ⟨.hbm, 112, rfl⟩
abbrev main_while0c_v91 : Ref sig .tc := ⟨.hbm, 113, rfl⟩
abbrev main_while0b_call10_c : Ref sig .tc := ⟨.hbm, 114, rfl⟩
abbrev main_while0b_call10_c_0 : Ref sig .tc := ⟨.hbm, 115, rfl⟩
abbrev main_while0b_call10_c_1 : Ref sig .tc := ⟨.hbm, 116, rfl⟩
abbrev main_while0b_call10_c_2 : Ref sig .tc := ⟨.hbm, 117, rfl⟩
abbrev main_while0b_call10_v0 : Ref sig .tc := ⟨.hbm, 118, rfl⟩
abbrev main_while0b_v91 : Ref sig .tc := ⟨.hbm, 119, rfl⟩
abbrev main_while0b_call11_c : Ref sig .tc := ⟨.hbm, 120, rfl⟩
abbrev main_while0b_call11_c_0 : Ref sig .tc := ⟨.hbm, 121, rfl⟩
abbrev main_while0b_call11_c_1 : Ref sig .tc := ⟨.hbm, 122, rfl⟩
abbrev main_while0b_call11_c_2 : Ref sig .tc := ⟨.hbm, 123, rfl⟩
abbrev main_while0b_call11_v0 : Ref sig .tc := ⟨.hbm, 124, rfl⟩
abbrev main_while0b_v92 : Ref sig .tc := ⟨.hbm, 125, rfl⟩
abbrev main_while0b_call12_c : Ref sig .tc := ⟨.hbm, 126, rfl⟩
abbrev main_while0b_call12_c_0 : Ref sig .tc := ⟨.hbm, 127, rfl⟩
abbrev main_while0b_call12_c_1 : Ref sig .tc := ⟨.hbm, 128, rfl⟩
abbrev main_while0b_call12_c_2 : Ref sig .tc := ⟨.hbm, 129, rfl⟩
abbrev main_while0b_call12_v0 : Ref sig .tc := ⟨.hbm, 130, rfl⟩
abbrev main_while0b_v93 : Ref sig .tc := ⟨.hbm, 131, rfl⟩
abbrev main_while0b_call13_c : Ref sig .tc := ⟨.hbm, 132, rfl⟩
abbrev main_while0b_call13_c_0 : Ref sig .tc := ⟨.hbm, 133, rfl⟩
abbrev main_while0b_call13_c_1 : Ref sig .tc := ⟨.hbm, 134, rfl⟩
abbrev main_while0b_call13_v0 : Ref sig .tc := ⟨.hbm, 135, rfl⟩
abbrev main_while0b_v94 : Ref sig .tc := ⟨.hbm, 136, rfl⟩
abbrev main_while0b_call14_c : Ref sig .tc := ⟨.hbm, 137, rfl⟩
abbrev main_while0b_call14_c_0 : Ref sig .tc := ⟨.hbm, 138, rfl⟩
abbrev main_while0b_call14_c_1 : Ref sig .tc := ⟨.hbm, 139, rfl⟩
abbrev main_while0b_call14_v0 : Ref sig .tc := ⟨.hbm, 140, rfl⟩
abbrev main_while0b_v95 : Ref sig .tc := ⟨.hbm, 141, rfl⟩
abbrev main_while0b_call15_call0_cst : Ref sig .tc := ⟨.hbm, 142, rfl⟩
abbrev main_while0b_call15_call0_v0 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_cst_14 : Ref sig .tc := ⟨.hbm, 153, rfl⟩
abbrev main_while0b_call16_v0 : Ref sig .tc := ⟨.hbm, 154, rfl⟩
abbrev main_while0b_call16_v1 : Ref sig .tc := ⟨.hbm, 155, rfl⟩
abbrev main_while0b_call16_v2 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_cst_15 : Ref sig .tc := ⟨.hbm, 161, rfl⟩
abbrev main_while0b_v109 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_v119 : Ref sig .tc := ⟨.hbm, 172, rfl⟩
abbrev main_while0b_v120 : Ref sig .tc := ⟨.hbm, 173, rfl⟩
abbrev main_while0b_v121 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_cst_16 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_v141 : Ref sig .tc := ⟨.hbm, 195, rfl⟩
abbrev main_while0b_v142 : Ref sig .tc := ⟨.hbm, 196, rfl⟩
abbrev main_while0b_cst_17 : Ref sig .tc := ⟨.hbm, 197, rfl⟩
abbrev main_while0b_v143 : Ref sig .tc := ⟨.hbm, 198, rfl⟩
abbrev main_while0b_v144 : Ref sig .tc := ⟨.hbm, 199, rfl⟩
abbrev main_while0b_v145 : Ref sig .tc := ⟨.hbm, 200, rfl⟩
abbrev main_while0b_v146 : Ref sig .tc := ⟨.hbm, 201, rfl⟩
abbrev main_while0b_v147 : Ref sig .tc := ⟨.hbm, 202, rfl⟩
abbrev main_while0b_v148 : Ref sig .tc := ⟨.hbm, 203, rfl⟩
abbrev main_while0b_v149 : Ref sig .tc := ⟨.hbm, 204, rfl⟩
abbrev main_while0b_v150 : Ref sig .tc := ⟨.hbm, 205, rfl⟩
abbrev main_while0b_v151 : Ref sig .tc := ⟨.hbm, 206, rfl⟩
abbrev main_while0b_v152 : Ref sig .tc := ⟨.hbm, 207, rfl⟩
abbrev main_while0b_v153 : Ref sig .tc := ⟨.hbm, 208, rfl⟩
abbrev main_while0b_v154 : Ref sig .tc := ⟨.hbm, 209, rfl⟩
abbrev main_while0b_v155 : Ref sig .tc := ⟨.hbm, 210, rfl⟩
abbrev main_while0b_v156 : Ref sig .tc := ⟨.hbm, 211, rfl⟩
abbrev main_while0b_v157 : Ref sig .tc := ⟨.hbm, 212, rfl⟩
abbrev main_while0b_v158 : Ref sig .tc := ⟨.hbm, 213, rfl⟩
abbrev main_while0b_v159 : Ref sig .tc := ⟨.hbm, 214, rfl⟩
abbrev main_while0b_v160 : Ref sig .tc := ⟨.hbm, 215, rfl⟩
abbrev main_while0b_v161 : Ref sig .tc := ⟨.hbm, 216, rfl⟩
abbrev main_while0b_v162 : Ref sig .tc := ⟨.hbm, 217, rfl⟩
abbrev main_while0b_v163 : Ref sig .tc := ⟨.hbm, 218, rfl⟩
abbrev main_while0b_v164 : Ref sig .tc := ⟨.hbm, 219, rfl⟩
abbrev main_while0b_call17_v0 : Ref sig .tc := ⟨.hbm, 220, rfl⟩
abbrev main_while0b_call17_c : Ref sig .tc := ⟨.hbm, 221, rfl⟩
abbrev main_while0b_call17_c_0 : Ref sig .tc := ⟨.hbm, 222, rfl⟩
abbrev main_while0b_call17_c_1 : Ref sig .tc := ⟨.hbm, 223, rfl⟩
abbrev main_while0b_call17_c_2 : Ref sig .tc := ⟨.hbm, 224, rfl⟩
abbrev main_while0b_v165 : Ref sig .tc := ⟨.hbm, 225, rfl⟩
abbrev main_while0b_c_18 : Ref sig .tc := ⟨.hbm, 226, rfl⟩
abbrev main_while0b_v166 : Ref sig .tc := ⟨.hbm, 227, rfl⟩
abbrev main_v71 : Ref sig .tc := ⟨.hbm, 228, rfl⟩
abbrev main_v72 : Ref sig .tc := ⟨.hbm, 229, rfl⟩
abbrev main_v73 : Ref sig .tc := ⟨.hbm, 230, rfl⟩
abbrev main_v74 : Ref sig .tc := ⟨.hbm, 231, rfl⟩
abbrev main_v75 : Ref sig .tc := ⟨.hbm, 232, rfl⟩
abbrev main_v76 : Ref sig .tc := ⟨.hbm, 233, rfl⟩
abbrev main_v77 : Ref sig .tc := ⟨.hbm, 234, rfl⟩
abbrev main_v78 : Ref sig .tc := ⟨.hbm, 235, rfl⟩
abbrev main_v79 : Ref sig .tc := ⟨.hbm, 236, rfl⟩
abbrev main_v80 : Ref sig .tc := ⟨.hbm, 237, rfl⟩
abbrev main_v81 : Ref sig .tc := ⟨.hbm, 238, rfl⟩
abbrev main_v82 : Ref sig .tc := ⟨.hbm, 239, rfl⟩
abbrev main_v83 : Ref sig .tc := ⟨.hbm, 240, rfl⟩
abbrev main_v84 : Ref sig .tc := ⟨.hbm, 241, rfl⟩
abbrev main_v85 : Ref sig .tc := ⟨.hbm, 242, rfl⟩
abbrev main_v86 : Ref sig .tc := ⟨.hbm, 243, rfl⟩
abbrev main_v87 : Ref sig .tc := ⟨.hbm, 244, rfl⟩
abbrev main_v88 : Ref sig .tc := ⟨.hbm, 245, rfl⟩
abbrev main_v89 : Ref sig .tc := ⟨.hbm, 246, rfl⟩
abbrev main_v90 : Ref sig .tc := ⟨.hbm, 247, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S16896x1024 : Shape := ⟨2, ![16896, 1024]⟩
abbrev S8x9x1024 : Shape := ⟨3, ![8, 9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16896x1024, .f32⟩
  | .hbm, ⟨1, _⟩ => ⟨S8x9x1024, .f32⟩
  | .hbm, ⟨2, _⟩ => ⟨S6x1024, .f32⟩
  | .hbm, ⟨3, _⟩ => ⟨S4x2x1024x5632, .bf16⟩
  | .hbm, ⟨4, _⟩ => ⟨S4x2x2816x1024, .bf16⟩
  | .hbm, ⟨5, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16896x1024 : Shape := ⟨2, ![16896, 1024]⟩
abbrev S8x9x1024 : Shape := ⟨3, ![8, 9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S1024 : Shape := ⟨1, ![1024]⟩
abbrev S2x1x1024 : Shape := ⟨3, ![2, 1, 1024]⟩
abbrev S2x1024 : Shape := ⟨2, ![2, 1024]⟩
abbrev S2x8192x1024 : Shape := ⟨3, ![2, 8192, 1024]⟩
abbrev S16384x1024 : Shape := ⟨2, ![16384, 1024]⟩
abbrev S1x1x1024 : Shape := ⟨3, ![1, 1, 1024]⟩
abbrev S512x1024 : Shape := ⟨2, ![512, 1024]⟩
abbrev S_ : Shape := ⟨0, ![]⟩
abbrev S16896 : Shape := ⟨1, ![16896]⟩
abbrev S16896x1 : Shape := ⟨2, ![16896, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16896x5632 : Shape := ⟨2, ![16896, 5632]⟩
abbrev S16896x2816 : Shape := ⟨2, ![16896, 2816]⟩

abbrev nBuf : Space → Nat
  | .hbm => 98
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x9x1024, .f32⟩
  | .hbm, ⟨2, _⟩ => ⟨S6x1024, .f32⟩
  | .hbm, ⟨3, _⟩ => ⟨S4x2x1024x5632, .bf16⟩
  | .hbm, ⟨4, _⟩ => ⟨S4x2x2816x1024, .bf16⟩
  | .hbm, ⟨5, _⟩ => ⟨S1x1024, .f32⟩
  | .hbm, ⟨6, _⟩ => ⟨S1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x8192x1024, .f32⟩
  | .hbm, ⟨11, _⟩ => ⟨S16384x1024, .f32⟩
  | .hbm, ⟨12, _⟩ => ⟨S1x1x1024, .f32⟩
  | .hbm, ⟨13, _⟩ => ⟨S1024, .f32⟩
  | .hbm, ⟨14, _⟩ => ⟨S512x1024, .f32⟩
  | .hbm, ⟨15, _⟩ => ⟨S16896x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x8192x1024, .f32⟩
  | .hbm, ⟨20, _⟩ => ⟨S16384x1024, .f32⟩
  | .hbm, ⟨21, _⟩ => ⟨S1x1x1024, .f32⟩
  | .hbm, ⟨22, _⟩ => ⟨S1024, .f32⟩
  | .hbm, ⟨23, _⟩ => ⟨S512x1024, .f32⟩
  | .hbm, ⟨24, _⟩ => ⟨S16896x1024, .f32⟩
  | .hbm, ⟨25, _⟩ => ⟨S16896x1024, .f32⟩
  | .hbm, ⟨26, _⟩ => ⟨S_, .f32⟩
  | .hbm, ⟨27, _⟩ => ⟨S16896, .f32⟩
  | .hbm, ⟨28, _⟩ => ⟨S16896x1, .f32⟩
  | .hbm, ⟨29, _⟩ => ⟨S_, .f32⟩
  | .hbm, ⟨30, _⟩ => ⟨S16896x1, .f32⟩
  | .hbm, ⟨31, _⟩ => ⟨S16896x1, .f32⟩
  | .hbm, ⟨32, _⟩ => ⟨S_, .f32⟩
  | .hbm, ⟨33, _⟩ => ⟨S16896x1, .f32⟩
  | .hbm, ⟨34, _⟩ => ⟨S16896x1, .f32⟩
  | .hbm, ⟨35, _⟩ => ⟨S16896x1, .f32⟩
  | .hbm, ⟨36, _⟩ => ⟨S16896x1024, .f32⟩
  | .hbm, ⟨37, _⟩ => ⟨S16896x1024, .f32⟩
  | .hbm, ⟨38, _⟩ => ⟨S1x1024, .f32⟩
  | .hbm, ⟨39, _⟩ => ⟨S16896x1024, .f32⟩
  | .hbm, ⟨40, _⟩ => ⟨S16896x1024, .f32⟩
  | .hbm, ⟨41, _⟩ => ⟨S_, .f32⟩
  | .hbm, ⟨42, _⟩ => ⟨S16896x1024, .f32⟩
  | .hbm, ⟨43, _⟩ => ⟨S16896x1024, .f32⟩
  | .hbm, ⟨44, _⟩ => ⟨S16896x1024, .f32⟩
  | .hbm, ⟨45, _⟩ => ⟨S16896x1024, .f32⟩
  | .hbm, ⟨46, _⟩ => ⟨S1x1x1024x5632, .bf16⟩
  | .hbm, ⟨47, _⟩ => ⟨S1024x5632, .bf16⟩
  | .hbm, ⟨48, _⟩ => ⟨S1024x5632, .f32⟩
  | .hbm, ⟨49, _⟩ => ⟨S1x1x2816x1024, .bf16⟩
  | .hbm, ⟨50, _⟩ => ⟨S2816x1024, .bf16⟩
  | .hbm, ⟨51, _⟩ => ⟨S2816x1024, .f32⟩
  | .hbm, ⟨52, _⟩ => ⟨S16896x5632, .f32⟩
  | .hbm, ⟨53, _⟩ => ⟨S16896x2816, .f32⟩
  | .hbm, ⟨54, _⟩ => ⟨S16896x2816, .f32⟩
  | .hbm, ⟨55, _⟩ => ⟨S16896x2816, .f32⟩
  | .hbm, ⟨56, _⟩ => ⟨S16896x2816, .f32⟩
  | .hbm, ⟨57, _⟩ => ⟨S_, .f32⟩
  | .hbm, ⟨58, _⟩ => ⟨S16896x2816, .f32⟩
  | .hbm, ⟨59, _⟩ => ⟨S16896x2816, .f32⟩
  | .hbm, ⟨60, _⟩ => ⟨S_, .f32⟩
  | .hbm, ⟨61, _⟩ => ⟨S16896x2816, .f32⟩
  | .hbm, ⟨62, _⟩ => ⟨S16896x2816, .f32⟩
  | .hbm, ⟨63, _⟩ => ⟨S16896x2816, .f32⟩
  | .hbm, ⟨64, _⟩ => ⟨S16896x2816, .f32⟩
  | .hbm, ⟨65, _⟩ => ⟨S16896x1024, .f32⟩
  | .hbm, ⟨66, _⟩ => ⟨S1x1024, .f32⟩
  | .hbm, ⟨67, _⟩ => ⟨S1024, .f32⟩
  | .hbm, ⟨68, _⟩ => ⟨S2x1x1024, .f32⟩
  | .hbm, ⟨69, _⟩ => ⟨S2x1024, .f32⟩
  | .hbm, ⟨70, _⟩ => ⟨S2x1x1024, .f32⟩
  | .hbm, ⟨71, _⟩ => ⟨S2x8192x1024, .f32⟩
  | .hbm, ⟨72, _⟩ => ⟨S16384x1024, .f32⟩
  | .hbm, ⟨73, _⟩ => ⟨S1x1x1024, .f32⟩
  | .hbm, ⟨74, _⟩ => ⟨S1024, .f32⟩
  | .hbm, ⟨75, _⟩ => ⟨S512x1024, .f32⟩
  | .hbm, ⟨76, _⟩ => ⟨S16896x1024, .f32⟩
  | .hbm, ⟨77, _⟩ => ⟨S_, .f32⟩
  | .hbm, ⟨78, _⟩ => ⟨S16896x1024, .f32⟩
  | .hbm, ⟨79, _⟩ => ⟨S16896x1024, .f32⟩
  | .hbm, ⟨80, _⟩ => ⟨S16896x1024, .f32⟩
  | .hbm, ⟨81, _⟩ => ⟨S_, .f32⟩
  | .hbm, ⟨82, _⟩ => ⟨S16896, .f32⟩
  | .hbm, ⟨83, _⟩ => ⟨S16896x1, .f32⟩
  | .hbm, ⟨84, _⟩ => ⟨S_, .f32⟩
  | .hbm, ⟨85, _⟩ => ⟨S16896x1, .f32⟩
  | .hbm, ⟨86, _⟩ => ⟨S16896x1, .f32⟩
  | .hbm, ⟨87, _⟩ => ⟨S_, .f32⟩
  | .hbm, ⟨88, _⟩ => ⟨S16896x1, .f32⟩
  | .hbm, ⟨89, _⟩ => ⟨S16896x1, .f32⟩
  | .hbm, ⟨90, _⟩ => ⟨S16896x1, .f32⟩
  | .hbm, ⟨91, _⟩ => ⟨S16896x1024, .f32⟩
  | .hbm, ⟨92, _⟩ => ⟨S16896x1024, .f32⟩
  | .hbm, ⟨93, _⟩ => ⟨S1x1024, .f32⟩
  | .hbm, ⟨94, _⟩ => ⟨S16896x1024, .f32⟩
  | .hbm, ⟨95, _⟩ => ⟨S16896x1024, .f32⟩
  | .hbm, ⟨96, _⟩ => ⟨S16896x1024, .f32⟩
  | .hbm, ⟨97, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_4 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== Kernel3.lean ====
abbrev S16896x1024 : Shape := ⟨2, ![16896, 1024]⟩
abbrev S8x9x1024 : Shape := ⟨3, ![8, 9, 1024]⟩
abbrev S6x1024 : Shape := ⟨2, ![6, 1024]⟩
abbrev S2x1024x4096 : Shape := ⟨3, ![2, 1024, 4096]⟩
abbrev S16896x2048 : Shape := ⟨2, ![16896, 2048]⟩
abbrev S512x1024 : Shape := ⟨2, ![512, 1024]⟩
abbrev S1x9x1024 : Shape := ⟨3, ![1, 9, 1024]⟩
abbrev S1x1024x4096 : Shape := ⟨3, ![1, 1024, 4096]⟩
abbrev S512x2048 : Shape := ⟨2, ![512, 2048]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16896x1024, .f32⟩
  | .hbm, ⟨1, _⟩ => ⟨S8x9x1024, .f32⟩
  | .hbm, ⟨2, _⟩ => ⟨S6x1024, .f32⟩
  | .hbm, ⟨3, _⟩ => ⟨S2x1024x4096, .bf16⟩
  | .hbm, ⟨4, _⟩ => ⟨S16896x2048, .bf16⟩
  | .hbm, ⟨5, _⟩ => ⟨S16896x2048, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1x1024x4096, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16896x1024 : Shape := ⟨2, ![16896, 1024]⟩
abbrev S8x9x1024 : Shape := ⟨3, ![8, 9, 1024]⟩
abbrev S6x1024 : Shape := ⟨2, ![6, 1024]⟩
abbrev S2x1024x4096 : Shape := ⟨3, ![2, 1024, 4096]⟩
abbrev S1x1024 : Shape := ⟨2, ![1, 1024]⟩
abbrev S1024 : Shape := ⟨1, ![1024]⟩
abbrev S2x1x1024 : Shape := ⟨3, ![2, 1, 1024]⟩
abbrev S2x1024 : Shape := ⟨2, ![2, 1024]⟩
abbrev S2x8192x1024 : Shape := ⟨3, ![2, 8192, 1024]⟩
abbrev S16384x1024 : Shape := ⟨2, ![16384, 1024]⟩
abbrev S1x1x1024 : Shape := ⟨3, ![1, 1, 1024]⟩
abbrev S512x1024 : Shape := ⟨2, ![512, 1024]⟩
abbrev S_ : Shape := ⟨0, ![]⟩
abbrev S16896 : Shape := ⟨1, ![16896]⟩
abbrev S16896x1 : Shape := ⟨2, ![16896, 1]⟩
abbrev S1x1024x4096 : Shape := ⟨3, ![1, 1024, 4096]⟩
abbrev S1024x4096 : Shape := ⟨2, ![1024, 4096]⟩
abbrev S16896x4096 : Shape := ⟨2, ![16896, 4096]⟩
abbrev S16896x2048 : Shape := ⟨2, ![16896, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x9x1024, .f32⟩
  | .hbm, ⟨2, _⟩ => ⟨S6x1024, .f32⟩
  | .hbm, ⟨3, _⟩ => ⟨S2x1024x4096, .bf16⟩
  | .hbm, ⟨4, _⟩ => ⟨S1x1024, .f32⟩
  | .hbm, ⟨5, _⟩ => ⟨S1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x8192x1024, .f32⟩
  | .hbm, ⟨10, _⟩ => ⟨S16384x1024, .f32⟩
  | .hbm, ⟨11, _⟩ => ⟨S1x1x1024, .f32⟩
  | .hbm, ⟨12, _⟩ => ⟨S1024, .f32⟩
  | .hbm, ⟨13, _⟩ => ⟨S512x1024, .f32⟩
  | .hbm, ⟨14, _⟩ => ⟨S16896x1024, .f32⟩
  | .hbm, ⟨15, _⟩ => ⟨S2x1x1024, .f32⟩
  | .hbm, ⟨16, _⟩ => ⟨S2x1024, .f32⟩
  | .hbm, ⟨17, _⟩ => ⟨S2x1x1024, .f32⟩
  | .hbm, ⟨18, _⟩ => ⟨S2x8192x1024, .f32⟩
  | .hbm, ⟨19, _⟩ => ⟨S16384x1024, .f32⟩
  | .hbm, ⟨20, _⟩ => ⟨S1x1x1024, .f32⟩
  | .hbm, ⟨21, _⟩ => ⟨S1024, .f32⟩
  | .hbm, ⟨22, _⟩ => ⟨S512x1024, .f32⟩
  | .hbm, ⟨23, _⟩ => ⟨S16896x1024, .f32⟩
  | .hbm, ⟨24, _⟩ => ⟨S16896x1024, .f32⟩
  | .hbm, ⟨25, _⟩ => ⟨S_, .f32⟩
  | .hbm, ⟨26, _⟩ => ⟨S16896, .f32⟩
  | .hbm, ⟨27, _⟩ => ⟨S16896x1, .f32⟩
  | .hbm, ⟨28, _⟩ => ⟨S_, .f32⟩
  | .hbm, ⟨29, _⟩ => ⟨S16896x1, .f32⟩
  | .hbm, ⟨30, _⟩ => ⟨S16896x1, .f32⟩
  | .hbm, ⟨31, _⟩ => ⟨S_, .f32⟩
  | .hbm, ⟨32, _⟩ => ⟨S16896x1, .f32⟩
  | .hbm, ⟨33, _⟩ => ⟨S16896x1, .f32⟩
  | .hbm, ⟨34, _⟩ => ⟨S16896x1, .f32⟩
  | .hbm, ⟨35, _⟩ => ⟨S16896x1024, .f32⟩
  | .hbm, ⟨36, _⟩ => ⟨S16896x1024, .f32⟩
  | .hbm, ⟨37, _⟩ => ⟨S1x1024, .f32⟩
  | .hbm, ⟨38, _⟩ => ⟨S16896x1024, .f32⟩
  | .hbm, ⟨39, _⟩ => ⟨S16896x1024, .f32⟩
  | .hbm, ⟨40, _⟩ => ⟨S_, .f32⟩
  | .hbm, ⟨41, _⟩ => ⟨S16896x1024, .f32⟩
  | .hbm, ⟨42, _⟩ => ⟨S16896x1024, .f32⟩
  | .hbm, ⟨43, _⟩ => ⟨S16896x1024, .f32⟩
  | .hbm, ⟨44, _⟩ => ⟨S16896x1024, .f32⟩
  | .hbm, ⟨45, _⟩ => ⟨S1x1024x4096, .bf16⟩
  | .hbm, ⟨46, _⟩ => ⟨S1024x4096, .bf16⟩
  | .hbm, ⟨47, _⟩ => ⟨S1024x4096, .f32⟩
  | .hbm, ⟨48, _⟩ => ⟨S16896x4096, .f32⟩
  | .hbm, ⟨49, _⟩ => ⟨S16896x2048, .f32⟩
  | .hbm, ⟨50, _⟩ => ⟨S16896x2048, .f32⟩
  | .hbm, ⟨51, _⟩ => ⟨S16896x2048, .bf16⟩
  | .hbm, ⟨52, _⟩ => ⟨S16896x2048, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Kernel4.lean ====
abbrev S16896x2048 : Shape := ⟨2, ![16896, 2048]⟩
abbrev S16896x1024 : Shape := ⟨2, ![16896, 1024]⟩
abbrev S8x9x1024 : Shape := ⟨3, ![8, 9, 1024]⟩
abbrev S6x1024 : Shape := ⟨2, ![6, 1024]⟩
abbrev S2048 : Shape := ⟨1, ![2048]⟩
abbrev S2x2048x1024 : Shape := ⟨3, ![2, 2048, 1024]⟩
abbrev S1x2048 : Shape := ⟨2, ![1, 2048]⟩
abbrev S512x2048 : Shape := ⟨2, ![512, 2048]⟩
abbrev S512x1024 : Shape := ⟨2, ![512, 1024]⟩
abbrev S1x9x1024 : Shape := ⟨3, ![1, 9, 1024]⟩
abbrev S1x2048x1024 : Shape := ⟨3, ![1, 2048, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x512x1024 : Shape := ⟨3, ![1, 512, 1024]⟩
abbrev S1x1x1024 : Shape := ⟨3, ![1, 1, 1024]⟩
abbrev S1x1024 : Shape := ⟨2, ![1, 1024]⟩

abbrev nBuf : Space → Nat
  | .hbm => 13
  | .vmem => 19
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S16896x2048, .bf16⟩
  | .hbm, ⟨3, _⟩ => ⟨S16896x2048, .bf16⟩
  | .hbm, ⟨4, _⟩ => ⟨S16896x1024, .f32⟩
  | .hbm, ⟨5, _⟩ => ⟨S8x9x1024, .f32⟩
  | .hbm, ⟨6, _⟩ => ⟨S6x1024, .f32⟩
  | .hbm, ⟨7, _⟩ => ⟨S2048, .f32⟩
  | .hbm, ⟨8, _⟩ => ⟨S2048, .f32⟩
  | .hbm, ⟨9, _⟩ => ⟨S2x2048x1024, .bf16⟩
  | .hbm, ⟨10, _⟩ => ⟨S1x2048, .f32⟩
  | .hbm, ⟨11, _⟩ => ⟨S1x2048, .f32⟩
  | .hbm, ⟨12, _⟩ => ⟨S16896x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S1x9x1024, .f32⟩
  | .local _ .vmem, ⟨11, _⟩ => ⟨S1x9x1024, .f32⟩
  | .local _ .vmem, ⟨12, _⟩ => ⟨S6x1024, .f32⟩
  | .local _ .vmem, ⟨13, _⟩ => ⟨S1x2048, .f32⟩
  | .local _ .vmem, ⟨14, _⟩ => ⟨S1x2048, .f32⟩
  | .local _ .vmem, ⟨15, _⟩ => ⟨S1x2048x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16896x2048 : Shape := ⟨2, ![16896, 2048]⟩
abbrev S16896x1024 : Shape := ⟨2, ![16896, 1024]⟩
abbrev S8x9x1024 : Shape := ⟨3, ![8, 9, 1024]⟩
abbrev S6x1024 : Shape := ⟨2, ![6, 1024]⟩
abbrev S2048 : Shape := ⟨1, ![2048]⟩
abbrev S2x2048x1024 : Shape := ⟨3, ![2, 2048, 1024]⟩
abbrev S1x16896x4x512 : Shape := ⟨4, ![1, 16896, 4, 512]⟩
abbrev S1x4x16896x512 : Shape := ⟨4, ![1, 4, 16896, 512]⟩
abbrev S1x16896x2048 : Shape := ⟨3, ![1, 16896, 2048]⟩
abbrev S1x2048x1024 : Shape := ⟨3, ![1, 2048, 1024]⟩
abbrev S2048x1024 : Shape := ⟨2, ![2048, 1024]⟩
abbrev S_ : Shape := ⟨0, ![]⟩
abbrev S1x4x16896 : Shape := ⟨3, ![1, 4, 16896]⟩
abbrev S1x4x16896x1 : Shape := ⟨4, ![1, 4, 16896, 1]⟩
abbrev S1x1x2048 : Shape := ⟨3, ![1, 1, 2048]⟩
abbrev S1x16896x1024 : Shape := ⟨3, ![1, 16896, 1024]⟩
abbrev S1x1024 : Shape := ⟨2, ![1, 1024]⟩
abbrev S1024 : Shape := ⟨1, ![1024]⟩
abbrev S2x1x1024 : Shape := ⟨3, ![2, 1, 1024]⟩
abbrev S2x1024 : Shape := ⟨2, ![2, 1024]⟩
abbrev S2x8192x1024 : Shape := ⟨3, ![2, 8192, 1024]⟩
abbrev S16384x1024 : Shape := ⟨2, ![16384, 1024]⟩
abbrev S1x1x1024 : Shape := ⟨3, ![1, 1, 1024]⟩
abbrev S512x1024 : Shape := ⟨2, ![512, 1024]⟩
abbrev S16896 : Shape := ⟨1, ![16896]⟩
abbrev S16896x1 : Shape := ⟨2, ![16896, 1]⟩

abbrev nBuf : Space → Nat
  | .hbm => 98
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S16896x2048, .bf16⟩
  | .hbm, ⟨3, _⟩ => ⟨S16896x2048, .bf16⟩
  | .hbm, ⟨4, _⟩ => ⟨S16896x1024, .f32⟩
  | .hbm, ⟨5, _⟩ => ⟨S8x9x1024, .f32⟩
  | .hbm, ⟨6, _⟩ => ⟨S6x1024, .f32⟩
  | .hbm, ⟨7, _⟩ => ⟨S2048, .f32⟩
  | .hbm, ⟨8, _⟩ => ⟨S2048, .f32⟩
  | .hbm, ⟨9, _⟩ => ⟨S2x2048x1024, .bf16⟩
  | .hbm, ⟨10, _⟩ => ⟨S16896x2048, .f32⟩
  | .hbm, ⟨11, _⟩ => ⟨S16896x2048, .f32⟩
  | .hbm, ⟨12, _⟩ => ⟨S16896x2048, .f32⟩
  | .hbm, ⟨13, _⟩ => ⟨S1x16896x4x512, .f32⟩
  | .hbm, ⟨14, _⟩ => ⟨S1x4x16896x512, .f32⟩
  | .hbm, ⟨15, _⟩ => ⟨S1x16896x2048, .bf16⟩
  | .hbm, ⟨16, _⟩ => ⟨S1x16896x2048, .f32⟩
  | .hbm, ⟨17, _⟩ => ⟨S1x16896x2048, .bf16⟩
  | .hbm, ⟨18, _⟩ => ⟨S1x16896x2048, .f32⟩
  | .hbm, ⟨19, _⟩ => ⟨S1x2048x1024, .bf16⟩
  | .hbm, ⟨20, _⟩ => ⟨S2048x1024, .bf16⟩
  | .hbm, ⟨21, _⟩ => ⟨S2048x1024, .f32⟩
  | .hbm, ⟨22, _⟩ => ⟨S_, .f32⟩
  | .hbm, ⟨23, _⟩ => ⟨S1x4x16896, .f32⟩
  | .hbm, ⟨24, _⟩ => ⟨S1x4x16896x1, .f32⟩
  | .hbm, ⟨25, _⟩ => ⟨S_, .f32⟩
  | .hbm, ⟨26, _⟩ => ⟨S1x4x16896x1, .f32⟩
  | .hbm, ⟨27, _⟩ => ⟨S1x4x16896x1, .f32⟩
  | .hbm, ⟨28, _⟩ => ⟨S1x4x16896x512, .f32⟩
  | .hbm, ⟨29, _⟩ => ⟨S1x4x16896x512, .f32⟩
  | .hbm, ⟨30, _⟩ => ⟨S1x4x16896x512, .f32⟩
  | .hbm, ⟨31, _⟩ => ⟨S_, .f32⟩
  | .hbm, ⟨32, _⟩ => ⟨S1x4x16896, .f32⟩
  | .hbm, ⟨33, _⟩ => ⟨S1x4x16896x1, .f32⟩
  | .hbm, ⟨34, _⟩ => ⟨S_, .f32⟩
  | .hbm, ⟨35, _⟩ => ⟨S1x4x16896x1, .f32⟩
  | .hbm, ⟨36, _⟩ => ⟨S1x4x16896x1, .f32⟩
  | .hbm, ⟨37, _⟩ => ⟨S1x4x16896x512, .f32⟩
  | .hbm, ⟨38, _⟩ => ⟨S1x4x16896x512, .f32⟩
  | .hbm, ⟨39, _⟩ => ⟨S_, .f32⟩
  | .hbm, ⟨40, _⟩ => ⟨S1x4x16896x1, .f32⟩
  | .hbm, ⟨41, _⟩ => ⟨S1x4x16896x1, .f32⟩
  | .hbm, ⟨42, _⟩ => ⟨S1x4x16896x1, .f32⟩
  | .hbm, ⟨43, _⟩ => ⟨S1x4x16896x512, .f32⟩
  | .hbm, ⟨44, _⟩ => ⟨S1x4x16896x512, .f32⟩
  | .hbm, ⟨45, _⟩ => ⟨S1x16896x4x512, .f32⟩
  | .hbm, ⟨46, _⟩ => ⟨S1x16896x2048, .f32⟩
  | .hbm, ⟨47, _⟩ => ⟨S1x1x2048, .f32⟩
  | .hbm, ⟨48, _⟩ => ⟨S1x16896x2048, .f32⟩
  | .hbm, ⟨49, _⟩ => ⟨S1x16896x2048, .f32⟩
  | .hbm, ⟨50, _⟩ => ⟨S1x1x2048, .f32⟩
  | .hbm, ⟨51, _⟩ => ⟨S1x16896x2048, .f32⟩
  | .hbm, ⟨52, _⟩ => ⟨S1x16896x2048, .f32⟩
  | .hbm, ⟨53, _⟩ => ⟨S1x16896x2048, .f32⟩
  | .hbm, ⟨54, _⟩ => ⟨S1x16896x2048, .f32⟩
  | .hbm, ⟨55, _⟩ => ⟨S1x16896x2048, .f32⟩
  | .hbm, ⟨56, _⟩ => ⟨S_, .f32⟩
  | .hbm, ⟨57, _⟩ => ⟨S1x16896x2048, .f32⟩
  | .hbm, ⟨58, _⟩ => ⟨S1x16896x2048, .f32⟩
  | .hbm, ⟨59, _⟩ => ⟨S_, .f32⟩
  | .hbm, ⟨60, _⟩ => ⟨S1x16896x2048, .f32⟩
  | .hbm, ⟨61, _⟩ => ⟨S1x16896x2048, .f32⟩
  | .hbm, ⟨62, _⟩ => ⟨S1x16896x2048, .f32⟩
  | .hbm, ⟨63, _⟩ => ⟨S1x16896x2048, .f32⟩
  | .hbm, ⟨64, _⟩ => ⟨S1x16896x1024, .f32⟩
  | .hbm, ⟨65, _⟩ => ⟨S16896x1024, .f32⟩
  | .hbm, ⟨66, _⟩ => ⟨S1x1024, .f32⟩
  | .hbm, ⟨67, _⟩ => ⟨S1024, .f32⟩
  | .hbm, ⟨68, _⟩ => ⟨S2x1x1024, .f32⟩
  | .hbm, ⟨69, _⟩ => ⟨S2x1024, .f32⟩
  | .hbm, ⟨70, _⟩ => ⟨S2x1x1024, .f32⟩
  | .hbm, ⟨71, _⟩ => ⟨S2x8192x1024, .f32⟩
  | .hbm, ⟨72, _⟩ => ⟨S16384x1024, .f32⟩
  | .hbm, ⟨73, _⟩ => ⟨S1x1x1024, .f32⟩
  | .hbm, ⟨74, _⟩ => ⟨S1024, .f32⟩
  | .hbm, ⟨75, _⟩ => ⟨S512x1024, .f32⟩
  | .hbm, ⟨76, _⟩ => ⟨S16896x1024, .f32⟩
  | .hbm, ⟨77, _⟩ => ⟨S_, .f32⟩
  | .hbm, ⟨78, _⟩ => ⟨S16896x1024, .f32⟩
  | .hbm, ⟨79, _⟩ => ⟨S16896x1024, .f32⟩
  | .hbm, ⟨80, _⟩ => ⟨S16896x1024, .f32⟩
  | .hbm, ⟨81, _⟩ => ⟨S_, .f32⟩
  | .hbm, ⟨82, _⟩ => ⟨S16896, .f32⟩
  | .hbm, ⟨83, _⟩ => ⟨S16896x1, .f32⟩
  | .hbm, ⟨84, _⟩ => ⟨S_, .f32⟩
  | .hbm, ⟨85, _⟩ => ⟨S16896x1, .f32⟩
  | .hbm, ⟨86, _⟩ => ⟨S16896x1, .f32⟩
  | .hbm, ⟨87, _⟩ => ⟨S_, .f32⟩
  | .hbm, ⟨88, _⟩ => ⟨S16896x1, .f32⟩
  | .hbm, ⟨89, _⟩ => ⟨S16896x1, .f32⟩
  | .hbm, ⟨90, _⟩ => ⟨S16896x1, .f32⟩
  | .hbm, ⟨91, _⟩ => ⟨S16896x1024, .f32⟩
  | .hbm, ⟨92, _⟩ => ⟨S16896x1024, .f32⟩
  | .hbm, ⟨93, _⟩ => ⟨S1x1024, .f32⟩
  | .hbm, ⟨94, _⟩ => ⟨S16896x1024, .f32⟩
  | .hbm, ⟨95, _⟩ => ⟨S16896x1024, .f32⟩
  | .hbm, ⟨96, _⟩ => ⟨S16896x1024, .f32⟩
  | .hbm, ⟨97, _⟩ => ⟨S16896x1024, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Proof.Scan.Recurrence.lean ====
/-
  The matrix LSTM as a recurrence over the reals, one token at a time, and what a whole chunk of tokens does to it in
  closed form. Both programs compute chunk by chunk, with chunks of different lengths, so each is compared with this
  recurrence rather than with the other.
-/
module

public import Idealize.ShloMosaic.Lib.Pointwise

@[expose] public section

noncomputable section

namespace Cert.Scan

/-- The tokens of one chain (one direction, one batch, one head), in the order in which the chain visits them: the
    query, key and value vectors, the input gate and the log of the forget gate. -/
structure Tokens where
  q : ℕ → Fin 512 → ℝ
  k : ℕ → Fin 512 → ℝ
  v : ℕ → Fin 512 → ℝ
  i : ℕ → ℝ
  f : ℕ → ℝ

namespace Tokens

variable (x : Tokens)

/-- The stabilizer before token `n`. -/
def m : ℕ → ℝ
  | 0 => 0
  | n + 1 => max (x.f n + m n) (x.i n)

/-- The matrix memory before token `n`, indexed by key coordinate and value coordinate. -/
def C : ℕ → Fin 512 → Fin 512 → ℝ
  | 0 => fun _ _ => 0
  | n + 1 => fun a b => Real.exp (x.f n + x.m n - x.m (n + 1)) * C n a b
      + Real.exp (x.i n - x.m (n + 1)) * (x.k n a * x.v n b)

/-- The normalizer before token `n`. -/
def N : ℕ → Fin 512 → ℝ
  | 0 => fun _ => 0
  | n + 1 => fun a => Real.exp (x.f n + x.m n - x.m (n + 1)) * N n a + Real.exp (x.i n - x.m (n + 1)) * x.k n a

/-- The hidden vector the chain leaves at token `n`. -/
def h (n : ℕ) (b : Fin 512) : ℝ :=
  (∑ a, x.q n a * x.C (n + 1) a b) / max |∑ a, x.q n a * x.N (n + 1) a| (Real.exp (-x.m (n + 1)))

/-- The log forget gates of the first `L` tokens from `T` on, added up. -/
def B (T L : ℕ) : ℝ := ∑ s ∈ Finset.range L, x.f (T + s)

/-- What is left, after `L` tokens from `T` on, of the log weight of token `T + s`. -/
def D (T L s : ℕ) : ℝ := x.B T L - x.B T (s + 1) + x.i (T + s)

theorem B_succ (T L : ℕ) : x.B T (L + 1) = x.B T L + x.f (T + L) := Finset.sum_range_succ _ _

theorem D_succ (T L s : ℕ) : x.D T (L + 1) s = x.f (T + L) + x.D T L s := by
  simp only [D, B_succ]; ring

theorem D_self (T L : ℕ) : x.D T (L + 1) L = x.i (T + L) := by simp only [D]; ring

/-- The stabilizer after `L` tokens is at least the decayed stabilizer it started from. -/
theorem carried_le (T : ℕ) : ∀ L, x.B T L + x.m T ≤ x.m (T + L)
  | 0 => by simp [B]
  | L + 1 => by
    have := carried_le T L
    rw [B_succ, ← Nat.add_assoc]
    exact le_trans (by linarith) (le_max_left _ _)

/-- The stabilizer after `L` tokens is at least the log weight of every one of them. -/
theorem weight_le (T : ℕ) : ∀ L s, s < L → x.D T L s ≤ x.m (T + L)
  | 0, _, h => absurd h (Nat.not_lt_zero _)
  | L + 1, s, h => by
    rw [← Nat.add_assoc]
    rcases Nat.lt_succ_iff_lt_or_eq.mp h with h | rfl
    · have := weight_le T L s h
      rw [D_succ]
      exact le_trans (by linarith) (le_max_left _ _)
    · rw [D_self]; exact le_max_right _ _

/-- The stabilizer after `L` tokens is one of those numbers. -/
theorem m_attained (T : ℕ) : ∀ L, x.m (T + L) = x.B T L + x.m T ∨ ∃ s, s < L ∧ x.m (T + L) = x.D T L s
  | 0 => Or.inl (by simp [B])
  | L + 1 => by
    rw [← Nat.add_assoc]
    show max (x.f (T + L) + x.m (T + L)) (x.i (T + L)) = _ ∨ ∃ s, s < L + 1 ∧ max _ _ = _
    rcases le_total (x.i (T + L)) (x.f (T + L) + x.m (T + L)) with h | h
    · rw [max_eq_left h]
      rcases m_attained T L with e | ⟨s, hs, e⟩
      · left; rw [e, B_succ]; ring
      · right; exact ⟨s, by omega, by rw [e, D_succ]⟩
    · rw [max_eq_right h]
      exact Or.inr ⟨L, by omega, (x.D_self T L).symm⟩

/-- Whatever is decayed and added to as the memory is, `L` tokens on, is the old contents decayed by the whole stretch
    and the sum of the additions, each with the weight left of it. -/
theorem linear_chunk (z y : ℕ → ℝ)
    (hz : ∀ n, z (n + 1) = Real.exp (x.f n + x.m n - x.m (n + 1)) * z n + Real.exp (x.i n - x.m (n + 1)) * y n) (T : ℕ) :
    ∀ L, z (T + L) = Real.exp (x.B T L + x.m T - x.m (T + L)) * z T
      + ∑ s ∈ Finset.range L, Real.exp (x.D T L s - x.m (T + L)) * y (T + s)
  | 0 => by simp [B]
  | L + 1 => by
    rw [← Nat.add_assoc, hz, linear_chunk z y hz T L, Finset.sum_range_succ, D_self, mul_add, ← mul_assoc, ← Real.exp_add,
      Finset.mul_sum, ← add_assoc]
    congr 2
    · congr 2; rw [B_succ]; ring
    · refine Finset.sum_congr rfl fun s _ => ?_
      rw [← mul_assoc, ← Real.exp_add, D_succ]
      congr 2; ring

/-- The matrix memory `L` tokens on. -/
theorem C_chunk (T L : ℕ) (a b : Fin 512) : x.C (T + L) a b = Real.exp (x.B T L + x.m T - x.m (T + L)) * x.C T a b
    + ∑ s ∈ Finset.range L, Real.exp (x.D T L s - x.m (T + L)) * (x.k (T + s) a * x.v (T + s) b) :=
  x.linear_chunk (fun n => x.C n a b) (fun n => x.k n a * x.v n b) (fun _ => rfl) T L

/-- The normalizer `L` tokens on. -/
theorem N_chunk (T L : ℕ) (a : Fin 512) : x.N (T + L) a = Real.exp (x.B T L + x.m T - x.m (T + L)) * x.N T a
    + ∑ s ∈ Finset.range L, Real.exp (x.D T L s - x.m (T + L)) * x.k (T + s) a :=
  x.linear_chunk (fun n => x.N n a) (fun n => x.k n a) (fun _ => rfl) T L

/-! ## A chunk of `W` tokens as a whole -/

/-- The weight of token `T + s` in what the chunk's token `T + r` sees: none if it lies after it. -/
def wgt (T r s : ℕ) : ℝ := if s ≤ r then Real.exp (x.D T (r + 1) s - x.m (T + r + 1)) else 0

/-- A sum over the tokens up to `r` is the sum over the whole chunk with those weights. -/
theorem sum_wgt {W : ℕ} (T : ℕ) (r : Fin W) (y : ℕ → ℝ) :
    ∑ s ∈ Finset.range (r.val + 1), Real.exp (x.D T (r.val + 1) s - x.m (T + r.val + 1)) * y s
      = ∑ s : Fin W, x.wgt T r.val s.val * y s.val := by
  rw [Fin.sum_univ_eq_sum_range (fun s => x.wgt T r.val s * y s) W]
  have hsub : Finset.range (r.val + 1) ⊆ Finset.range W := fun s hs => by
    have := Finset.mem_range.mp hs; have := r.isLt; exact Finset.mem_range.mpr (by omega)
  rw [← Finset.sum_subset hsub]
  · refine Finset.sum_congr rfl fun s hs => ?_
    rw [wgt, if_pos (by have := Finset.mem_range.mp hs; omega)]
  · intro s _ hs
    rw [wgt, if_neg (by intro h; exact hs (Finset.mem_range.mpr (by omega))), zero_mul]

/-- The query against the memory, at the chunk's token `T + r`: the scores of the chunk's tokens against their values,
    and the query against the memory the chunk started from. -/
theorem num_chunk {W : ℕ} (T : ℕ) (r : Fin W) (b : Fin 512) :
    ∑ a, x.q (T + r.val) a * x.C (T + r.val + 1) a b
      = ∑ s : Fin W, ((∑ a, x.q (T + r.val) a * x.k (T + s.val) a) * x.wgt T r.val s.val) * x.v (T + s.val) b
        + Real.exp (x.B T (r.val + 1) + x.m T - x.m (T + r.val + 1)) * ∑ a, x.q (T + r.val) a * x.C T a b := by
  have hC : ∀ a, x.C (T + r.val + 1) a b = Real.exp (x.B T (r.val + 1) + x.m T - x.m (T + r.val + 1)) * x.C T a b
      + ∑ s : Fin W, x.wgt T r.val s.val * (x.k (T + s.val) a * x.v (T + s.val) b) := fun a => by
    rw [← x.sum_wgt T r (fun s => x.k (T + s) a * x.v (T + s) b)]
    exact x.C_chunk T (r.val + 1) a b
  simp only [hC, mul_add, Finset.sum_add_distrib]
  rw [add_comm]
  congr 1
  · simp only [Finset.mul_sum, Finset.sum_mul]
    rw [Finset.sum_comm]
    exact Finset.sum_congr rfl fun _ _ => Finset.sum_congr rfl fun _ _ => by ring
  · rw [Finset.mul_sum]
    exact Finset.sum_congr rfl fun _ _ => by ring

/-- The query against the normalizer, likewise. -/
theorem den_chunk {W : ℕ} (T : ℕ) (r : Fin W) :
    ∑ a, x.q (T + r.val) a * x.N (T + r.val + 1) a
      = ∑ s : Fin W, (∑ a, x.q (T + r.val) a * x.k (T + s.val) a) * x.wgt T r.val s.val
        + Real.exp (x.B T (r.val + 1) + x.m T - x.m (T + r.val + 1)) * ∑ a, x.q (T + r.val) a * x.N T a := by
  have hN : ∀ a, x.N (T + r.val + 1) a = Real.exp (x.B T (r.val + 1) + x.m T - x.m (T + r.val + 1)) * x.N T a
      + ∑ s : Fin W, x.wgt T r.val s.val * x.k (T + s.val) a := fun a => by
    rw [← x.sum_wgt T r (fun s => x.k (T + s) a)]
    exact x.N_chunk T (r.val + 1) a
  simp only [hN, mul_add, Finset.sum_add_distrib]
  rw [add_comm]
  congr 1
  · simp only [Finset.mul_sum, Finset.sum_mul]
    rw [Finset.sum_comm]
    exact Finset.sum_congr rfl fun _ _ => Finset.sum_congr rfl fun _ _ => by ring
  · rw [Finset.mul_sum]
    exact Finset.sum_congr rfl fun _ _ => by ring

end Tokens

end Cert.Scan

end
-- ==== Proof.Scan.Chunk.lean ====
/-
  A chunk of the matrix LSTM over the extended reals, on inputs that are real numbers: what each of the chunk's
  intermediate values is, in terms of the recurrence. A chunk may hold its tokens in the chain's order or reversed (the
  backward direction), so its rows are tied to the chain's tokens by a permutation `pos`.
-/
module

public import Idealize.ShloMosaic.Lib.Pointwise
public import proofs.«01_k».proof.Proof.Scan.Recurrence

@[expose] public section

noncomputable section

namespace Cert.Scan

open Idealize.ShloMosaic

/-! ## Real numbers among the extended reals -/

/-- A finite sum of real numbers, taken among the extended reals. -/
theorem coe_sum {ι : Type*} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The larger of two real numbers, taken among the extended reals. -/
theorem coe_max (a b : ℝ) : ((max a b : ℝ) : EReal) = max (a : EReal) (b : EReal) :=
  EReal.coe_strictMono.monotone.map_max

/-- The absolute value of a real number, as the extended reals' operation computes it. -/
theorem coe_abs (a : ℝ) : max (a : EReal) (-(a : EReal)) = ((|a| : ℝ) : EReal) := by
  rw [← EReal.coe_neg, ← coe_max]; rfl

/-- A quotient of real numbers whose divisor is positive. -/
theorem coe_div (a : ℝ) {b : ℝ} (hb : 0 < b) : Ideal.div (a : EReal) (b : EReal) = ((a / b : ℝ) : EReal) := by
  rw [Ideal.div_coe (ne_of_gt hb), ← EReal.coe_mul]; congr 1; ring

/-- The log of the logistic function, as both programs write it out. -/
def logSigmoid (y : ℝ) : ℝ := -(max (-y) 0 + Real.log (1 + Real.exp (-|-y|)))

/-- Its softplus, computed among the extended reals on a real number. -/
theorem softplus_coe (y : ℝ) : max (-(y : EReal)) 0 + Ideal.log1p (Ideal.exp (-(max (-(y : EReal)) (- -(y : EReal)))))
    = ((-(logSigmoid y) : ℝ) : EReal) := by
  have h0 : max (-(y : EReal)) 0 = ((max (-y) 0 : ℝ) : EReal) := by
    rw [coe_max, EReal.coe_neg, EReal.coe_zero]
  rw [h0, ← EReal.coe_neg, coe_abs, ← EReal.coe_neg, Ideal.exp_coe, Ideal.log1p, ← EReal.coe_one, ← EReal.coe_add,
    Ideal.log_coe, if_neg (not_le.mpr (by positivity)), ← EReal.coe_add]
  rw [logSigmoid, neg_neg]

/-! ## The chunk -/

namespace Tokens

variable (x : Tokens) {W : ℕ} (T : ℕ) (pos : Equiv.Perm (Fin W))

/-- The log weight of row `s` in what row `r` sees: minus infinity where `s` comes after `r`. -/
def logD (r s : Fin W) : EReal := if pos s ≤ pos r then (x.D T ((pos r).val + 1) (pos s).val : EReal) else ⊥

/-- The running sum of the log forget gates, as a sum over the whole chunk under a mask. -/
theorem bsum_mask (r : Fin W) :
    ∑ s : Fin W, (if pos s ≤ pos r then (1 : EReal) else 0) * (x.f (T + (pos s).val) : EReal)
      = (x.B T ((pos r).val + 1) : EReal) := by
  have h : ∀ s : Fin W, (if pos s ≤ pos r then (1 : EReal) else 0) * (x.f (T + (pos s).val) : EReal)
      = (((fun p : Fin W => if p.val ≤ (pos r).val then x.f (T + p.val) else 0) (pos s) : ℝ) : EReal) := fun s => by
    by_cases hs : pos s ≤ pos r
    · rw [if_pos hs, one_mul]; dsimp only; rw [if_pos (Fin.le_def.mp hs)]
    · rw [if_neg hs, zero_mul]; dsimp only; rw [if_neg (fun h => hs (Fin.le_def.mpr h)), EReal.coe_zero]
  rw [Finset.sum_congr rfl fun s _ => h s, ← coe_sum,
    Equiv.sum_comp pos (fun p : Fin W => if p.val ≤ (pos r).val then x.f (T + p.val) else 0)]
  congr 1
  rw [Fin.sum_univ_eq_sum_range (fun p => if p ≤ (pos r).val then x.f (T + p) else 0) W, B,
    ← Finset.sum_filter]
  refine Finset.sum_congr (Finset.ext fun p => ?_) fun _ _ => rfl
  have := (pos r).isLt
  simp only [Finset.mem_filter, Finset.mem_range]
  omega

/-- The log forget gates of the whole chunk, added up. -/
theorem bsum_all : ∑ s : Fin W, (x.f (T + (pos s).val) : EReal) = (x.B T W : EReal) := by
  rw [← coe_sum, Equiv.sum_comp pos (fun p => x.f (T + p.val)), Fin.sum_univ_eq_sum_range (fun p => x.f (T + p)) W]
  rfl

/-- The log weight written with an added mask. -/
theorem logD_add (r s : Fin W) : ((x.B T ((pos r).val + 1) : EReal) - (x.B T ((pos s).val + 1) : EReal)
    + (x.i (T + (pos s).val) : EReal)) + (if pos s ≤ pos r then (0 : EReal) else ⊥) = x.logD T pos r s := by
  by_cases h : pos s ≤ pos r
  · rw [logD, if_pos h, if_pos h, add_zero, ← EReal.coe_sub, ← EReal.coe_add]; rfl
  · rw [logD, if_neg h, if_neg h, EReal.add_bot]

/-- The log weight written with a choice. -/
theorem logD_if (r s : Fin W) : (if pos s ≤ pos r then ((x.B T ((pos r).val + 1) : EReal) - (x.B T ((pos s).val + 1) : EReal)
    + (x.i (T + (pos s).val) : EReal)) else ⊥) = x.logD T pos r s := by
  by_cases h : pos s ≤ pos r
  · rw [logD, if_pos h, if_pos h, ← EReal.coe_sub, ← EReal.coe_add]; rfl
  · rw [logD, if_neg h, if_neg h]

/-- The greatest of a family of extended reals and the decayed stabilizer is the stabilizer `L` tokens on, if the family
    holds the log weights of those tokens and minus infinity besides. -/
theorem stab (L : ℕ) (hL : L ≤ W) (g : Fin W → EReal)
    (hg : ∀ s, g s = if (pos s).val < L then (x.D T L (pos s).val : EReal) else ⊥) :
    max ((x.B T L : EReal) + (x.m T : EReal)) (Finset.univ.fold max ⊥ g) = (x.m (T + L) : EReal) := by
  rw [← EReal.coe_add]
  apply le_antisymm
  · refine max_le (EReal.coe_le_coe_iff.mpr (x.carried_le T L)) (Finset.fold_max_le _ |>.mpr ⟨bot_le, fun s _ => ?_⟩)
    rw [hg]
    split
    · next h => exact EReal.coe_le_coe_iff.mpr (x.weight_le T L _ h)
    · exact bot_le
  · rcases x.m_attained T L with e | ⟨s, hs, e⟩
    · rw [e]; exact le_max_left _ _
    · refine le_trans ?_ (le_max_right _ _)
      refine Finset.le_fold_max _ |>.mpr (Or.inr ⟨pos.symm ⟨s, by omega⟩, Finset.mem_univ _, ?_⟩)
      rw [hg, Equiv.apply_symm_apply, if_pos hs, e]

/-- The stabilizer a row is given: after its own token. -/
theorem stab_row (r : Fin W) : max ((x.B T ((pos r).val + 1) : EReal) + (x.m T : EReal))
    (Finset.univ.fold max ⊥ fun s => x.logD T pos r s) = (x.m (T + (pos r).val + 1) : EReal) :=
  x.stab T pos ((pos r).val + 1) (pos r).isLt _ fun s => by
    rw [logD]; exact if_congr (by rw [Fin.le_def]; omega) rfl rfl

/-- The stabilizer the chunk leaves. -/
theorem stab_all : max ((x.B T W : EReal) + (x.m T : EReal)) (Finset.univ.fold max ⊥ fun s : Fin W =>
    (x.B T W : EReal) - (x.B T ((pos s).val + 1) : EReal) + (x.i (T + (pos s).val) : EReal)) = (x.m (T + W) : EReal) :=
  x.stab T pos W le_rfl _ fun s => by
    rw [if_pos (pos s).isLt, ← EReal.coe_sub, ← EReal.coe_add]; rfl

/-- The weight of row `s` in what row `r` sees. -/
theorem exp_logD (r s : Fin W) : Ideal.exp (x.logD T pos r s - (x.m (T + (pos r).val + 1) : EReal))
    = (x.wgt T (pos r).val (pos s).val : EReal) := by
  by_cases h : pos s ≤ pos r
  · rw [logD, if_pos h, wgt, if_pos (Fin.le_def.mp h), ← EReal.coe_sub, Ideal.exp_coe]
  · rw [logD, if_neg h, wgt, if_neg (fun h' => h (Fin.le_def.mpr h')), EReal.bot_sub, Ideal.exp_bot, EReal.coe_zero]

/-- What is left, at a row, of what the chunk started from. -/
theorem exp_carried (r : Fin W) : Ideal.exp ((x.B T ((pos r).val + 1) : EReal) + (x.m T : EReal)
    - (x.m (T + (pos r).val + 1) : EReal))
    = ((Real.exp (x.B T ((pos r).val + 1) + x.m T - x.m (T + (pos r).val + 1)) : ℝ) : EReal) := by
  rw [← EReal.coe_add, ← EReal.coe_sub, Ideal.exp_coe]

/-- THE HIDDEN VECTOR OF A ROW: the scores of the chunk's rows against their values and the query against the memory the
    chunk started from, over the larger of the normalizer's magnitude and the stabilizer's floor. -/
theorem h_row (r : Fin W) (b : Fin 512) :
    Ideal.div
      (∑ s : Fin W, (∑ a : Fin 512, (x.q (T + (pos r).val) a : EReal) * (x.k (T + (pos s).val) a : EReal))
          * (x.wgt T (pos r).val (pos s).val : EReal) * (x.v (T + (pos s).val) b : EReal)
        + ((Real.exp (x.B T ((pos r).val + 1) + x.m T - x.m (T + (pos r).val + 1)) : ℝ) : EReal)
          * ∑ a : Fin 512, (x.q (T + (pos r).val) a : EReal) * (x.C T a b : EReal))
      (max (FloatOps.absf (F := Ideal) (φ := .f32)
          (∑ s : Fin W, (∑ a : Fin 512, (x.q (T + (pos r).val) a : EReal) * (x.k (T + (pos s).val) a : EReal))
              * (x.wgt T (pos r).val (pos s).val : EReal)
            + ((Real.exp (x.B T ((pos r).val + 1) + x.m T - x.m (T + (pos r).val + 1)) : ℝ) : EReal)
              * ∑ a : Fin 512, (x.q (T + (pos r).val) a : EReal) * (x.N T a : EReal)))
        (Ideal.exp (-(x.m (T + (pos r).val + 1) : EReal))))
      = (x.h (T + (pos r).val) b : EReal) := by
  have hnum := x.num_chunk T (pos r) b
  have hden := x.den_chunk T (pos r)
  rw [← Equiv.sum_comp pos] at hnum hden
  simp only [← EReal.coe_mul, ← coe_sum, ← EReal.coe_add, ← EReal.coe_neg, Ideal.exp_coe]
  rw [← hnum, ← hden]
  show Ideal.div _ (max (max _ (-_)) _) = _
  rw [coe_abs, ← coe_max, coe_div _ (lt_of_lt_of_le (Real.exp_pos _) (le_max_right _ _))]
  rfl

/-- THE MEMORY THE CHUNK LEAVES. -/
theorem C_all (a b : Fin 512) :
    ((Real.exp (x.B T W + x.m T - x.m (T + W)) : ℝ) : EReal) * (x.C T a b : EReal)
      + ∑ s : Fin W, (x.k (T + (pos s).val) a : EReal)
        * (((Real.exp (x.D T W (pos s).val - x.m (T + W)) : ℝ) : EReal) * (x.v (T + (pos s).val) b : EReal))
      = (x.C (T + W) a b : EReal) := by
  simp only [← EReal.coe_mul, ← coe_sum, ← EReal.coe_add]
  rw [x.C_chunk T W, Equiv.sum_comp pos (fun s => x.k (T + s.val) a
      * (Real.exp (x.D T W s.val - x.m (T + W)) * x.v (T + s.val) b)),
    Fin.sum_univ_eq_sum_range (fun s => x.k (T + s) a * (Real.exp (x.D T W s - x.m (T + W)) * x.v (T + s) b)) W]
  congr 2
  exact Finset.sum_congr rfl fun _ _ => by ring

/-- THE NORMALIZER THE CHUNK LEAVES. -/
theorem N_all (a : Fin 512) :
    ((Real.exp (x.B T W + x.m T - x.m (T + W)) : ℝ) : EReal) * (x.N T a : EReal)
      + ∑ s : Fin W, (x.k (T + (pos s).val) a : EReal)
        * ((Real.exp (x.D T W (pos s).val - x.m (T + W)) : ℝ) : EReal)
      = (x.N (T + W) a : EReal) := by
  simp only [← EReal.coe_mul, ← coe_sum, ← EReal.coe_add]
  rw [x.N_chunk T W, Equiv.sum_comp pos (fun s => x.k (T + s.val) a * Real.exp (x.D T W s.val - x.m (T + W))),
    Fin.sum_univ_eq_sum_range (fun s => x.k (T + s) a * Real.exp (x.D T W s - x.m (T + W))) W]
  congr 2
  exact Finset.sum_congr rfl fun _ _ => by ring

/-- What is left, at a chunk's end, of what it started from. -/
theorem exp_carried_all : Ideal.exp ((x.B T W : EReal) + (x.m T : EReal) - (x.m (T + W) : EReal))
    = ((Real.exp (x.B T W + x.m T - x.m (T + W)) : ℝ) : EReal) := by
  rw [← EReal.coe_add, ← EReal.coe_sub, Ideal.exp_coe]

/-- The weight left of a row at a chunk's end. -/
theorem exp_left (s : Fin W) : Ideal.exp ((x.B T W : EReal) - (x.B T ((pos s).val + 1) : EReal)
    + (x.i (T + (pos s).val) : EReal) - (x.m (T + W) : EReal))
    = ((Real.exp (x.D T W (pos s).val - x.m (T + W)) : ℝ) : EReal) := by
  rw [← EReal.coe_sub, ← EReal.coe_add, ← EReal.coe_sub, Ideal.exp_coe]; rfl

end Tokens

end Cert.Scan

end
-- ==== Proof.Scan.KernelChain.lean ====
/- One head of one chunk as the kernel computes it: the chain of vector operations from the loaded tiles to the five tiles it stores,
   and what those tiles hold when the loaded tiles hold the tokens of the chunk and the state carried to it. -/
module

public import proofs.«01_k».proof.Proof.Gen.KernelIdeal.Skeleton
public import proofs.«01_k».proof.Proof.Scan.Chunk
public import Idealize.ShloMosaic.Lib.Pointwise

@[expose] public section

set_option maxRecDepth 16384

noncomputable section

namespace Cert.Scan

open Idealize.ShloMosaic Cert.KernelIdeal Cert.KernelIdeal.Gen

section Words

variable {F : FTy → Type} [FloatOps F]

/-- The negated forget gates, as a column. -/
def negCol (gf : FVec F S256x1 .f32) : FVec F S256x1 .f32 :=
  subf (broadcast S256x1 (Scalar.ofBits .f32 0x00000000#32)) gf

/-- The column of zeros. -/
def zeroCol : FVec F S256x1 .f32 := broadcast S256x1 (Scalar.ofBits .f32 0x00000000#32)

/-- The logarithms of the weights within the chunk. -/
def wLog (ri rf : Vec F S1x256 .f32) (va vb ng : Vec F S1x256x256 .f32) (gf : FVec F S256x1 .f32) : FVec F S256x256 .f32 :=
  k0_pay22 (k0_pay7 ri) (k0_pay8 rf) (k0_pay9 va) (k0_pay10 vb) (k0_pay11 ng) (maximumf (negCol gf) zeroCol)
    (cmpf .one (subf (negCol gf) zeroCol) (subf (negCol gf) zeroCol)) (addf (negCol gf) zeroCol)
    (absf (subf (negCol gf) zeroCol)) zeroCol

/-- The hidden tile of one head. -/
def wOut (qv : Vec F S256x512 .bf16) (ktv : Vec F S512x256 .bf16) (vv : Vec F S256x512 .bf16) (ri rf : Vec F S1x256 .f32)
    (va vb ng : Vec F S1x256x256 .f32) (gf : FVec F S256x1 .f32) (cb : Vec F S1x1x512x512 .bf16) (n : Vec F S1x1x512x128 .f32)
    (mm : Vec F S1x1 .f32) : FVec F S256x512 .bf16 :=
  k0_pay24 qv ktv vv (wLog ri rf va vb ng gf) (k0_pay23 (k0_pay8 rf) (k0_pay9 va) mm) cb n

/-- The stabilizer after the chunk. -/
def wStab (gi : FVec F S256x1 .f32) (rf : Vec F S1x256 .f32) (va : Vec F S1x256x256 .f32) (mm : Vec F S1x1 .f32) :
    FVec F S1x1 .f32 :=
  k0_pay26 gi (k0_pay20 (k0_pay8 rf) (k0_pay9 va)) (k0_pay21 (k0_pay8 rf)) mm

/-- The logarithms of the weights to the chunk's end, less the stabilizer. -/
def wLeft (gi : FVec F S256x1 .f32) (rf : Vec F S1x256 .f32) (va : Vec F S1x256x256 .f32) (mm : Vec F S1x1 .f32) :
    FVec F S256x1 .f32 :=
  k0_pay27 gi (k0_pay20 (k0_pay8 rf) (k0_pay9 va)) (k0_pay21 (k0_pay8 rf)) mm

/-- The memory tile after the chunk. -/
def wMem (ktv : Vec F S512x256 .bf16) (vv : Vec F S256x512 .bf16) (gi : FVec F S256x1 .f32) (rf : Vec F S1x256 .f32)
    (va : Vec F S1x256x256 .f32) (mm : Vec F S1x1 .f32) (cc : Vec F S1x1x512x512 .f32) : FVec F S1x1x512x512 .f32 :=
  k0_pay31 ktv vv (k0_pay21 (k0_pay8 rf)) mm (wStab gi rf va mm) (wLeft gi rf va mm) cc

/-- The memory tile after the chunk, in the narrow format. -/
def wMemB (ktv : Vec F S512x256 .bf16) (vv : Vec F S256x512 .bf16) (gi : FVec F S256x1 .f32) (rf : Vec F S1x256 .f32)
    (va : Vec F S1x256x256 .f32) (mm : Vec F S1x1 .f32) (cc : Vec F S1x1x512x512 .f32) : FVec F S1x1x512x512 .bf16 :=
  k0_pay32 ktv vv (k0_pay21 (k0_pay8 rf)) mm (wStab gi rf va mm) (wLeft gi rf va mm) cc

/-- The normalizer tile after the chunk. -/
def wNrm (ktv : Vec F S512x256 .bf16) (gi : FVec F S256x1 .f32) (rf : Vec F S1x256 .f32)
    (va : Vec F S1x256x256 .f32) (mm : Vec F S1x1 .f32) (n : Vec F S1x1x512x128 .f32) : FVec F S1x1x512x128 .f32 :=
  k0_pay33 ktv (k0_pay21 (k0_pay8 rf)) mm (wStab gi rf va mm) (wLeft gi rf va mm) n

/-- The stabilizer's tile after the chunk. -/
def wStabT (gi : FVec F S256x1 .f32) (rf : Vec F S1x256 .f32) (va : Vec F S1x256x256 .f32) (mm : Vec F S1x1 .f32) :
    FVec F S1x1x8x128 .f32 :=
  k0_pay35 (k0_pay34 (wStab gi rf va mm))

end Words

variable (x : Tokens) (y : ℕ → ℝ) (T : ℕ) (pos : Equiv.Perm (Fin 256))

/-- The tiles loaded for one head of a chunk that starts at time `T` hold its tokens. -/
structure Loaded (ktv : Vec Ideal S512x256 .bf16) (vv : Vec Ideal S256x512 .bf16)
    (rf : Vec Ideal S1x256 .f32) (va : Vec Ideal S1x256x256 .f32)
    (gi : FVec Ideal S256x1 .f32) : Prop where
  gate : ∀ t, x.f t = logSigmoid (y t)
  k : ∀ a s, ktv (ix2 a s) = (x.k (T + (pos s).val) a : EReal)
  v : ∀ s b, vv (ix2 s b) = (x.v (T + (pos s).val) b : EReal)
  gi : ∀ s, gi (ix2 s 0) = (x.i (T + (pos s).val) : EReal)
  rf : ∀ s, rf (ix2 0 s) = (y (T + (pos s).val) : EReal)
  va : ∀ r s, va (ix3 0 r s) = if pos s ≤ pos r then 1 else 0

/-- The tiles loaded for one head's hidden rows hold its tokens too. -/
structure LoadedQ (qv : Vec Ideal S256x512 .bf16) (ri : Vec Ideal S1x256 .f32)
    (vb ng : Vec Ideal S1x256x256 .f32) (gf : FVec Ideal S256x1 .f32) : Prop where
  q : ∀ r a, qv (ix2 r a) = (x.q (T + (pos r).val) a : EReal)
  ri : ∀ s, ri (ix2 0 s) = (x.i (T + (pos s).val) : EReal)
  gf : ∀ s, gf (ix2 s 0) = (y (T + (pos s).val) : EReal)
  vb : ∀ s r, vb (ix3 0 s r) = if pos s ≤ pos r then 1 else 0
  ng : ∀ r s, ng (ix3 0 r s) = if pos s ≤ pos r then 0 else ⊥

variable {x y T pos}
variable {qv : Vec Ideal S256x512 .bf16} {ktv : Vec Ideal S512x256 .bf16} {vv : Vec Ideal S256x512 .bf16}
  {ri rf : Vec Ideal S1x256 .f32} {va vb ng : Vec Ideal S1x256x256 .f32} {gi gf : FVec Ideal S256x1 .f32}
  {cb : Vec Ideal S1x1x512x512 .bf16} {cc : Vec Ideal S1x1x512x512 .f32} {n : Vec Ideal S1x1x512x128 .f32} {mm : Vec Ideal S1x1 .f32}

/-- The bits a maximum starts from denote minus infinity. -/
theorem ofBits_negInf : Ideal.ofBits .f32 4286578688#32 = ⊥ := by simp [Ideal.ofBits, Ideal.ieee]

/-- The kernel's logarithm of the sigmoid, as it writes it out. -/
theorem softplus_kernel (a : ℝ) : (0 - if 0 - (a : EReal) ≠ 0 - (a : EReal) then 0 - (a : EReal)
    else max (0 - (a : EReal)) 0 + Ideal.log1p (Ideal.exp (0 - FloatOps.absf (F := Ideal) (φ := .f32) (0 - (a : EReal)))))
    = (logSigmoid a : EReal) := by
  rw [if_neg (not_not.mpr rfl)]
  simp only [zero_sub]
  rw [show FloatOps.absf (F := Ideal) (φ := .f32) (-(a : EReal)) = max (-(a : EReal)) (- -(a : EReal)) from rfl,
    softplus_coe, ← EReal.coe_neg, neg_neg]

/-- The log forget gates, as a row. -/
theorem lsRow_apply (h : Loaded x y T pos ktv vv rf va gi) (s : Fin 256) :
    k0_pay19 (k0_pay8 rf) (ix2 0 s) = (x.f (T + (pos s).val) : EReal) := by
  pointwise [k0_pay19, k0_pay8]
  rw [h.rf, h.gate]
  exact softplus_kernel _

/-- The running sums of the log forget gates, as a column. -/
theorem bCol_apply (h : Loaded x y T pos ktv vv rf va gi) (r : Fin 256) :
    k0_pay20 (k0_pay8 rf) (k0_pay9 va) (ix2 r 0) = (x.B T ((pos r).val + 1) : EReal) := by
  pointwise [k0_pay20, k0_pay9]
  simp only [lsRow_apply h, h.va]
  exact x.bsum_mask T pos r

/-- The whole sum of the log forget gates. -/
theorem bTot_apply (h : Loaded x y T pos ktv vv rf va gi) :
    k0_pay21 (k0_pay8 rf) (ix2 0 0) = (x.B T 256 : EReal) := by
  pointwise [k0_pay21]
  simp only [lsRow_apply h]
  exact x.bsum_all T pos

/-- The logarithms of the weights within the chunk. -/
theorem wLog_apply (h : Loaded x y T pos ktv vv rf va gi) (hq : LoadedQ x y T pos qv ri vb ng gf) (r s : Fin 256) :
    wLog ri rf va vb ng gf (ix2 r s) = x.logD T pos r s := by
  have hb := bCol_apply h r
  pointwise [wLog, k0_pay22, k0_pay7, k0_pay10, k0_pay11, negCol, zeroCol]
  simp only [hq.gf, softplus_kernel, ← h.gate, hq.vb, hq.ri, hq.ng, hb, sub_zero, add_zero]
  rw [x.bsum_mask T pos s]
  exact x.logD_add T pos r s

/-- The decayed stabilizer each row starts from. -/
theorem wCarry_apply (h : Loaded x y T pos ktv vv rf va gi) (hm : mm (ix2 0 0) = (x.m T : EReal)) (r : Fin 256) :
    k0_pay23 (k0_pay8 rf) (k0_pay9 va) mm (ix2 r 0) = (x.B T ((pos r).val + 1) : EReal) + (x.m T : EReal) := by
  have hb := bCol_apply h r
  pointwise [k0_pay23]
  rw [hb, hm]

/-- THE HIDDEN TILE holds the hidden vectors of the chunk's tokens. -/
theorem wOut_apply (h : Loaded x y T pos ktv vv rf va gi) (hq : LoadedQ x y T pos qv ri vb ng gf)
    (hm : mm (ix2 0 0) = (x.m T : EReal)) (hc : ∀ a b, cb (ix4 0 0 a b) = (x.C T a b : EReal))
    (hn : ∀ a l, n (ix4 0 0 a l) = (x.N T a : EReal)) (r : Fin 256) (b : Fin 512) :
    wOut qv ktv vv ri rf va vb ng gf cb n mm (ix2 r b) = (x.h (T + (pos r).val) b : EReal) := by
  pointwise [wOut, k0_pay24]
  simp only [wLog_apply h hq, wCarry_apply h hm, hq.q, h.k, h.v, hc, hn, ofBits_negInf]
  rw [x.stab_row T pos r]
  simp only [x.exp_logD, x.exp_carried, zero_sub]
  exact x.h_row T pos r b

/-- The stabilizer after the chunk. -/
theorem wStab_apply (h : Loaded x y T pos ktv vv rf va gi) (hm : mm (ix2 0 0) = (x.m T : EReal)) :
    wStab gi rf va mm (ix2 0 0) = (x.m (T + 256) : EReal) := by
  pointwise [wStab, k0_pay26, k0_pay25]
  simp only [bCol_apply h, bTot_apply h, hm, h.gi, ofBits_negInf]
  exact x.stab_all T pos

/-- The logarithms of the weights left at the chunk's end. -/
theorem wLeft_apply (h : Loaded x y T pos ktv vv rf va gi) (hm : mm (ix2 0 0) = (x.m T : EReal)) (s : Fin 256) :
    wLeft gi rf va mm (ix2 s 0) = (x.B T 256 : EReal) - (x.B T ((pos s).val + 1) : EReal)
      + (x.i (T + (pos s).val) : EReal) - (x.m (T + 256) : EReal) := by
  have hs := wStab_apply h hm
  unfold wStab at hs
  pointwise [wLeft, k0_pay27, k0_pay25]
  simp only [bCol_apply h, bTot_apply h, h.gi, hs]

/-- The memory tile after the chunk. -/
theorem wMem_apply (h : Loaded x y T pos ktv vv rf va gi) (hm : mm (ix2 0 0) = (x.m T : EReal))
    (hc : ∀ a b, cc (ix4 0 0 a b) = (x.C T a b : EReal)) (a b : Fin 512) :
    wMem ktv vv gi rf va mm cc (ix4 0 0 a b) = (x.C (T + 256) a b : EReal) := by
  pointwise [wMem, k0_pay31, k0_pay30, k0_pay28, k0_pay29]
  simp only [bTot_apply h, wStab_apply h hm, wLeft_apply h hm, hm, hc, h.k, h.v]
  rw [x.exp_carried_all]
  simp only [x.exp_left]
  exact x.C_all T pos a b

/-- The narrow memory tile after the chunk. -/
theorem wMemB_apply (h : Loaded x y T pos ktv vv rf va gi) (hm : mm (ix2 0 0) = (x.m T : EReal))
    (hc : ∀ a b, cc (ix4 0 0 a b) = (x.C T a b : EReal)) (a b : Fin 512) :
    wMemB ktv vv gi rf va mm cc (ix4 0 0 a b) = (x.C (T + 256) a b : EReal) := by
  rw [← wMem_apply h hm hc a b]
  pointwise [wMemB, wMem, k0_pay31, k0_pay32]

/-- The normalizer tile after the chunk. -/
theorem wNrm_apply (h : Loaded x y T pos ktv vv rf va gi) (hm : mm (ix2 0 0) = (x.m T : EReal))
    (hn : ∀ a l, n (ix4 0 0 a l) = (x.N T a : EReal)) (a : Fin 512) (l : Fin 128) :
    wNrm ktv gi rf va mm n (ix4 0 0 a l) = (x.N (T + 256) a : EReal) := by
  pointwise [wNrm, k0_pay33, k0_pay28, k0_pay29]
  simp only [bTot_apply h, wStab_apply h hm, wLeft_apply h hm, hm, hn, h.k]
  rw [x.exp_carried_all]
  simp only [x.exp_left]
  exact x.N_all T pos a

/-- The stabilizer's tile after the chunk. -/
theorem wStabT_apply (h : Loaded x y T pos ktv vv rf va gi) (hm : mm (ix2 0 0) = (x.m T : EReal)) (a : Fin 8) (l : Fin 128) :
    wStabT gi rf va mm (ix4 0 0 a l) = (x.m (T + 256) : EReal) := by
  pointwise [wStabT, k0_pay35, k0_pay34]
  exact wStab_apply h hm

end Cert.Scan

end
-- ==== Proof.Scan.Tiles.lean ====
/- The tiles of a chunk as the kernel loads and stores them: the rectangles, what a load through one reads, the lists of stores of one
   grid point, and what they leave when the windows hold the tokens of the chunk and the scratch holds the state carried to it. -/
module

public import proofs.«01_k».proof.Proof.Scan.KernelChain
public import proofs.«01_k».proof.Proof.Gen.KernelIdeal
public import Idealize.ShloMosaic.Lib.Pipeline.Value

@[expose] public section

set_option maxRecDepth 16384

noncomputable section

namespace Cert.Scan

open Idealize.ShloMosaic Idealize.ShloMosaic.TcCoe Cert.KernelIdeal Cert.KernelIdeal.Gen

/-- The column of a head's channel. -/
def hcol (h : Fin 4) (a : Fin 512) : Fin 2048 := ⟨512 * h.val + a.val, by omega⟩
/-- The column of a head's input gate in a direction. -/
def iCol (d : Fin 2) (h : Fin 4) : Fin 16 := ⟨8 * d.val + h.val, by omega⟩
/-- The column of a head's forget gate in a direction. -/
def fCol (d : Fin 2) (h : Fin 4) : Fin 16 := ⟨8 * d.val + 4 + h.val, by omega⟩

/-- The rows of one head. -/
def rQ (h : Fin 4) : Rect S256x2048 := Rect.unit ![0, 512 * h.val] S256x512.size (by
  have := h.isLt
  intro a; fin_cases a <;> simp [S256x512, S256x2048] <;> omega)
/-- The transposed rows of one head. -/
def rK (h : Fin 4) : Rect S2048x256 := Rect.unit ![512 * h.val, 0] S512x256.size (by
  have := h.isLt
  intro a; fin_cases a <;> simp [S512x256, S2048x256] <;> omega)
/-- One gate of every row. -/
def rG (o : Fin 16) : Rect S16x256 := Rect.unit ![o.val, 0] S1x256.size (by
  have := o.isLt
  intro a; fin_cases a <;> simp [S1x256, S16x256] <;> omega)
/-- One direction's mask. -/
def rM (d : Fin 2) : Rect S2x256x256 := Rect.unit ![d.val, 0, 0] S1x256x256.size (by
  have := d.isLt
  intro a; fin_cases a <;> simp [S1x256x256, S2x256x256] <;> omega)
/-- One direction's and head's memory. -/
def rC (d : Fin 2) (h : Fin 4) : Rect S2x4x512x512 := Rect.unit ![d.val, h.val, 0, 0] S1x1x512x512.size (by
  have := h.isLt; have := d.isLt
  intro a; fin_cases a <;> simp [S1x1x512x512, S2x4x512x512] <;> omega)
/-- One direction's and head's normalizer. -/
def rN (d : Fin 2) (h : Fin 4) : Rect S2x4x512x128 := Rect.unit ![d.val, h.val, 0, 0] S1x1x512x128.size (by
  have := h.isLt; have := d.isLt
  intro a; fin_cases a <;> simp [S1x1x512x128, S2x4x512x128] <;> omega)
/-- One direction's and head's stabilizer tile. -/
def rS (d : Fin 2) (h : Fin 4) : Rect S2x4x8x128 := Rect.unit ![d.val, h.val, 0, 0] S1x1x8x128.size (by
  have := h.isLt; have := d.isLt
  intro a; fin_cases a <;> simp [S1x1x8x128, S2x4x8x128] <;> omega)
/-- A column of the gates lies in them. -/
theorem col_slices (o : Fin 16) : S256x16.Slices ![0, o.val] S256x1 := by
  revert o; decide

section Loads

variable {F : FTy → Type} [FloatOps F]

/-- A head's rows as loaded. -/
def lQ (a : Memref sig .tc .vmem S256x2048 .bf16) (ha : a.IsWhole) (x : Vec F S256x2048 .bf16) (h : Fin 4) : Vec F S256x512 .bf16 :=
  View.readAt (Elt F) a.view (rQ h).toLoadRect (ha.unread x)
/-- A head's transposed rows as loaded. -/
def lK (a : Memref sig .tc .vmem S2048x256 .bf16) (ha : a.IsWhole) (x : Vec F S2048x256 .bf16) (h : Fin 4) : Vec F S512x256 .bf16 :=
  View.readAt (Elt F) a.view (rK h).toLoadRect (ha.unread x)
/-- One gate of every row as loaded. -/
def lG (a : Memref sig .tc .vmem S16x256 .f32) (ha : a.IsWhole) (x : Vec F S16x256 .f32) (o : Fin 16) : Vec F S1x256 .f32 :=
  View.readAt (Elt F) a.view (rG o).toLoadRect (ha.unread x)
/-- One direction's mask as loaded. -/
def lM (a : Memref sig .tc .vmem S2x256x256 .f32) (ha : a.IsWhole) (x : Vec F S2x256x256 .f32) (d : Fin 2) : Vec F S1x256x256 .f32 :=
  View.readAt (Elt F) a.view (rM d).toLoadRect (ha.unread x)
/-- The gates as loaded, all of them. -/
def lW (a : Memref sig .tc .vmem S256x16 .f32) (ha : a.IsWhole) (x : Vec F S256x16 .f32) : Vec F S256x16 .f32 :=
  View.readAt (Elt F) a.view (Rect.unit (s := S256x16) ![0, 0] S256x16.size inb_S256x16_S256x16_0_0).toLoadRect (ha.unread x)
/-- One column of the gates, of all of them as loaded. -/
def lX (a : Memref sig .tc .vmem S256x16 .f32) (ha : a.IsWhole) (x : Vec F S256x16 .f32) (o : Fin 16) : FVec F S256x1 .f32 :=
  extractStridedSlice S256x1 ![0, o.val] (lW a ha x) (col_slices o)
/-- A head's memory as loaded. -/
def lC (a : Memref sig .tc .vmem S2x4x512x512 .f32) (ha : a.IsWhole) (x : Vec F S2x4x512x512 .f32) (d : Fin 2) (h : Fin 4) :
    Vec F S1x1x512x512 .f32 :=
  View.readAt (Elt F) a.view (rC d h).toLoadRect (ha.unread x)
/-- A head's narrow memory as loaded. -/
def lB (a : Memref sig .tc .vmem S2x4x512x512 .bf16) (ha : a.IsWhole) (x : Vec F S2x4x512x512 .bf16) (d : Fin 2) (h : Fin 4) :
    Vec F S1x1x512x512 .bf16 :=
  View.readAt (Elt F) a.view (rC d h).toLoadRect (ha.unread x)
/-- A head's normalizer as loaded. -/
def lN (a : Memref sig .tc .vmem S2x4x512x128 .f32) (ha : a.IsWhole) (x : Vec F S2x4x512x128 .f32) (d : Fin 2) (h : Fin 4) :
    Vec F S1x1x512x128 .f32 :=
  View.readAt (Elt F) a.view (rN d h).toLoadRect (ha.unread x)

/-- The one word of a head's stabilizer tile that is read. -/
def rS1 (d : Fin 2) (h : Fin 4) : LoadRect S2x4x8x128 :=
  (rS d h).withinL (((Rect.unit (s := S8x128) ![0, 0] S1x1.size inb_S8x128_S1x1_0_0).toLoadRect.consLift ![1, 8, 128] rfl
    (fun _ => rfl)).consLift ![1, 1, 8, 128] rfl (fun _ => rfl)) (fun _ => rfl)

/-- It is one word. -/
theorem rS1_numel (d : Fin 2) (h : Fin 4) :
    (Rect.unit (s := S8x128) ![0, 0] S1x1.size inb_S8x128_S1x1_0_0).toLoadRect.shape.numel = (rS1 d h).shape.numel := by
  rfl

/-- A word read through that rectangle, as a one by one array. -/
def word (d : Fin 2) (h : Fin 4) (w : (rS1 d h).shape.Idx → Elt F .f32) : Vec F S1x1 .f32 :=
  LoadRect.valAlong (rS1_numel d h) w

/-- A head's stabilizer as loaded. -/
def lS (a : Memref sig .tc .vmem S2x4x8x128 .f32) (ha : a.IsWhole) (x : Vec F S2x4x8x128 .f32) (d : Fin 2) (h : Fin 4) :
    Vec F S1x1 .f32 :=
  word d h (View.readAt (Elt F) a.view (rS1 d h) (ha.unread x))

/-- The only index of that rectangle. -/
theorem rS1_idx (d : Fin 2) (h : Fin 4) (j : (rS1 d h).shape.Idx) : (rS1 d h).idx j = ix4 d h 0 0 := by
  have hj : ∀ k : Fin 4, (j k).val = 0 := fun k => by
    have := (j k).isLt
    have hs : (rS1 d h).shape.size k = 1 := by fin_cases k <;> rfl
    omega
  funext k
  apply Fin.ext
  show (rS1 d h).off k + (rS1 d h).stride k * (j k).val = _
  rw [hj k]
  fin_cases k <;> rfl

/-- A head's stabilizer as loaded is its first word. -/
theorem lS_apply (a : Memref sig .tc .vmem S2x4x8x128 .f32) (ha : a.IsWhole) (x : Vec F S2x4x8x128 .f32) (d : Fin 2) (h : Fin 4) :
    lS a ha x d h (ix2 0 0) = x (ix4 d h 0 0) := by
  show View.read (Elt F) a.view (ha.unread x) ((rS1 d h).idx _) = _
  rw [rS1_idx, ha.read_unread]

theorem lQ_apply (a : Memref sig .tc .vmem S256x2048 .bf16) (ha : a.IsWhole) (x : Vec F S256x2048 .bf16) (h : Fin 4)
    (r : Fin 256) (b : Fin 512) : lQ a ha x h (ix2 r b) = x (ix2 r (hcol h b)) := by
  unfold lQ
  rw [View.readAt_eq_ld, ha.read_unread]
  show x _ = x _
  congr 1
  funext k; fin_cases k <;> (apply Fin.ext; simp [rQ, Rect.unit, ix2, hcol])

theorem lK_apply (a : Memref sig .tc .vmem S2048x256 .bf16) (ha : a.IsWhole) (x : Vec F S2048x256 .bf16) (h : Fin 4)
    (b : Fin 512) (r : Fin 256) : lK a ha x h (ix2 b r) = x (ix2 (hcol h b) r) := by
  unfold lK
  rw [View.readAt_eq_ld, ha.read_unread]
  show x _ = x _
  congr 1
  funext k; fin_cases k <;> (apply Fin.ext; simp [rK, Rect.unit, ix2, hcol])

theorem lG_apply (a : Memref sig .tc .vmem S16x256 .f32) (ha : a.IsWhole) (x : Vec F S16x256 .f32) (o : Fin 16)
    (r : Fin 256) : lG a ha x o (ix2 0 r) = x (ix2 o r) := by
  unfold lG
  rw [View.readAt_eq_ld, ha.read_unread]
  show x _ = x _
  congr 1
  funext k; fin_cases k <;> (apply Fin.ext; simp [rG, Rect.unit, ix2])

theorem lM_apply (a : Memref sig .tc .vmem S2x256x256 .f32) (ha : a.IsWhole) (x : Vec F S2x256x256 .f32) (d : Fin 2)
    (r s : Fin 256) : lM a ha x d (ix3 0 r s) = x (ix3 d r s) := by
  unfold lM
  rw [View.readAt_eq_ld, ha.read_unread]
  show x _ = x _
  congr 1
  funext k; fin_cases k <;> (apply Fin.ext; simp [rM, Rect.unit, ix3])

theorem lW_eq (a : Memref sig .tc .vmem S256x16 .f32) (ha : a.IsWhole) (x : Vec F S256x16 .f32) : lW a ha x = x := by
  unfold lW
  rw [View.readAt_eq_ld, ha.read_unread]
  exact View.ld_unit_zero (funext fun k => by fin_cases k <;> rfl) _ _

theorem lC_apply (a : Memref sig .tc .vmem S2x4x512x512 .f32) (ha : a.IsWhole) (x : Vec F S2x4x512x512 .f32) (d : Fin 2) (h : Fin 4)
    (p q : Fin 512) : lC a ha x d h (ix4 0 0 p q) = x (ix4 d h p q) := by
  unfold lC
  rw [View.readAt_eq_ld, ha.read_unread]
  show x _ = x _
  congr 1
  funext k; fin_cases k <;> (apply Fin.ext; simp [rC, Rect.unit, ix4])

theorem lB_apply (a : Memref sig .tc .vmem S2x4x512x512 .bf16) (ha : a.IsWhole) (x : Vec F S2x4x512x512 .bf16) (d : Fin 2) (h : Fin 4)
    (p q : Fin 512) : lB a ha x d h (ix4 0 0 p q) = x (ix4 d h p q) := by
  unfold lB
  rw [View.readAt_eq_ld, ha.read_unread]
  show x _ = x _
  congr 1
  funext k; fin_cases k <;> (apply Fin.ext; simp [rC, Rect.unit, ix4])

theorem lN_apply (a : Memref sig .tc .vmem S2x4x512x128 .f32) (ha : a.IsWhole) (x : Vec F S2x4x512x128 .f32) (d : Fin 2) (h : Fin 4)
    (p : Fin 512) (q : Fin 128) : lN a ha x d h (ix4 0 0 p q) = x (ix4 d h p q) := by
  unfold lN
  rw [View.readAt_eq_ld, ha.read_unread]
  show x _ = x _
  congr 1
  funext k; fin_cases k <;> (apply Fin.ext; simp [rN, Rect.unit, ix4])

end Loads

theorem lX_apply (a : Memref sig .tc .vmem S256x16 .f32) (ha : a.IsWhole) (x : Vec Ideal S256x16 .f32) (o : Fin 16)
    (r : Fin 256) : lX a ha x o (ix2 r 0) = x (ix2 r o) := by
  have h := lW_eq a ha x
  unfold lX
  rw [h]
  show x _ = x _
  congr 1
  funext k; fin_cases k <;> (apply Fin.ext; simp [ix2])

section Stores

variable {F : FTy → Type} [FloatOps F]
variable (aq : Memref sig .tc .vmem S256x2048 .bf16) (hq : aq.IsWhole) (xq : Vec F S256x2048 .bf16)
  (ak : Memref sig .tc .vmem S2048x256 .bf16) (hk : ak.IsWhole) (xk : Vec F S2048x256 .bf16)
  (av : Memref sig .tc .vmem S256x2048 .bf16) (hv : av.IsWhole) (xv : Vec F S256x2048 .bf16)
  (ag : Memref sig .tc .vmem S256x16 .f32) (hg : ag.IsWhole) (xg : Vec F S256x16 .f32)
  (at' : Memref sig .tc .vmem S16x256 .f32) (ht : at'.IsWhole) (xt : Vec F S16x256 .f32)
  (am : Memref sig .tc .vmem S2x256x256 .f32) (hm : am.IsWhole) (xm : Vec F S2x256x256 .f32)
  (an : Memref sig .tc .vmem S2x256x256 .f32) (hn : an.IsWhole) (xn : Vec F S2x256x256 .f32)

/-- The hidden tile of one direction and head, of the windows and of the state's words as loaded. -/
def tOut (d d' : Fin 2) (h : Fin 4) (cb : Vec F S1x1x512x512 .bf16) (n : Vec F S1x1x512x128 .f32) (mm : Vec F S1x1 .f32) :
    FVec F S256x512 .bf16 :=
  wOut (lQ aq hq xq h) (lK ak hk xk h) (lQ av hv xv h) (lG at' ht xt (iCol d h)) (lG at' ht xt (fCol d h))
    (lM am hm xm d) (lM am hm xm d') (lM an hn xn d) (lX ag hg xg (fCol d h)) cb n mm

/-- The memory tile of one direction and head. -/
def tMem (d : Fin 2) (h : Fin 4) (mm : Vec F S1x1 .f32) (cc : Vec F S1x1x512x512 .f32) : FVec F S1x1x512x512 .f32 :=
  wMem (lK ak hk xk h) (lQ av hv xv h) (lX ag hg xg (iCol d h)) (lG at' ht xt (fCol d h)) (lM am hm xm d) mm cc

/-- The narrow memory tile of one direction and head. -/
def tMemB (d : Fin 2) (h : Fin 4) (mm : Vec F S1x1 .f32) (cc : Vec F S1x1x512x512 .f32) : FVec F S1x1x512x512 .bf16 :=
  wMemB (lK ak hk xk h) (lQ av hv xv h) (lX ag hg xg (iCol d h)) (lG at' ht xt (fCol d h)) (lM am hm xm d) mm cc

/-- The normalizer tile of one direction and head. -/
def tNrm (d : Fin 2) (h : Fin 4) (mm : Vec F S1x1 .f32) (n : Vec F S1x1x512x128 .f32) : FVec F S1x1x512x128 .f32 :=
  wNrm (lK ak hk xk h) (lX ag hg xg (iCol d h)) (lG at' ht xt (fCol d h)) (lM am hm xm d) mm n

/-- The stabilizer tile of one direction and head. -/
def tStab (d : Fin 2) (h : Fin 4) (mm : Vec F S1x1 .f32) : FVec F S1x1x8x128 .f32 :=
  wStabT (lX ag hg xg (iCol d h)) (lG at' ht xt (fCol d h)) (lM am hm xm d) mm

end Stores

section Stack

variable {F : FTy → Type} [FloatOps F]

/-- The direction and the head whose tiles are stored at a given place of the order. -/
def dOf (k : ℕ) : Fin 2 := ⟨k / 4 % 2, Nat.mod_lt _ (by decide)⟩
/-- The head whose tiles are stored at a given place of the order. -/
def hOf (k : ℕ) : Fin 4 := ⟨k % 4, Nat.mod_lt _ (by decide)⟩

/-- Stores made one after the other above a list of earlier ones, last first; each may look at those before it. -/
def stack {S : Shape} {e : EltTy} (base : List (View.Piece (Elt F) S e)) (R : ℕ → Rect S)
    (w : (k : ℕ) → List (View.Piece (Elt F) S e) → ((R k).shape.Idx → Elt F e)) : ℕ → List (View.Piece (Elt F) S e)
  | 0 => base
  | k + 1 => ⟨R k, w k (stack base R w k)⟩ :: stack base R w k

variable {S : Shape} {e : EltTy} [∀ e, Nonempty (Elt F e)] {base : List (View.Piece (Elt F) S e)} {R : ℕ → Rect S}
  {w : (k : ℕ) → List (View.Piece (Elt F) S e) → ((R k).shape.Idx → Elt F e)} {key : S.Idx → ℕ} {n : ℕ}

/-- The places no store has reached yet hold what they held before. -/
theorem stack_miss (hkey : ∀ k < n, ∀ y ∈ (R k).set, key y = k) :
    ∀ k ≤ n, ∀ y, k ≤ key y → View.canon (stack base R w k) y = View.canon base y
  | 0, _, _, _ => rfl
  | k + 1, hk, y, hy => by
    have hm : y ∉ (R k).set := fun h => by
      have := hkey k (by omega) y h
      omega
    show View.canon (_ :: _) y = _
    rw [View.canon_cons_of_not_mem (⟨R k, w k (stack base R w k)⟩ : View.Piece (Elt F) S e) _ hm]
    exact stack_miss hkey k (by omega) y (by omega)

/-- The places stores have reached hold what was stored there. -/
theorem stack_hit {G : S.Idx → Elt F e} (hkey : ∀ k < n, ∀ y ∈ (R k).set, key y = k)
    (hcov : ∀ y, key y < n → y ∈ (R (key y)).set)
    (hG : ∀ k < n, ∀ x, w k (stack base R w k) x = G ((R k).emb x)) :
    ∀ k ≤ n, ∀ y, key y < k → View.canon (stack base R w k) y = G y
  | 0, _, _, h => absurd h (Nat.not_lt_zero _)
  | k + 1, hk, y, hy => by
    show View.canon (_ :: _) y = _
    by_cases h : key y = k
    · have hm : y ∈ (R k).set := h ▸ hcov y (by omega)
      obtain ⟨x, rfl⟩ := (R k).exists_idx_of_mem hm
      rw [show (R k).idx x = (R k).emb x from rfl, View.canon_cons_emb]
      exact hG k (by omega) x
    · have hm : y ∉ (R k).set := fun h' => h (hkey k (by omega) y h')
      rw [View.canon_cons_of_not_mem (⟨R k, w k (stack base R w k)⟩ : View.Piece (Elt F) S e) _ hm]
      exact stack_hit hkey hcov hG k (by omega) y (by omega)

omit [∀ e, Nonempty (Elt F e)] in
/-- The earlier stores stay in the list. -/
theorem mem_stack {p : View.Piece (Elt F) S e} (hp : p ∈ base) : ∀ k, p ∈ stack base R w k
  | 0 => hp
  | k + 1 => List.mem_cons_of_mem _ (mem_stack hp k)

end Stack

end Cert.Scan

end
-- ==== Proof.Scan.Order.lean ====
/- The order in which a direction of a batch visits the rows of the packed arrays, and the tokens it finds there. -/
module

public import proofs.«01_k».proof.Proof.Scan.Tiles

@[expose] public section

noncomputable section

namespace Cert.Scan

open Idealize.ShloMosaic

/-- The row that direction `d` of batch `b` visits at time `t`: first the 256 context rows, then the 8192 latent rows, each stretch read
    backwards by direction 1. -/
def rowN (d b : Fin 2) (t : ℕ) : ℕ :=
  if t < 256 then 16384 + 256 * b.val + (if d = 0 then t else 255 - t)
  else 8192 * b.val + (if d = 0 then t - 256 else 8447 - t)

/-- That row as an index of the packed arrays (reduced into range past the last token). -/
def row (d b : Fin 2) (t : ℕ) : Fin 16896 := ⟨rowN d b t % 16896, Nat.mod_lt _ (by norm_num)⟩

theorem rowN_lt (d b : Fin 2) {t : ℕ} (ht : t < 8448) : rowN d b t < 16896 := by
  unfold rowN; have := b.isLt; split_ifs <;> omega

theorem row_val (d b : Fin 2) {t : ℕ} (ht : t < 8448) : (row d b t).val = rowN d b t := Nat.mod_eq_of_lt (rowN_lt d b ht)

/-- The packed queries, transposed keys, values and gates, as arrays of extended reals. -/
abbrev Rows := (⟨2, ![16896, 2048]⟩ : Shape).Idx → EReal
abbrev Cols := (⟨2, ![2048, 16896]⟩ : Shape).Idx → EReal
abbrev Gates := (⟨2, ![16896, 16]⟩ : Shape).Idx → EReal

/-- The forget gate of a head at a time, before the logistic function. -/
def gateY (g : Gates) (d b : Fin 2) (h : Fin 4) (t : ℕ) : ℝ := (g (ix2 (row d b t) (fCol d h))).toReal

/-- The tokens of one chain. -/
def tok (q : Rows) (kt : Cols) (v : Rows) (g : Gates) (d b : Fin 2) (h : Fin 4) : Tokens where
  q t a := (q (ix2 (row d b t) (hcol h a))).toReal
  k t a := (kt (ix2 (hcol h a) (row d b t))).toReal
  v t a := (v (ix2 (row d b t) (hcol h a))).toReal
  i t := (g (ix2 (row d b t) (iCol d h))).toReal
  f t := logSigmoid (gateY g d b h t)

/-- Every entry of an array is a real number. -/
def Real {s : Shape} (x : s.Idx → EReal) : Prop := ∀ i, x i = ((x i).toReal : EReal)

/-- An entry whose absolute value is below plus infinity is a real number. -/
theorem real_of_abs_lt {x : EReal} (h : max x (-x) < ⊤) : x = (x.toReal : EReal) := by
  refine (EReal.coe_toReal ?_ ?_).symm
  · rintro rfl; simp at h
  · rintro rfl; simp at h

/-- The chain that visits a row, and when: every row of the packed arrays is visited by either direction of one batch. -/
theorem exists_time (d : Fin 2) (r : Fin 16896) : ∃ (b : Fin 2) (t : ℕ), t < 8448 ∧ row d b t = r := by
  have hr := r.isLt
  have key : ∃ (b : Fin 2) (t : ℕ), t < 8448 ∧ rowN d b t = r.val := by
    by_cases h1 : r.val < 16384
    · refine ⟨⟨r.val / 8192, by omega⟩, if d = 0 then r.val % 8192 + 256 else 8447 - r.val % 8192, ?_, ?_⟩
      · split_ifs <;> omega
      · unfold rowN; dsimp only; split_ifs <;> omega
    · refine ⟨⟨(r.val - 16384) / 256, by omega⟩, if d = 0 then (r.val - 16384) % 256 else 255 - (r.val - 16384) % 256, ?_, ?_⟩
      · split_ifs <;> omega
      · unfold rowN; dsimp only; split_ifs <;> omega
  obtain ⟨b, t, ht, e⟩ := key
  exact ⟨b, t, ht, Fin.ext ((row_val d b ht).trans e)⟩

/-- The hidden vector that direction `d` leaves at each row, if the arrays hold what `tok` says: `o` is that result. -/
def Result (q : Rows) (kt : Cols) (v : Rows) (g : Gates) (d : Fin 2) (o : Rows) : Prop :=
  ∀ b t, t < 8448 → ∀ h a, o (ix2 (row d b t) (hcol h a)) = ((tok q kt v g d b h).h t a : EReal)

/-- There is only one such result. -/
theorem Result.unique {q : Rows} {kt : Cols} {v : Rows} {g : Gates} {d : Fin 2} {o o' : Rows}
    (ho : Result q kt v g d o) (ho' : Result q kt v g d o') : o = o' := by
  funext i
  obtain ⟨b, t, ht, e⟩ := exists_time d (i 0)
  have hi1 : (i 1).val < 2048 := (i 1).isLt
  have : i = ix2 (row d b t) (hcol ⟨(i 1).val / 512, by omega⟩ ⟨(i 1).val % 512, by omega⟩) := by
    funext k
    fin_cases k
    · exact e.symm
    · apply Fin.ext; show (i 1).val = 512 * ((i 1).val / 512) + (i 1).val % 512; omega
  rw [this, ho b t ht, ho' b t ht]

end Cert.Scan

end
-- ==== Proof.Scan.Masks.lean ====
/- The masks and the transposed gates that the host prepares for the kernel's windows. -/
module

public import proofs.«01_k».proof.Proof.Gen.KernelIdeal.Value
public import proofs.«01_k».proof.Proof.Scan.Order
public import Idealize.ShloMosaic.Lib.Pipeline.ValueKit
public import Idealize.ShloMosaic.Lib.WordCmp
public import Idealize.ShloMosaic.Lib.StableHlo.RunRead
public import Idealize.ShloMosaic.Lib.Claim

@[expose] public section

set_option maxRecDepth 16384

noncomputable section

namespace Cert.Scan

open Idealize.ShloMosaic Idealize.ShloMosaic.TcCoe Cert.KernelIdeal Cert.KernelIdeal.Gen

variable (m : (ℓ : Loc nD τ sig) → Buf (Elt Ideal) ℓ) (c : Dev nD)

/-- The transposed gates that the windows read. -/
theorem entry_v0 (k : Fin 16) (R : Fin 16896) :
    V m c main_v0 (ix2 k R) = m ((c : Thread nD τ).loc main_arg3) (ix2 R k) := by
  simp only [V, List.flatten_cons, List.flatten_nil, List.append_nil, List.cons_append, List.nil_append]
  after_reads_simp
  pointwise

/-- The lower triangle of ones. -/
def triA : Vec Ideal S256x256 .f32 :=
  select (cmpi .sge (addi (iotaInDim S256x256 32 0) (broadcastInDim S256x256 ![] bcast_S_S256x256 (constantI S_ 32 0#32)))
    (iotaInDim S256x256 32 1)) (broadcastInDim S256x256 ![] bcast_S_S256x256 (constant (F := Ideal) S_ .f32 1065353216#32))
    (broadcastInDim S256x256 ![] bcast_S_S256x256 (constant (F := Ideal) S_ .f32 0#32))

/-- The triangle and its transpose. -/
def visA : Vec Ideal S2x256x256 .f32 :=
  concatenate S2x256x256 0 [⟨S1x256x256, broadcastInDim S1x256x256 ![1, 2] bcast_S256x256_S1x256x256_1_2 triA⟩,
    ⟨S1x256x256, broadcastInDim S1x256x256 ![1, 2] bcast_S256x256_S1x256x256_1_2
      (transpose S256x256 [1, 0] triA transposes_S256x256_S256x256_1_0)⟩] concatenates_S1x256x256_S1x256x256_S2x256x256_d0

/-- Zero where it is one, minus infinity elsewhere. -/
def negA : Vec Ideal S2x256x256 .f32 :=
  select (cmpf .ogt visA (broadcastInDim S2x256x256 ![] bcast_S_S2x256x256 (constant (F := Ideal) S_ .f32 0#32)))
    (broadcastInDim S2x256x256 ![] bcast_S_S2x256x256 (constant (F := Ideal) S_ .f32 0#32))
    (broadcastInDim S2x256x256 ![] bcast_S_S2x256x256 (constant (F := Ideal) S_ .f32 4286578688#32))

theorem entry_v6 : V m c main_v6 = visA := by
  simp only [V, List.flatten_cons, List.flatten_nil, List.append_nil, List.cons_append, List.nil_append]
  after_reads_simp
  rfl

theorem entry_v10 : V m c main_v10 = negA := by
  simp only [V, List.flatten_cons, List.flatten_nil, List.append_nil, List.cons_append, List.nil_append]
  after_reads_simp
  rfl

theorem triA_apply (r s : Fin 256) : triA (ix2 r s) = if s ≤ r then (1 : EReal) else 0 := by
  unfold triA
  pointwise
  show (if IntOp.cmpi .sge (BitVec.ofNat 32 r.val + 0#32) (BitVec.ofNat 32 s.val) = 1#1 then (1 : EReal) else 0) = _
  rw [BitVec.add_zero]
  refine if_congr ?_ rfl rfl
  rw [WordCmp.cmpi_sge_ofNat_eq_one_iff (by omega) (by omega)]
  rfl

theorem visA_apply (d : Fin 2) (r s : Fin 256) : visA (ix3 d r s) = if (if d = 0 then s ≤ r else r ≤ s) then (1 : EReal) else 0 := by
  unfold visA
  fin_cases d
  · pointwise
    exact triA_apply r s
  · pointwise
    exact triA_apply s r

theorem negA_apply (d : Fin 2) (r s : Fin 256) : negA (ix3 d r s) = if (if d = 0 then s ≤ r else r ≤ s) then (0 : EReal) else ⊥ := by
  unfold negA
  pointwise
  rw [visA_apply, ofBits_negInf]
  by_cases h : (if d = 0 then s ≤ r else r ≤ s) <;> simp only [h, if_true, if_false] <;> simp

end Cert.Scan

end
-- ==== Proof.Scan.Store.lean ====
/- One grid point: what its tiles are when the windows hold the tokens of a chunk and the state's words hold the state carried to it, and
   what the stores leave, tile by tile. -/
module

public import proofs.«01_k».proof.Proof.Scan.Tiles

@[expose] public section

set_option maxRecDepth 16384

noncomputable section

namespace Cert.Scan

open Idealize.ShloMosaic Idealize.ShloMosaic.TcCoe Cert.KernelIdeal Cert.KernelIdeal.Gen

/-- The windows of one direction hold the tokens of the chunk that starts at time `T`, row `r` being the token of time `T + pos r`:
    queries, transposed keys, values, gates and transposed gates of every head, and the masks of the direction. -/
structure Win (X : Fin 4 → Tokens) (Y : Fin 4 → ℕ → ℝ) (T : ℕ) (pos : Equiv.Perm (Fin 256)) (d d' : Fin 2)
    (xq : Vec Ideal S256x2048 .bf16) (xk : Vec Ideal S2048x256 .bf16) (xv : Vec Ideal S256x2048 .bf16)
    (xg : Vec Ideal S256x16 .f32) (xt : Vec Ideal S16x256 .f32) (xm xn : Vec Ideal S2x256x256 .f32) : Prop where
  gate : ∀ h t, (X h).f t = logSigmoid (Y h t)
  q : ∀ h r a, xq (ix2 r (hcol h a)) = ((X h).q (T + (pos r).val) a : EReal)
  k : ∀ h a s, xk (ix2 (hcol h a) s) = ((X h).k (T + (pos s).val) a : EReal)
  v : ∀ h s b, xv (ix2 s (hcol h b)) = ((X h).v (T + (pos s).val) b : EReal)
  gi : ∀ h s, xg (ix2 s (iCol d h)) = ((X h).i (T + (pos s).val) : EReal)
  gf : ∀ h s, xg (ix2 s (fCol d h)) = (Y h (T + (pos s).val) : EReal)
  ti : ∀ h s, xt (ix2 (iCol d h) s) = ((X h).i (T + (pos s).val) : EReal)
  tf : ∀ h s, xt (ix2 (fCol d h) s) = (Y h (T + (pos s).val) : EReal)
  va : ∀ r s, xm (ix3 d r s) = if pos s ≤ pos r then 1 else 0
  vb : ∀ s r, xm (ix3 d' s r) = if pos s ≤ pos r then 1 else 0
  ng : ∀ r s, xn (ix3 d r s) = if pos s ≤ pos r then 0 else ⊥

section Tiles

variable {aq : Memref sig .tc .vmem S256x2048 .bf16} {hq : aq.IsWhole} {xq : Vec Ideal S256x2048 .bf16}
  {ak : Memref sig .tc .vmem S2048x256 .bf16} {hk : ak.IsWhole} {xk : Vec Ideal S2048x256 .bf16}
  {av : Memref sig .tc .vmem S256x2048 .bf16} {hv : av.IsWhole} {xv : Vec Ideal S256x2048 .bf16}
  {ag : Memref sig .tc .vmem S256x16 .f32} {hg : ag.IsWhole} {xg : Vec Ideal S256x16 .f32}
  {at' : Memref sig .tc .vmem S16x256 .f32} {ht : at'.IsWhole} {xt : Vec Ideal S16x256 .f32}
  {am : Memref sig .tc .vmem S2x256x256 .f32} {hm : am.IsWhole} {xm : Vec Ideal S2x256x256 .f32}
  {an : Memref sig .tc .vmem S2x256x256 .f32} {hn : an.IsWhole} {xn : Vec Ideal S2x256x256 .f32}
  {X : Fin 4 → Tokens} {Y : Fin 4 → ℕ → ℝ} {T : ℕ} {pos : Equiv.Perm (Fin 256)} {d d' : Fin 2}

/-- Keys and values read from the windows, with the loads of the gates, hold one head's tokens. -/
theorem Win.loaded_of (W : Win X Y T pos d d' xq xk xv xg xt xm xn) (h : Fin 4) {ktv : Vec Ideal S512x256 .bf16}
    {vv : Vec Ideal S256x512 .bf16} (ek : ∀ a s, ktv (ix2 a s) = xk (ix2 (hcol h a) s))
    (ev : ∀ s b, vv (ix2 s b) = xv (ix2 s (hcol h b))) :
    Loaded (X h) (Y h) T pos ktv vv (lG at' ht xt (fCol d h)) (lM am hm xm d) (lX ag hg xg (iCol d h)) where
  gate := W.gate h
  k a s := (ek a s).trans (W.k h a s)
  v s b := (ev s b).trans (W.v h s b)
  gi s := (lX_apply _ _ _ _ _).trans (W.gi h s)
  rf s := (lG_apply _ _ _ _ _).trans (W.tf h s)
  va r s := (lM_apply _ _ _ _ _ _).trans (W.va r s)

/-- The loads of one head's keys, values and gates hold its tokens. -/
theorem Win.loaded (W : Win X Y T pos d d' xq xk xv xg xt xm xn) (h : Fin 4) :
    Loaded (X h) (Y h) T pos (lK ak hk xk h) (lQ av hv xv h) (lG at' ht xt (fCol d h)) (lM am hm xm d) (lX ag hg xg (iCol d h)) :=
  W.loaded_of h (fun _ _ => lK_apply _ _ _ _ _ _) (fun _ _ => lQ_apply _ _ _ _ _ _)

/-- The loads of one head's queries hold its tokens. -/
theorem Win.loadedQ (W : Win X Y T pos d d' xq xk xv xg xt xm xn) (h : Fin 4) :
    LoadedQ (X h) (Y h) T pos (lQ aq hq xq h) (lG at' ht xt (iCol d h)) (lM am hm xm d') (lM an hn xn d) (lX ag hg xg (fCol d h)) where
  q r a := (lQ_apply _ _ _ _ _ _).trans (W.q h r a)
  ri s := (lG_apply _ _ _ _ _).trans (W.ti h s)
  gf s := (lX_apply _ _ _ _ _).trans (W.gf h s)
  vb s r := (lM_apply _ _ _ _ _ _).trans (W.vb s r)
  ng r s := (lM_apply _ _ _ _ _ _).trans (W.ng r s)

variable (W : Win X Y T pos d d' xq xk xv xg xt xm xn) {h : Fin 4} {mm : Vec Ideal S1x1 .f32}
  (hmm : mm (ix2 0 0) = ((X h).m T : EReal))

include W hmm

/-- The hidden tile of a head. -/
theorem Win.tOut_apply {cb : Vec Ideal S1x1x512x512 .bf16} {n : Vec Ideal S1x1x512x128 .f32}
    (hc : ∀ a b, cb (ix4 0 0 a b) = ((X h).C T a b : EReal)) (hN : ∀ a l, n (ix4 0 0 a l) = ((X h).N T a : EReal))
    (r : Fin 256) (b : Fin 512) :
    tOut aq hq xq ak hk xk av hv xv ag hg xg at' ht xt am hm xm an hn xn d d' h cb n mm (ix2 r b)
      = ((X h).h (T + (pos r).val) b : EReal) :=
  wOut_apply (W.loaded (hg := hg) h) (W.loadedQ h) hmm hc hN r b

/-- The memory tile of a head. -/
theorem Win.tMem_apply {cc : Vec Ideal S1x1x512x512 .f32} (hc : ∀ a b, cc (ix4 0 0 a b) = ((X h).C T a b : EReal)) (a b : Fin 512) :
    tMem ak hk xk av hv xv ag hg xg at' ht xt am hm xm d h mm cc (ix4 0 0 a b) = ((X h).C (T + 256) a b : EReal) :=
  wMem_apply (W.loaded h) hmm hc a b

/-- The narrow memory tile of a head. -/
theorem Win.tMemB_apply {cc : Vec Ideal S1x1x512x512 .f32} (hc : ∀ a b, cc (ix4 0 0 a b) = ((X h).C T a b : EReal)) (a b : Fin 512) :
    tMemB ak hk xk av hv xv ag hg xg at' ht xt am hm xm d h mm cc (ix4 0 0 a b) = ((X h).C (T + 256) a b : EReal) :=
  wMemB_apply (W.loaded h) hmm hc a b

/-- The normalizer tile of a head. -/
theorem Win.tNrm_apply {n : Vec Ideal S1x1x512x128 .f32} (hN : ∀ a l, n (ix4 0 0 a l) = ((X h).N T a : EReal)) (a : Fin 512) (l : Fin 128) :
    tNrm ak hk xk ag hg xg at' ht xt am hm xm d h mm n (ix4 0 0 a l) = ((X h).N (T + 256) a : EReal) :=
  wNrm_apply (vv := fun j => xv (ix2 (j 0) (hcol h (j 1)))) (W.loaded_of h (fun _ _ => lK_apply _ _ _ _ _ _) fun _ _ => rfl)
    hmm hN a l

/-- The stabilizer tile of a head. -/
theorem Win.tStab_apply (a : Fin 8) (l : Fin 128) :
    tStab ag hg xg at' ht xt am hm xm d h mm (ix4 0 0 a l) = ((X h).m (T + 256) : EReal) :=
  wStabT_apply (vv := fun j => xv (ix2 (j 0) (hcol h (j 1)))) (ktv := fun j => xk (ix2 (hcol h (j 0)) (j 1)))
    (W.loaded_of h (fun _ _ => rfl) fun _ _ => rfl) hmm a l

end Tiles

section Lists

variable {F : FTy → Type} [FloatOps F]

/-- The stores of one direction's hidden tiles. -/
def outS (w : Fin 4 → FVec F S256x512 .bf16) : List (View.Piece (Elt F) S256x2048 .bf16) :=
  stack [] (fun k => rQ (hOf k)) (fun k _ => w (hOf k)) 4

/-- The stores of the stabilizer tiles, the first so many of them, above earlier stores. -/
def stabS (b : List (View.Piece (Elt F) S2x4x8x128 .f32))
    (t : Fin 2 → Fin 4 → List (View.Piece (Elt F) S2x4x8x128 .f32) → FVec F S1x1x8x128 .f32) : ℕ → List (View.Piece (Elt F) S2x4x8x128 .f32) :=
  stack b (fun k => rS (dOf k) (hOf k)) (fun k => t (dOf k) (hOf k))

/-- The stores of the memory tiles, the first so many of them, above earlier stores. -/
def memS (b : List (View.Piece (Elt F) S2x4x512x512 .f32))
    (t : Fin 2 → Fin 4 → List (View.Piece (Elt F) S2x4x512x512 .f32) → FVec F S1x1x512x512 .f32) : ℕ → List (View.Piece (Elt F) S2x4x512x512 .f32) :=
  stack b (fun k => rC (dOf k) (hOf k)) (fun k => t (dOf k) (hOf k))

/-- The stores of the narrow memory tiles, the first so many of them, above earlier stores. -/
def memBS (b : List (View.Piece (Elt F) S2x4x512x512 .bf16))
    (t : Fin 2 → Fin 4 → List (View.Piece (Elt F) S2x4x512x512 .bf16) → FVec F S1x1x512x512 .bf16) : ℕ → List (View.Piece (Elt F) S2x4x512x512 .bf16) :=
  stack b (fun k => rC (dOf k) (hOf k)) (fun k => t (dOf k) (hOf k))

/-- The stores of the normalizer tiles, the first so many of them, above earlier stores. -/
def nrmS (b : List (View.Piece (Elt F) S2x4x512x128 .f32))
    (t : Fin 2 → Fin 4 → List (View.Piece (Elt F) S2x4x512x128 .f32) → FVec F S1x1x512x128 .f32) : ℕ → List (View.Piece (Elt F) S2x4x512x128 .f32) :=
  stack b (fun k => rN (dOf k) (hOf k)) (fun k => t (dOf k) (hOf k))

/-- The store of zeros over the whole stabilizer. -/
def zS : List (View.Piece (Elt F) S2x4x8x128 .f32) := [⟨Rect.unit (s := S2x4x8x128) ![0, 0, 0, 0] S2x4x8x128.size inb_S2x4x8x128_S2x4x8x128_0_0_0_0, k0_pay5⟩]

/-- The store of zeros over the whole memory. -/
def zC : List (View.Piece (Elt F) S2x4x512x512 .f32) := [⟨Rect.unit (s := S2x4x512x512) ![0, 0, 0, 0] S2x4x512x512.size inb_S2x4x512x512_S2x4x512x512_0_0_0_0, k0_pay2⟩]

/-- The store of zeros over the whole narrow memory. -/
def zB : List (View.Piece (Elt F) S2x4x512x512 .bf16) := [⟨Rect.unit (s := S2x4x512x512) ![0, 0, 0, 0] S2x4x512x512.size inb_S2x4x512x512_S2x4x512x512_0_0_0_0, k0_pay3⟩]

/-- The store of zeros over the whole normalizer. -/
def zN : List (View.Piece (Elt F) S2x4x512x128 .f32) := [⟨Rect.unit (s := S2x4x512x128) ![0, 0, 0, 0] S2x4x512x128.size inb_S2x4x512x128_S2x4x512x128_0_0_0_0, k0_pay4⟩]

end Lists

/-- A head's place in the order of the stores. -/
def place (d : Fin 2) (h : Fin 4) : ℕ := 4 * d.val + h.val

theorem place_lt (d : Fin 2) (h : Fin 4) : place d h < 8 := by unfold place; omega
theorem dOf_place (d : Fin 2) (h : Fin 4) : dOf (place d h) = d := by revert d h; decide
theorem hOf_place (d : Fin 2) (h : Fin 4) : hOf (place d h) = h := by revert d h; decide
theorem place_of {k : ℕ} (hk : k < 8) : place (dOf k) (hOf k) = k := by
  unfold place dOf hOf
  show 4 * (k / 4 % 2) + k % 4 = k
  omega

/-- The hidden tiles' stores leave each head's tile in its columns. -/
theorem outS_canon (w : Fin 4 → FVec Ideal S256x512 .bf16) (r : Fin 256) (h : Fin 4) (b : Fin 512) :
    View.canon (Val := Elt Ideal) (outS w) (ix2 r (hcol h b)) = w h (ix2 r b) := by
  have hb : ((ix2 r (hcol h b) : S256x2048.Idx) 1).val = 512 * h.val + b.val := rfl
  have he : (rQ h).emb (ix2 r b) = ix2 r (hcol h b) := by
    show (rQ h).idx (ix2 r b) = _
    funext k; fin_cases k <;> (apply Fin.ext; simp [rQ, Rect.unit, ix2, hcol])
  have hh : ∀ k < 4, (hOf k).val = k := fun k hk => Nat.mod_eq_of_lt hk
  refine (stack_hit (F := Ideal) (n := 4) (key := fun y => (y 1).val / 512)
    (G := fun y => w (hOf ((y 1).val / 512)) (ix2 (y 0) ⟨(y 1).val % 512, Nat.mod_lt _ (by decide)⟩)) ?_ ?_ ?_ 4 le_rfl _ ?_).trans ?_
  · intro k hk y hy
    have h1 := Rect.mem_set_unit.mp hy 1
    have := hh k hk
    simp only [Matrix.cons_val_one, Matrix.cons_val_zero, S256x512] at h1
    show (y 1).val / 512 = k
    omega
  · intro y hy
    refine Rect.mem_set_unit.mpr fun a => ?_
    have := hh _ hy
    have h0 := (y 0).isLt
    fin_cases a
    · simpa [S256x512] using h0
    · simp [S256x512]; omega
  · intro k hk x
    have hx0 : ((rQ (hOf k)).emb x 0).val = (x 0).val := by
      show 0 + 1 * (x 0).val = _
      omega
    have hx1 : ((rQ (hOf k)).emb x 1).val = 512 * k + (x 1).val := by
      show 512 * (hOf k).val + 1 * (x 1).val = _
      rw [hh k hk, one_mul]
    have hlt : (x 1).val < 512 := (x 1).isLt
    have hk' : hOf (((rQ (hOf k)).emb x 1).val / 512) = hOf k := by rw [hx1]; congr 1; omega
    show w (hOf k) x = w (hOf (((rQ (hOf k)).emb x 1).val / 512)) _
    rw [hk']
    congr 1
    funext a
    fin_cases a
    · exact Fin.ext hx0.symm
    · apply Fin.ext
      show (x 1).val = ((rQ (hOf k)).emb x 1).val % 512
      rw [hx1]; omega
  · show (512 * h.val + b.val) / 512 < 4
    omega
  · have h1 : hOf ((512 * h.val + b.val) / 512) = h := by
      apply Fin.ext; show (512 * h.val + b.val) / 512 % 4 = _; omega
    show w (hOf ((512 * h.val + b.val) / 512)) _ = _
    rw [h1]
    congr 1
    funext a
    fin_cases a
    · rfl
    · apply Fin.ext; show (512 * h.val + b.val) % 512 = b.val; omega

/-- A tile's place is that of every index in it. -/
theorem rS_key {k : ℕ} (hk : k < 8) {y : S2x4x8x128.Idx} (hy : y ∈ (rS (dOf k) (hOf k)).set) : 4 * (y 0).val + (y 1).val = k := by
  have h0 := Rect.mem_set_unit.mp hy 0
  have h1 := Rect.mem_set_unit.mp hy 1
  have := place_of hk
  unfold place at this
  simp [S1x1x8x128] at h0 h1
  omega

/-- Every index is in the tile of its place. -/
theorem rS_cov (y : S2x4x8x128.Idx) : y ∈ (rS (dOf (4 * (y 0).val + (y 1).val)) (hOf (4 * (y 0).val + (y 1).val))).set := by
  have h0 : (y 0).val < 2 := (y 0).isLt
  have h1 : (y 1).val < 4 := (y 1).isLt
  have h2 : (y 2).val < 8 := (y 2).isLt
  have h3 : (y 3).val < 128 := (y 3).isLt
  have hd : (dOf (4 * (y 0).val + (y 1).val)).val = (y 0).val := by
    show (4 * (y 0).val + (y 1).val) / 4 % 2 = _
    omega
  have hh : (hOf (4 * (y 0).val + (y 1).val)).val = (y 1).val := by
    show (4 * (y 0).val + (y 1).val) % 4 = _
    omega
  refine Rect.mem_set_unit.mpr fun a => ?_
  fin_cases a
  · simp [hd, S1x1x8x128]
  · simp [hh, S1x1x8x128]
  · simpa [S1x1x8x128] using h2
  · simpa [S1x1x8x128] using h3

/-- The tile's index of an element. -/
theorem rS_emb (d : Fin 2) (h : Fin 4) (a : Fin 8) (b : Fin 128) : (rS d h).emb (ix4 0 0 a b) = ix4 d h a b := by
  show (rS d h).idx (ix4 0 0 a b) = _
  funext k; fin_cases k <;> (apply Fin.ext; simp [rS, Rect.unit, ix4])

section
variable {base : List (View.Piece (Elt Ideal) S2x4x8x128 .f32)}
  {t : Fin 2 → Fin 4 → List (View.Piece (Elt Ideal) S2x4x8x128 .f32) → FVec Ideal S1x1x8x128 .f32}

/-- Before its own store a stabilizer tile is as it was before all of them. -/
theorem stabS_miss (d : Fin 2) (h : Fin 4) (a : Fin 8) (b : Fin 128) :
    View.canon (Val := Elt Ideal) (stabS base t (4 * d.val + h.val)) (ix4 d h a b) = View.canon (Val := Elt Ideal) base (ix4 d h a b) :=
  stack_miss (F := Ideal) (n := 8) (key := fun y : S2x4x8x128.Idx => 4 * (y 0).val + (y 1).val) (fun _ hk _ hy => rS_key hk hy) _ (by omega) _ le_rfl

/-- After all the stores a stabilizer tile is what was stored there. -/
theorem stabS_hit (G : Fin 2 → Fin 4 → Fin 8 → Fin 128 → EReal)
    (hG : ∀ d h a b, t d h (stabS base t (4 * d.val + h.val)) (ix4 0 0 a b) = G d h a b)
    (d : Fin 2) (h : Fin 4) (a : Fin 8) (b : Fin 128) :
    View.canon (Val := Elt Ideal) (stabS base t 8) (ix4 d h a b) = G d h a b := by
  refine stack_hit (F := Ideal) (e := .f32) (n := 8) (key := fun y : S2x4x8x128.Idx => 4 * (y 0).val + (y 1).val)
    (G := fun y => G (y 0) (y 1) (y 2) (y 3)) (fun _ hk _ hy => rS_key hk hy) (fun y _ => rS_cov y) ?_ 8 le_rfl _ ?_
  · intro k hk x
    obtain ⟨x0, x1, a, b, rfl⟩ : ∃ (x0 x1 : Fin 1) (a : Fin 8) (b : Fin 128), x = ix4 x0 x1 a b :=
      ⟨x 0, x 1, x 2, x 3, by funext k; fin_cases k <;> rfl⟩
    obtain rfl := Subsingleton.elim x0 0
    obtain rfl := Subsingleton.elim x1 0
    have := hG (dOf k) (hOf k) a b
    rw [show 4 * (dOf k).val + (hOf k).val = k from place_of hk] at this
    rw [rS_emb]
    exact this
  · show 4 * d.val + h.val < 8
    omega

end

/-- A tile's place is that of every index in it. -/
theorem rC_key {k : ℕ} (hk : k < 8) {y : S2x4x512x512.Idx} (hy : y ∈ (rC (dOf k) (hOf k)).set) : 4 * (y 0).val + (y 1).val = k := by
  have h0 := Rect.mem_set_unit.mp hy 0
  have h1 := Rect.mem_set_unit.mp hy 1
  have := place_of hk
  unfold place at this
  simp [S1x1x512x512] at h0 h1
  omega

/-- Every index is in the tile of its place. -/
theorem rC_cov (y : S2x4x512x512.Idx) : y ∈ (rC (dOf (4 * (y 0).val + (y 1).val)) (hOf (4 * (y 0).val + (y 1).val))).set := by
  have h0 : (y 0).val < 2 := (y 0).isLt
  have h1 : (y 1).val < 4 := (y 1).isLt
  have h2 : (y 2).val < 512 := (y 2).isLt
  have h3 : (y 3).val < 512 := (y 3).isLt
  have hd : (dOf (4 * (y 0).val + (y 1).val)).val = (y 0).val := by
    show (4 * (y 0).val + (y 1).val) / 4 % 2 = _
    omega
  have hh : (hOf (4 * (y 0).val + (y 1).val)).val = (y 1).val := by
    show (4 * (y 0).val + (y 1).val) % 4 = _
    omega
  refine Rect.mem_set_unit.mpr fun a => ?_
  fin_cases a
  · simp [hd, S1x1x512x512]
  · simp [hh, S1x1x512x512]
  · simpa [S1x1x512x512] using h2
  · simpa [S1x1x512x512] using h3

/-- The tile's index of an element. -/
theorem rC_emb (d : Fin 2) (h : Fin 4) (a : Fin 512) (b : Fin 512) : (rC d h).emb (ix4 0 0 a b) = ix4 d h a b := by
  show (rC d h).idx (ix4 0 0 a b) = _
  funext k; fin_cases k <;> (apply Fin.ext; simp [rC, Rect.unit, ix4])

section
variable {base : List (View.Piece (Elt Ideal) S2x4x512x512 .f32)}
  {t : Fin 2 → Fin 4 → List (View.Piece (Elt Ideal) S2x4x512x512 .f32) → FVec Ideal S1x1x512x512 .f32}

/-- Before its own store a memory tile is as it was before all of them. -/
theorem memS_miss (d : Fin 2) (h : Fin 4) (a : Fin 512) (b : Fin 512) :
    View.canon (Val := Elt Ideal) (memS base t (4 * d.val + h.val)) (ix4 d h a b) = View.canon (Val := Elt Ideal) base (ix4 d h a b) :=
  stack_miss (F := Ideal) (n := 8) (key := fun y : S2x4x512x512.Idx => 4 * (y 0).val + (y 1).val) (fun _ hk _ hy => rC_key hk hy) _ (by omega) _ le_rfl

/-- After all the stores a memory tile is what was stored there. -/
theorem memS_hit (G : Fin 2 → Fin 4 → Fin 512 → Fin 512 → EReal)
    (hG : ∀ d h a b, t d h (memS base t (4 * d.val + h.val)) (ix4 0 0 a b) = G d h a b)
    (d : Fin 2) (h : Fin 4) (a : Fin 512) (b : Fin 512) :
    View.canon (Val := Elt Ideal) (memS base t 8) (ix4 d h a b) = G d h a b := by
  refine stack_hit (F := Ideal) (e := .f32) (n := 8) (key := fun y : S2x4x512x512.Idx => 4 * (y 0).val + (y 1).val)
    (G := fun y => G (y 0) (y 1) (y 2) (y 3)) (fun _ hk _ hy => rC_key hk hy) (fun y _ => rC_cov y) ?_ 8 le_rfl _ ?_
  · intro k hk x
    obtain ⟨x0, x1, a, b, rfl⟩ : ∃ (x0 x1 : Fin 1) (a : Fin 512) (b : Fin 512), x = ix4 x0 x1 a b :=
      ⟨x 0, x 1, x 2, x 3, by funext k; fin_cases k <;> rfl⟩
    obtain rfl := Subsingleton.elim x0 0
    obtain rfl := Subsingleton.elim x1 0
    have := hG (dOf k) (hOf k) a b
    rw [show 4 * (dOf k).val + (hOf k).val = k from place_of hk] at this
    rw [rC_emb]
    exact this
  · show 4 * d.val + h.val < 8
    omega

end

section
variable {base : List (View.Piece (Elt Ideal) S2x4x512x512 .bf16)}
  {t : Fin 2 → Fin 4 → List (View.Piece (Elt Ideal) S2x4x512x512 .bf16) → FVec Ideal S1x1x512x512 .bf16}

/-- Before its own store a narrow memory tile is as it was before all of them. -/
theorem memBS_miss (d : Fin 2) (h : Fin 4) (a : Fin 512) (b : Fin 512) :
    View.canon (Val := Elt Ideal) (memBS base t (4 * d.val + h.val)) (ix4 d h a b) = View.canon (Val := Elt Ideal) base (ix4 d h a b) :=
  stack_miss (F := Ideal) (n := 8) (key := fun y : S2x4x512x512.Idx => 4 * (y 0).val + (y 1).val) (fun _ hk _ hy => rC_key hk hy) _ (by omega) _ le_rfl

/-- After all the stores a narrow memory tile is what was stored there. -/
theorem memBS_hit (G : Fin 2 → Fin 4 → Fin 512 → Fin 512 → EReal)
    (hG : ∀ d h a b, t d h (memBS base t (4 * d.val + h.val)) (ix4 0 0 a b) = G d h a b)
    (d : Fin 2) (h : Fin 4) (a : Fin 512) (b : Fin 512) :
    View.canon (Val := Elt Ideal) (memBS base t 8) (ix4 d h a b) = G d h a b := by
  refine stack_hit (F := Ideal) (e := .bf16) (n := 8) (key := fun y : S2x4x512x512.Idx => 4 * (y 0).val + (y 1).val)
    (G := fun y => G (y 0) (y 1) (y 2) (y 3)) (fun _ hk _ hy => rC_key hk hy) (fun y _ => rC_cov y) ?_ 8 le_rfl _ ?_
  · intro k hk x
    obtain ⟨x0, x1, a, b, rfl⟩ : ∃ (x0 x1 : Fin 1) (a : Fin 512) (b : Fin 512), x = ix4 x0 x1 a b :=
      ⟨x 0, x 1, x 2, x 3, by funext k; fin_cases k <;> rfl⟩
    obtain rfl := Subsingleton.elim x0 0
    obtain rfl := Subsingleton.elim x1 0
    have := hG (dOf k) (hOf k) a b
    rw [show 4 * (dOf k).val + (hOf k).val = k from place_of hk] at this
    rw [rC_emb]
    exact this
  · show 4 * d.val + h.val < 8
    omega

end

/-- A tile's place is that of every index in it. -/
theorem rN_key {k : ℕ} (hk : k < 8) {y : S2x4x512x128.Idx} (hy : y ∈ (rN (dOf k) (hOf k)).set) : 4 * (y 0).val + (y 1).val = k := by
  have h0 := Rect.mem_set_unit.mp hy 0
  have h1 := Rect.mem_set_unit.mp hy 1
  have := place_of hk
  unfold place at this
  simp [S1x1x512x128] at h0 h1
  omega

/-- Every index is in the tile of its place. -/
theorem rN_cov (y : S2x4x512x128.Idx) : y ∈ (rN (dOf (4 * (y 0).val + (y 1).val)) (hOf (4 * (y 0).val + (y 1).val))).set := by
  have h0 : (y 0).val < 2 := (y 0).isLt
  have h1 : (y 1).val < 4 := (y 1).isLt
  have h2 : (y 2).val < 512 := (y 2).isLt
  have h3 : (y 3).val < 128 := (y 3).isLt
  have hd : (dOf (4 * (y 0).val + (y 1).val)).val = (y 0).val := by
    show (4 * (y 0).val + (y 1).val) / 4 % 2 = _
    omega
  have hh : (hOf (4 * (y 0).val + (y 1).val)).val = (y 1).val := by
    show (4 * (y 0).val + (y 1).val) % 4 = _
    omega
  refine Rect.mem_set_unit.mpr fun a => ?_
  fin_cases a
  · simp [hd, S1x1x512x128]
  · simp [hh, S1x1x512x128]
  · simpa [S1x1x512x128] using h2
  · simpa [S1x1x512x128] using h3

/-- The tile's index of an element. -/
theorem rN_emb (d : Fin 2) (h : Fin 4) (a : Fin 512) (b : Fin 128) : (rN d h).emb (ix4 0 0 a b) = ix4 d h a b := by
  show (rN d h).idx (ix4 0 0 a b) = _
  funext k; fin_cases k <;> (apply Fin.ext; simp [rN, Rect.unit, ix4])

section
variable {base : List (View.Piece (Elt Ideal) S2x4x512x128 .f32)}
  {t : Fin 2 → Fin 4 → List (View.Piece (Elt Ideal) S2x4x512x128 .f32) → FVec Ideal S1x1x512x128 .f32}

/-- Before its own store a normalizer tile is as it was before all of them. -/
theorem nrmS_miss (d : Fin 2) (h : Fin 4) (a : Fin 512) (b : Fin 128) :
    View.canon (Val := Elt Ideal) (nrmS base t (4 * d.val + h.val)) (ix4 d h a b) = View.canon (Val := Elt Ideal) base (ix4 d h a b) :=
  stack_miss (F := Ideal) (n := 8) (key := fun y : S2x4x512x128.Idx => 4 * (y 0).val + (y 1).val) (fun _ hk _ hy => rN_key hk hy) _ (by omega) _ le_rfl

/-- After all the stores a normalizer tile is what was stored there. -/
theorem nrmS_hit (G : Fin 2 → Fin 4 → Fin 512 → Fin 128 → EReal)
    (hG : ∀ d h a b, t d h (nrmS base t (4 * d.val + h.val)) (ix4 0 0 a b) = G d h a b)
    (d : Fin 2) (h : Fin 4) (a : Fin 512) (b : Fin 128) :
    View.canon (Val := Elt Ideal) (nrmS base t 8) (ix4 d h a b) = G d h a b := by
  refine stack_hit (F := Ideal) (e := .f32) (n := 8) (key := fun y : S2x4x512x128.Idx => 4 * (y 0).val + (y 1).val)
    (G := fun y => G (y 0) (y 1) (y 2) (y 3)) (fun _ hk _ hy => rN_key hk hy) (fun y _ => rN_cov y) ?_ 8 le_rfl _ ?_
  · intro k hk x
    obtain ⟨x0, x1, a, b, rfl⟩ : ∃ (x0 x1 : Fin 1) (a : Fin 512) (b : Fin 128), x = ix4 x0 x1 a b :=
      ⟨x 0, x 1, x 2, x 3, by funext k; fin_cases k <;> rfl⟩
    obtain rfl := Subsingleton.elim x0 0
    obtain rfl := Subsingleton.elim x1 0
    have := hG (dOf k) (hOf k) a b
    rw [show 4 * (dOf k).val + (hOf k).val = k from place_of hk] at this
    rw [rN_emb]
    exact this
  · show 4 * d.val + h.val < 8
    omega

end

section Reads

variable {e : EltTy}

/-- The word read of a head's stabilizer tile after some stores. -/
theorem word_readCov (a : Memref sig .tc .vmem S2x4x8x128 .f32) (L : List (View.Piece (Elt Ideal) S2x4x8x128 .f32)) (d : Fin 2) (h : Fin 4) :
    word (F := Ideal) d h (a.view.readCov L (rS1 d h)) (ix2 0 0) = View.canon (Val := Elt Ideal) L (ix4 d h 0 0) := by
  rw [View.readCov_eq_canon']
  show View.canon (Val := Elt Ideal) L ((rS1 d h).idx _) = _
  rw [rS1_idx]

/-- A tile read after some stores. -/
theorem rC_readCov (m : Memref sig .tc .vmem S2x4x512x512 e) (L : List (View.Piece (Elt Ideal) S2x4x512x512 e)) (d : Fin 2) (h : Fin 4)
    (a : Fin 512) (b : Fin 512) :
    m.view.readCov L (rC d h).toLoadRect (ix4 0 0 a b) = View.canon (Val := Elt Ideal) L (ix4 d h a b) := by
  rw [View.readCov_eq_canon']
  show View.canon (Val := Elt Ideal) L ((rC d h).emb _) = _
  rw [rC_emb]

/-- A tile read after some stores. -/
theorem rN_readCov (m : Memref sig .tc .vmem S2x4x512x128 e) (L : List (View.Piece (Elt Ideal) S2x4x512x128 e)) (d : Fin 2) (h : Fin 4)
    (a : Fin 512) (b : Fin 128) :
    m.view.readCov L (rN d h).toLoadRect (ix4 0 0 a b) = View.canon (Val := Elt Ideal) L (ix4 d h a b) := by
  rw [View.readCov_eq_canon']
  show View.canon (Val := Elt Ideal) L ((rN d h).emb _) = _
  rw [rN_emb]

/-- The zeros are zero. -/
theorem zS_canon (y : S2x4x8x128.Idx) : View.canon (Val := Elt Ideal) (zS (F := Ideal)) y = (0 : EReal) := by
  unfold zS
  rw [View.canon_unit_zero (funext fun k => by fin_cases k <;> rfl)]
  pointwise [k0_pay5]

/-- The zeros are zero. -/
theorem zC_canon (y : S2x4x512x512.Idx) : View.canon (Val := Elt Ideal) (zC (F := Ideal)) y = (0 : EReal) := by
  unfold zC
  rw [View.canon_unit_zero (funext fun k => by fin_cases k <;> rfl)]
  pointwise [k0_pay2]

/-- The zeros are zero. -/
theorem zB_canon (y : S2x4x512x512.Idx) : View.canon (Val := Elt Ideal) (zB (F := Ideal)) y = (0 : EReal) := by
  unfold zB
  rw [View.canon_unit_zero (funext fun k => by fin_cases k <;> rfl)]
  pointwise [k0_pay3]

/-- The zeros are zero. -/
theorem zN_canon (y : S2x4x512x128.Idx) : View.canon (Val := Elt Ideal) (zN (F := Ideal)) y = (0 : EReal) := by
  unfold zN
  rw [View.canon_unit_zero (funext fun k => by fin_cases k <;> rfl)]
  pointwise [k0_pay4]

end Reads

end Cert.Scan

end
-- ==== Proof.Scan.Later.lean ====
/- The stores of a grid point that follows another of its sequence, as the tiles of its windows and of the state's words. -/
module

public import proofs.«01_k».proof.Proof.Gen.KernelIdeal.Frame.RunB
public import proofs.«01_k».proof.Proof.Scan.Store

@[expose] public section

set_option maxRecDepth 16384

noncomputable section

namespace Cert.Scan

open Idealize.ShloMosaic Idealize.ShloMosaic.TcCoe Cert.KernelIdeal Cert.KernelIdeal.Gen

variable {F : FTy → Type} [FloatOps F]
variable (c : Dev nD) (i : grid0.Coords) (arg3 : Memref sig .tc .vmem S256x2048 .bf16) (harg3 : arg3.IsWhole)
  (arg4 : Memref sig .tc .vmem S2048x256 .bf16) (harg4 : arg4.IsWhole) (arg5 : Memref sig .tc .vmem S256x2048 .bf16)
  (harg5 : arg5.IsWhole) (arg6 : Memref sig .tc .vmem S256x16 .f32) (harg6 : arg6.IsWhole)
  (arg7 : Memref sig .tc .vmem S16x256 .f32) (harg7 : arg7.IsWhole) (arg8 : Memref sig .tc .vmem S256x2048 .bf16)
  (harg8 : arg8.IsWhole) (arg9 : Memref sig .tc .vmem S2048x256 .bf16) (harg9 : arg9.IsWhole)
  (arg10 : Memref sig .tc .vmem S256x2048 .bf16) (harg10 : arg10.IsWhole) (arg11 : Memref sig .tc .vmem S256x16 .f32)
  (harg11 : arg11.IsWhole) (arg12 : Memref sig .tc .vmem S16x256 .f32) (harg12 : arg12.IsWhole)
  (arg13 : Memref sig .tc .vmem S2x256x256 .f32) (harg13 : arg13.IsWhole) (arg14 : Memref sig .tc .vmem S2x256x256 .f32)
  (harg14 : arg14.IsWhole) (arg15 : Memref sig .tc .vmem S256x2048 .bf16) (harg15 : arg15.IsWhole)
  (arg16 : Memref sig .tc .vmem S256x2048 .bf16) (harg16 : arg16.IsWhole) (arg17 : Memref sig .tc .vmem S2x4x512x512 .f32)
  (harg17 : arg17.IsWhole) (arg18 : Memref sig .tc .vmem S2x4x512x512 .bf16) (harg18 : arg18.IsWhole)
  (arg19 : Memref sig .tc .vmem S2x4x512x128 .f32) (harg19 : arg19.IsWhole) (arg20 : Memref sig .tc .vmem S2x4x8x128 .f32)
  (harg20 : arg20.IsWhole) (x0 : Vec F S256x2048 .bf16) (x1 : Vec F S2048x256 .bf16) (x2 : Vec F S256x2048 .bf16)
  (x3 : Vec F S256x16 .f32) (x4 : Vec F S16x256 .f32) (x5 : Vec F S256x2048 .bf16) (x6 : Vec F S2048x256 .bf16)
  (x7 : Vec F S256x2048 .bf16) (x8 : Vec F S256x16 .f32) (x9 : Vec F S16x256 .f32) (x10 : Vec F S2x256x256 .f32)
  (x11 : Vec F S2x256x256 .f32)
  (hc0 : ¬cond0_0 i)
  (xs0 : Vec F S2x4x512x512 .f32) (xs1 : Vec F S2x4x512x512 .bf16) (xs2 : Vec F S2x4x512x128 .f32)
  (xs3 : Vec F S2x4x8x128 .f32)

set_option maxHeartbeats 2000000

/-- The stores of the forward hidden tiles at a later point. -/
theorem laterOut0 : (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3).1 = outS fun h =>
    tOut arg3 harg3 x0 arg4 harg4 x1 arg5 harg5 x2 arg6 harg6 x3 arg7 harg7 x4 arg13 harg13 x10 arg14 harg14 x11 0 1 h
      (lB arg18 harg18 xs1 0 h) (lN arg19 harg19 xs2 0 h) (lS arg20 harg20 xs3 0 h) := rfl

/-- The stores of the backward hidden tiles at a later point. -/
theorem laterOut1 : (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3).2.1 = outS fun h =>
    tOut arg8 harg8 x5 arg9 harg9 x6 arg10 harg10 x7 arg11 harg11 x8 arg12 harg12 x9 arg13 harg13 x10 arg14 harg14 x11 1 0 h
      (lB arg18 harg18 xs1 1 h) (lN arg19 harg19 xs2 1 h) (lS arg20 harg20 xs3 1 h) := rfl

/-- The stores of the memory tiles at a later point. -/
theorem laterMem : (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3).2.2.1 =
    memS [] (fun d h => ![fun h => fun _ => tMem arg4 harg4 x1 arg5 harg5 x2 arg6 harg6 x3 arg7 harg7 x4 arg13 harg13 x10 0 h (lS arg20 harg20 xs3 0 h) (lC arg17 harg17 xs0 0 h),
      fun h => fun _ => tMem arg9 harg9 x6 arg10 harg10 x7 arg11 harg11 x8 arg12 harg12 x9 arg13 harg13 x10 1 h (lS arg20 harg20 xs3 1 h) (lC arg17 harg17 xs0 1 h)] d h) 8 := rfl

/-- The stores of the narrow memory tiles at a later point. -/
theorem laterMemB : (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3).2.2.2.1 =
    memBS [] (fun d h => ![fun h => fun _ => tMemB arg4 harg4 x1 arg5 harg5 x2 arg6 harg6 x3 arg7 harg7 x4 arg13 harg13 x10 0 h (lS arg20 harg20 xs3 0 h) (lC arg17 harg17 xs0 0 h),
      fun h => fun _ => tMemB arg9 harg9 x6 arg10 harg10 x7 arg11 harg11 x8 arg12 harg12 x9 arg13 harg13 x10 1 h (lS arg20 harg20 xs3 1 h) (lC arg17 harg17 xs0 1 h)] d h) 8 := rfl

/-- The stores of the normalizer tiles at a later point. -/
theorem laterNrm : (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3).2.2.2.2.1 =
    nrmS [] (fun d h => ![fun h => fun _ => tNrm arg4 harg4 x1 arg6 harg6 x3 arg7 harg7 x4 arg13 harg13 x10 0 h (lS arg20 harg20 xs3 0 h) (lN arg19 harg19 xs2 0 h),
      fun h => fun _ => tNrm arg9 harg9 x6 arg11 harg11 x8 arg12 harg12 x9 arg13 harg13 x10 1 h (lS arg20 harg20 xs3 1 h) (lN arg19 harg19 xs2 1 h)] d h) 8 := rfl

/-- The stores of the stabilizer tiles at a later point. -/
theorem laterStab : (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3).2.2.2.2.2.1 =
    stabS [] (fun d h => ![fun h => fun _ => tStab arg6 harg6 x3 arg7 harg7 x4 arg13 harg13 x10 0 h (lS arg20 harg20 xs3 0 h),
      fun h => fun _ => tStab arg11 harg11 x8 arg12 harg12 x9 arg13 harg13 x10 1 h (lS arg20 harg20 xs3 1 h)] d h) 8 := rfl

end Cert.Scan

end
-- ==== Proof.Scan.FirstLists.lean ====
/- The stores into the state at the first grid point of a sequence, as lists: each store may read the zeros and what was stored before it. -/
module

public import proofs.«01_k».proof.Proof.Scan.Store

@[expose] public section

set_option maxRecDepth 16384

noncomputable section

namespace Cert.Scan

open Idealize.ShloMosaic Idealize.ShloMosaic.TcCoe Cert.KernelIdeal Cert.KernelIdeal.Gen

variable {F : FTy → Type} [FloatOps F]

/-- The first so many stores of the stabilizer tiles at a first point, each over the zeros and the stores before it. -/
def firstStab (arg6 : Memref sig .tc .vmem S256x16 .f32) (harg6 : arg6.IsWhole) (arg7 : Memref sig .tc .vmem S16x256 .f32)
    (harg7 : arg7.IsWhole) (arg11 : Memref sig .tc .vmem S256x16 .f32) (harg11 : arg11.IsWhole)
    (arg12 : Memref sig .tc .vmem S16x256 .f32) (harg12 : arg12.IsWhole) (arg13 : Memref sig .tc .vmem S2x256x256 .f32)
    (harg13 : arg13.IsWhole) (arg20 : Memref sig .tc .vmem S2x4x8x128 .f32) (x3 : Vec F S256x16 .f32)
    (x4 : Vec F S16x256 .f32) (x8 : Vec F S256x16 .f32) (x9 : Vec F S16x256 .f32) (x10 : Vec F S2x256x256 .f32) :
    ℕ → List (View.Piece (Elt F) S2x4x8x128 .f32) :=
  stabS zS (fun d h => ![fun h => fun L => tStab arg6 harg6 x3 arg7 harg7 x4 arg13 harg13 x10 0 h (word 0 h (arg20.view.readCov L (rS1 0 h))),
      fun h => fun L => tStab arg11 harg11 x8 arg12 harg12 x9 arg13 harg13 x10 1 h (word 1 h (arg20.view.readCov L (rS1 1 h)))] d h)

/-- The first so many stores of the memory tiles at a first point, each over the zeros and the stores before it. -/
def firstMem (arg4 : Memref sig .tc .vmem S2048x256 .bf16) (harg4 : arg4.IsWhole) (arg5 : Memref sig .tc .vmem S256x2048 .bf16)
    (harg5 : arg5.IsWhole) (arg6 : Memref sig .tc .vmem S256x16 .f32) (harg6 : arg6.IsWhole)
    (arg7 : Memref sig .tc .vmem S16x256 .f32) (harg7 : arg7.IsWhole) (arg9 : Memref sig .tc .vmem S2048x256 .bf16)
    (harg9 : arg9.IsWhole) (arg10 : Memref sig .tc .vmem S256x2048 .bf16) (harg10 : arg10.IsWhole)
    (arg11 : Memref sig .tc .vmem S256x16 .f32) (harg11 : arg11.IsWhole) (arg12 : Memref sig .tc .vmem S16x256 .f32)
    (harg12 : arg12.IsWhole) (arg13 : Memref sig .tc .vmem S2x256x256 .f32) (harg13 : arg13.IsWhole)
    (arg17 : Memref sig .tc .vmem S2x4x512x512 .f32) (arg20 : Memref sig .tc .vmem S2x4x8x128 .f32)
    (x1 : Vec F S2048x256 .bf16) (x2 : Vec F S256x2048 .bf16) (x3 : Vec F S256x16 .f32) (x4 : Vec F S16x256 .f32)
    (x6 : Vec F S2048x256 .bf16) (x7 : Vec F S256x2048 .bf16) (x8 : Vec F S256x16 .f32) (x9 : Vec F S16x256 .f32)
    (x10 : Vec F S2x256x256 .f32) :
    ℕ → List (View.Piece (Elt F) S2x4x512x512 .f32) :=
  memS zC (fun d h => ![fun h => fun L => tMem arg4 harg4 x1 arg5 harg5 x2 arg6 harg6 x3 arg7 harg7 x4 arg13 harg13 x10 0 h
        (word 0 h (arg20.view.readCov ((firstStab arg6 harg6 arg7 harg7 arg11 harg11 arg12 harg12 arg13 harg13 arg20 x3 x4 x8 x9 x10) (4 * 0 + h.val)) (rS1 0 h)))
        (arg17.view.readCov L (rC 0 h).toLoadRect),
      fun h => fun L => tMem arg9 harg9 x6 arg10 harg10 x7 arg11 harg11 x8 arg12 harg12 x9 arg13 harg13 x10 1 h
        (word 1 h (arg20.view.readCov ((firstStab arg6 harg6 arg7 harg7 arg11 harg11 arg12 harg12 arg13 harg13 arg20 x3 x4 x8 x9 x10) (4 * 1 + h.val)) (rS1 1 h)))
        (arg17.view.readCov L (rC 1 h).toLoadRect)] d h)

/-- The first so many stores of the narrow memory tiles at a first point, each over the zeros and the stores before it. -/
def firstMemB (arg4 : Memref sig .tc .vmem S2048x256 .bf16) (harg4 : arg4.IsWhole) (arg5 : Memref sig .tc .vmem S256x2048 .bf16)
    (harg5 : arg5.IsWhole) (arg6 : Memref sig .tc .vmem S256x16 .f32) (harg6 : arg6.IsWhole)
    (arg7 : Memref sig .tc .vmem S16x256 .f32) (harg7 : arg7.IsWhole) (arg9 : Memref sig .tc .vmem S2048x256 .bf16)
    (harg9 : arg9.IsWhole) (arg10 : Memref sig .tc .vmem S256x2048 .bf16) (harg10 : arg10.IsWhole)
    (arg11 : Memref sig .tc .vmem S256x16 .f32) (harg11 : arg11.IsWhole) (arg12 : Memref sig .tc .vmem S16x256 .f32)
    (harg12 : arg12.IsWhole) (arg13 : Memref sig .tc .vmem S2x256x256 .f32) (harg13 : arg13.IsWhole)
    (arg17 : Memref sig .tc .vmem S2x4x512x512 .f32) (arg20 : Memref sig .tc .vmem S2x4x8x128 .f32)
    (x1 : Vec F S2048x256 .bf16) (x2 : Vec F S256x2048 .bf16) (x3 : Vec F S256x16 .f32) (x4 : Vec F S16x256 .f32)
    (x6 : Vec F S2048x256 .bf16) (x7 : Vec F S256x2048 .bf16) (x8 : Vec F S256x16 .f32) (x9 : Vec F S16x256 .f32)
    (x10 : Vec F S2x256x256 .f32) :
    ℕ → List (View.Piece (Elt F) S2x4x512x512 .bf16) :=
  memBS zB (fun d h => ![fun h => fun _ => tMemB arg4 harg4 x1 arg5 harg5 x2 arg6 harg6 x3 arg7 harg7 x4 arg13 harg13 x10 0 h
        (word 0 h (arg20.view.readCov ((firstStab arg6 harg6 arg7 harg7 arg11 harg11 arg12 harg12 arg13 harg13 arg20 x3 x4 x8 x9 x10) (4 * 0 + h.val)) (rS1 0 h)))
        (arg17.view.readCov ((firstMem arg4 harg4 arg5 harg5 arg6 harg6 arg7 harg7 arg9 harg9 arg10 harg10 arg11 harg11 arg12 harg12 arg13 harg13 arg17 arg20 x1 x2 x3 x4 x6 x7 x8 x9 x10) (4 * 0 + h.val)) (rC 0 h).toLoadRect),
      fun h => fun _ => tMemB arg9 harg9 x6 arg10 harg10 x7 arg11 harg11 x8 arg12 harg12 x9 arg13 harg13 x10 1 h
        (word 1 h (arg20.view.readCov ((firstStab arg6 harg6 arg7 harg7 arg11 harg11 arg12 harg12 arg13 harg13 arg20 x3 x4 x8 x9 x10) (4 * 1 + h.val)) (rS1 1 h)))
        (arg17.view.readCov ((firstMem arg4 harg4 arg5 harg5 arg6 harg6 arg7 harg7 arg9 harg9 arg10 harg10 arg11 harg11 arg12 harg12 arg13 harg13 arg17 arg20 x1 x2 x3 x4 x6 x7 x8 x9 x10) (4 * 1 + h.val)) (rC 1 h).toLoadRect)] d h)

/-- The first so many stores of the normalizer tiles at a first point, each over the zeros and the stores before it. -/
def firstNrm (arg4 : Memref sig .tc .vmem S2048x256 .bf16) (harg4 : arg4.IsWhole) (arg6 : Memref sig .tc .vmem S256x16 .f32)
    (harg6 : arg6.IsWhole) (arg7 : Memref sig .tc .vmem S16x256 .f32) (harg7 : arg7.IsWhole)
    (arg9 : Memref sig .tc .vmem S2048x256 .bf16) (harg9 : arg9.IsWhole) (arg11 : Memref sig .tc .vmem S256x16 .f32)
    (harg11 : arg11.IsWhole) (arg12 : Memref sig .tc .vmem S16x256 .f32) (harg12 : arg12.IsWhole)
    (arg13 : Memref sig .tc .vmem S2x256x256 .f32) (harg13 : arg13.IsWhole) (arg19 : Memref sig .tc .vmem S2x4x512x128 .f32)
    (arg20 : Memref sig .tc .vmem S2x4x8x128 .f32) (x1 : Vec F S2048x256 .bf16) (x3 : Vec F S256x16 .f32)
    (x4 : Vec F S16x256 .f32) (x6 : Vec F S2048x256 .bf16) (x8 : Vec F S256x16 .f32) (x9 : Vec F S16x256 .f32)
    (x10 : Vec F S2x256x256 .f32) :
    ℕ → List (View.Piece (Elt F) S2x4x512x128 .f32) :=
  nrmS zN (fun d h => ![fun h => fun L => tNrm arg4 harg4 x1 arg6 harg6 x3 arg7 harg7 x4 arg13 harg13 x10 0 h
        (word 0 h (arg20.view.readCov ((firstStab arg6 harg6 arg7 harg7 arg11 harg11 arg12 harg12 arg13 harg13 arg20 x3 x4 x8 x9 x10) (4 * 0 + h.val)) (rS1 0 h)))
        (arg19.view.readCov L (rN 0 h).toLoadRect),
      fun h => fun L => tNrm arg9 harg9 x6 arg11 harg11 x8 arg12 harg12 x9 arg13 harg13 x10 1 h
        (word 1 h (arg20.view.readCov ((firstStab arg6 harg6 arg7 harg7 arg11 harg11 arg12 harg12 arg13 harg13 arg20 x3 x4 x8 x9 x10) (4 * 1 + h.val)) (rS1 1 h)))
        (arg19.view.readCov L (rN 1 h).toLoadRect)] d h)

end Cert.Scan

end
-- ==== Proof.Scan.FirstStab.lean ====
/- The stores into the stabilizer at the first grid point of a sequence. -/
module

public import proofs.«01_k».proof.Proof.Gen.KernelIdeal.Frame.RunA
public import proofs.«01_k».proof.Proof.Scan.FirstLists

@[expose] public section

set_option maxRecDepth 16384

noncomputable section

namespace Cert.Scan

open Idealize.ShloMosaic Idealize.ShloMosaic.TcCoe Cert.KernelIdeal Cert.KernelIdeal.Gen

variable {F : FTy → Type} [FloatOps F]
variable (c : Dev nD) (i : grid0.Coords) (arg3 : Memref sig .tc .vmem S256x2048 .bf16) (harg3 : arg3.IsWhole)
  (arg4 : Memref sig .tc .vmem S2048x256 .bf16) (harg4 : arg4.IsWhole) (arg5 : Memref sig .tc .vmem S256x2048 .bf16)
  (harg5 : arg5.IsWhole) (arg6 : Memref sig .tc .vmem S256x16 .f32) (harg6 : arg6.IsWhole)
  (arg7 : Memref sig .tc .vmem S16x256 .f32) (harg7 : arg7.IsWhole) (arg8 : Memref sig .tc .vmem S256x2048 .bf16)
  (harg8 : arg8.IsWhole) (arg9 : Memref sig .tc .vmem S2048x256 .bf16) (harg9 : arg9.IsWhole)
  (arg10 : Memref sig .tc .vmem S256x2048 .bf16) (harg10 : arg10.IsWhole) (arg11 : Memref sig .tc .vmem S256x16 .f32)
  (harg11 : arg11.IsWhole) (arg12 : Memref sig .tc .vmem S16x256 .f32) (harg12 : arg12.IsWhole)
  (arg13 : Memref sig .tc .vmem S2x256x256 .f32) (harg13 : arg13.IsWhole) (arg14 : Memref sig .tc .vmem S2x256x256 .f32)
  (harg14 : arg14.IsWhole) (arg15 : Memref sig .tc .vmem S256x2048 .bf16) (harg15 : arg15.IsWhole)
  (arg16 : Memref sig .tc .vmem S256x2048 .bf16) (harg16 : arg16.IsWhole) (arg17 : Memref sig .tc .vmem S2x4x512x512 .f32)
  (harg17 : arg17.IsWhole) (arg18 : Memref sig .tc .vmem S2x4x512x512 .bf16) (harg18 : arg18.IsWhole)
  (arg19 : Memref sig .tc .vmem S2x4x512x128 .f32) (harg19 : arg19.IsWhole) (arg20 : Memref sig .tc .vmem S2x4x8x128 .f32)
  (harg20 : arg20.IsWhole) (x0 : Vec F S256x2048 .bf16) (x1 : Vec F S2048x256 .bf16) (x2 : Vec F S256x2048 .bf16)
  (x3 : Vec F S256x16 .f32) (x4 : Vec F S16x256 .f32) (x5 : Vec F S256x2048 .bf16) (x6 : Vec F S2048x256 .bf16)
  (x7 : Vec F S256x2048 .bf16) (x8 : Vec F S256x16 .f32) (x9 : Vec F S16x256 .f32) (x10 : Vec F S2x256x256 .f32)
  (x11 : Vec F S2x256x256 .f32)
  (hc0 : cond0_0 i)

set_option maxHeartbeats 2000000

/-- The stores of the stabilizer tiles at a first point. -/
theorem firstStab_eq : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).2.2.2.2.2.1 =
    (firstStab arg6 harg6 arg7 harg7 arg11 harg11 arg12 harg12 arg13 harg13 arg20 x3 x4 x8 x9 x10) 8 := rfl

end Cert.Scan

end
-- ==== Proof.Scan.FirstMem.lean ====
/- The stores into the memory at the first grid point of a sequence. -/
module

public import proofs.«01_k».proof.Proof.Gen.KernelIdeal.Frame.RunA
public import proofs.«01_k».proof.Proof.Scan.FirstLists

@[expose] public section

set_option maxRecDepth 16384

noncomputable section

namespace Cert.Scan

open Idealize.ShloMosaic Idealize.ShloMosaic.TcCoe Cert.KernelIdeal Cert.KernelIdeal.Gen

variable {F : FTy → Type} [FloatOps F]
variable (c : Dev nD) (i : grid0.Coords) (arg3 : Memref sig .tc .vmem S256x2048 .bf16) (harg3 : arg3.IsWhole)
  (arg4 : Memref sig .tc .vmem S2048x256 .bf16) (harg4 : arg4.IsWhole) (arg5 : Memref sig .tc .vmem S256x2048 .bf16)
  (harg5 : arg5.IsWhole) (arg6 : Memref sig .tc .vmem S256x16 .f32) (harg6 : arg6.IsWhole)
  (arg7 : Memref sig .tc .vmem S16x256 .f32) (harg7 : arg7.IsWhole) (arg8 : Memref sig .tc .vmem S256x2048 .bf16)
  (harg8 : arg8.IsWhole) (arg9 : Memref sig .tc .vmem S2048x256 .bf16) (harg9 : arg9.IsWhole)
  (arg10 : Memref sig .tc .vmem S256x2048 .bf16) (harg10 : arg10.IsWhole) (arg11 : Memref sig .tc .vmem S256x16 .f32)
  (harg11 : arg11.IsWhole) (arg12 : Memref sig .tc .vmem S16x256 .f32) (harg12 : arg12.IsWhole)
  (arg13 : Memref sig .tc .vmem S2x256x256 .f32) (harg13 : arg13.IsWhole) (arg14 : Memref sig .tc .vmem S2x256x256 .f32)
  (harg14 : arg14.IsWhole) (arg15 : Memref sig .tc .vmem S256x2048 .bf16) (harg15 : arg15.IsWhole)
  (arg16 : Memref sig .tc .vmem S256x2048 .bf16) (harg16 : arg16.IsWhole) (arg17 : Memref sig .tc .vmem S2x4x512x512 .f32)
  (harg17 : arg17.IsWhole) (arg18 : Memref sig .tc .vmem S2x4x512x512 .bf16) (harg18 : arg18.IsWhole)
  (arg19 : Memref sig .tc .vmem S2x4x512x128 .f32) (harg19 : arg19.IsWhole) (arg20 : Memref sig .tc .vmem S2x4x8x128 .f32)
  (harg20 : arg20.IsWhole) (x0 : Vec F S256x2048 .bf16) (x1 : Vec F S2048x256 .bf16) (x2 : Vec F S256x2048 .bf16)
  (x3 : Vec F S256x16 .f32) (x4 : Vec F S16x256 .f32) (x5 : Vec F S256x2048 .bf16) (x6 : Vec F S2048x256 .bf16)
  (x7 : Vec F S256x2048 .bf16) (x8 : Vec F S256x16 .f32) (x9 : Vec F S16x256 .f32) (x10 : Vec F S2x256x256 .f32)
  (x11 : Vec F S2x256x256 .f32)
  (hc0 : cond0_0 i)

set_option maxHeartbeats 2000000

/-- The stores of the memory tiles at a first point. -/
theorem firstMem_eq : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).2.2.1 =
    (firstMem arg4 harg4 arg5 harg5 arg6 harg6 arg7 harg7 arg9 harg9 arg10 harg10 arg11 harg11 arg12 harg12 arg13 harg13 arg17 arg20 x1 x2 x3 x4 x6 x7 x8 x9 x10) 8 := rfl

end Cert.Scan

end
-- ==== Proof.Scan.FirstMemB.lean ====
/- The stores into the narrow memory at the first grid point of a sequence. -/
module

public import proofs.«01_k».proof.Proof.Gen.KernelIdeal.Frame.RunA
public import proofs.«01_k».proof.Proof.Scan.FirstLists

@[expose] public section

set_option maxRecDepth 16384

noncomputable section

namespace Cert.Scan

open Idealize.ShloMosaic Idealize.ShloMosaic.TcCoe Cert.KernelIdeal Cert.KernelIdeal.Gen

variable {F : FTy → Type} [FloatOps F]
variable (c : Dev nD) (i : grid0.Coords) (arg3 : Memref sig .tc .vmem S256x2048 .bf16) (harg3 : arg3.IsWhole)
  (arg4 : Memref sig .tc .vmem S2048x256 .bf16) (harg4 : arg4.IsWhole) (arg5 : Memref sig .tc .vmem S256x2048 .bf16)
  (harg5 : arg5.IsWhole) (arg6 : Memref sig .tc .vmem S256x16 .f32) (harg6 : arg6.IsWhole)
  (arg7 : Memref sig .tc .vmem S16x256 .f32) (harg7 : arg7.IsWhole) (arg8 : Memref sig .tc .vmem S256x2048 .bf16)
  (harg8 : arg8.IsWhole) (arg9 : Memref sig .tc .vmem S2048x256 .bf16) (harg9 : arg9.IsWhole)
  (arg10 : Memref sig .tc .vmem S256x2048 .bf16) (harg10 : arg10.IsWhole) (arg11 : Memref sig .tc .vmem S256x16 .f32)
  (harg11 : arg11.IsWhole) (arg12 : Memref sig .tc .vmem S16x256 .f32) (harg12 : arg12.IsWhole)
  (arg13 : Memref sig .tc .vmem S2x256x256 .f32) (harg13 : arg13.IsWhole) (arg14 : Memref sig .tc .vmem S2x256x256 .f32)
  (harg14 : arg14.IsWhole) (arg15 : Memref sig .tc .vmem S256x2048 .bf16) (harg15 : arg15.IsWhole)
  (arg16 : Memref sig .tc .vmem S256x2048 .bf16) (harg16 : arg16.IsWhole) (arg17 : Memref sig .tc .vmem S2x4x512x512 .f32)
  (harg17 : arg17.IsWhole) (arg18 : Memref sig .tc .vmem S2x4x512x512 .bf16) (harg18 : arg18.IsWhole)
  (arg19 : Memref sig .tc .vmem S2x4x512x128 .f32) (harg19 : arg19.IsWhole) (arg20 : Memref sig .tc .vmem S2x4x8x128 .f32)
  (harg20 : arg20.IsWhole) (x0 : Vec F S256x2048 .bf16) (x1 : Vec F S2048x256 .bf16) (x2 : Vec F S256x2048 .bf16)
  (x3 : Vec F S256x16 .f32) (x4 : Vec F S16x256 .f32) (x5 : Vec F S256x2048 .bf16) (x6 : Vec F S2048x256 .bf16)
  (x7 : Vec F S256x2048 .bf16) (x8 : Vec F S256x16 .f32) (x9 : Vec F S16x256 .f32) (x10 : Vec F S2x256x256 .f32)
  (x11 : Vec F S2x256x256 .f32)
  (hc0 : cond0_0 i)

set_option maxHeartbeats 2000000

/-- The stores of the narrow memory tiles at a first point. -/
theorem firstMemB_eq : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).2.2.2.1 =
    (firstMemB arg4 harg4 arg5 harg5 arg6 harg6 arg7 harg7 arg9 harg9 arg10 harg10 arg11 harg11 arg12 harg12 arg13 harg13 arg17 arg20 x1 x2 x3 x4 x6 x7 x8 x9 x10) 8 := rfl

end Cert.Scan

end
-- ==== Proof.Scan.FirstNrm.lean ====
/- The stores into the normalizer at the first grid point of a sequence. -/
module

public import proofs.«01_k».proof.Proof.Gen.KernelIdeal.Frame.RunA
public import proofs.«01_k».proof.Proof.Scan.FirstLists

@[expose] public section

set_option maxRecDepth 16384

noncomputable section

namespace Cert.Scan

open Idealize.ShloMosaic Idealize.ShloMosaic.TcCoe Cert.KernelIdeal Cert.KernelIdeal.Gen

variable {F : FTy → Type} [FloatOps F]
variable (c : Dev nD) (i : grid0.Coords) (arg3 : Memref sig .tc .vmem S256x2048 .bf16) (harg3 : arg3.IsWhole)
  (arg4 : Memref sig .tc .vmem S2048x256 .bf16) (harg4 : arg4.IsWhole) (arg5 : Memref sig .tc .vmem S256x2048 .bf16)
  (harg5 : arg5.IsWhole) (arg6 : Memref sig .tc .vmem S256x16 .f32) (harg6 : arg6.IsWhole)
  (arg7 : Memref sig .tc .vmem S16x256 .f32) (harg7 : arg7.IsWhole) (arg8 : Memref sig .tc .vmem S256x2048 .bf16)
  (harg8 : arg8.IsWhole) (arg9 : Memref sig .tc .vmem S2048x256 .bf16) (harg9 : arg9.IsWhole)
  (arg10 : Memref sig .tc .vmem S256x2048 .bf16) (harg10 : arg10.IsWhole) (arg11 : Memref sig .tc .vmem S256x16 .f32)
  (harg11 : arg11.IsWhole) (arg12 : Memref sig .tc .vmem S16x256 .f32) (harg12 : arg12.IsWhole)
  (arg13 : Memref sig .tc .vmem S2x256x256 .f32) (harg13 : arg13.IsWhole) (arg14 : Memref sig .tc .vmem S2x256x256 .f32)
  (harg14 : arg14.IsWhole) (arg15 : Memref sig .tc .vmem S256x2048 .bf16) (harg15 : arg15.IsWhole)
  (arg16 : Memref sig .tc .vmem S256x2048 .bf16) (harg16 : arg16.IsWhole) (arg17 : Memref sig .tc .vmem S2x4x512x512 .f32)
  (harg17 : arg17.IsWhole) (arg18 : Memref sig .tc .vmem S2x4x512x512 .bf16) (harg18 : arg18.IsWhole)
  (arg19 : Memref sig .tc .vmem S2x4x512x128 .f32) (harg19 : arg19.IsWhole) (arg20 : Memref sig .tc .vmem S2x4x8x128 .f32)
  (harg20 : arg20.IsWhole) (x0 : Vec F S256x2048 .bf16) (x1 : Vec F S2048x256 .bf16) (x2 : Vec F S256x2048 .bf16)
  (x3 : Vec F S256x16 .f32) (x4 : Vec F S16x256 .f32) (x5 : Vec F S256x2048 .bf16) (x6 : Vec F S2048x256 .bf16)
  (x7 : Vec F S256x2048 .bf16) (x8 : Vec F S256x16 .f32) (x9 : Vec F S16x256 .f32) (x10 : Vec F S2x256x256 .f32)
  (x11 : Vec F S2x256x256 .f32)
  (hc0 : cond0_0 i)

set_option maxHeartbeats 2000000

/-- The stores of the normalizer tiles at a first point. -/
theorem firstNrm_eq : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).2.2.2.2.1 =
    (firstNrm arg4 harg4 arg6 harg6 arg7 harg7 arg9 harg9 arg11 harg11 arg12 harg12 arg13 harg13 arg19 arg20 x1 x3 x4 x6 x8 x9 x10) 8 := rfl

end Cert.Scan

end
-- ==== Proof.Scan.FirstOut.lean ====
/- The stores of the hidden tiles at the first grid point of a sequence. -/
module

public import proofs.«01_k».proof.Proof.Gen.KernelIdeal.Frame.RunA
public import proofs.«01_k».proof.Proof.Scan.FirstLists

@[expose] public section

set_option maxRecDepth 16384

noncomputable section

namespace Cert.Scan

open Idealize.ShloMosaic Idealize.ShloMosaic.TcCoe Cert.KernelIdeal Cert.KernelIdeal.Gen

variable {F : FTy → Type} [FloatOps F]
variable (c : Dev nD) (i : grid0.Coords) (arg3 : Memref sig .tc .vmem S256x2048 .bf16) (harg3 : arg3.IsWhole)
  (arg4 : Memref sig .tc .vmem S2048x256 .bf16) (harg4 : arg4.IsWhole) (arg5 : Memref sig .tc .vmem S256x2048 .bf16)
  (harg5 : arg5.IsWhole) (arg6 : Memref sig .tc .vmem S256x16 .f32) (harg6 : arg6.IsWhole)
  (arg7 : Memref sig .tc .vmem S16x256 .f32) (harg7 : arg7.IsWhole) (arg8 : Memref sig .tc .vmem S256x2048 .bf16)
  (harg8 : arg8.IsWhole) (arg9 : Memref sig .tc .vmem S2048x256 .bf16) (harg9 : arg9.IsWhole)
  (arg10 : Memref sig .tc .vmem S256x2048 .bf16) (harg10 : arg10.IsWhole) (arg11 : Memref sig .tc .vmem S256x16 .f32)
  (harg11 : arg11.IsWhole) (arg12 : Memref sig .tc .vmem S16x256 .f32) (harg12 : arg12.IsWhole)
  (arg13 : Memref sig .tc .vmem S2x256x256 .f32) (harg13 : arg13.IsWhole) (arg14 : Memref sig .tc .vmem S2x256x256 .f32)
  (harg14 : arg14.IsWhole) (arg15 : Memref sig .tc .vmem S256x2048 .bf16) (harg15 : arg15.IsWhole)
  (arg16 : Memref sig .tc .vmem S256x2048 .bf16) (harg16 : arg16.IsWhole) (arg17 : Memref sig .tc .vmem S2x4x512x512 .f32)
  (harg17 : arg17.IsWhole) (arg18 : Memref sig .tc .vmem S2x4x512x512 .bf16) (harg18 : arg18.IsWhole)
  (arg19 : Memref sig .tc .vmem S2x4x512x128 .f32) (harg19 : arg19.IsWhole) (arg20 : Memref sig .tc .vmem S2x4x8x128 .f32)
  (harg20 : arg20.IsWhole) (x0 : Vec F S256x2048 .bf16) (x1 : Vec F S2048x256 .bf16) (x2 : Vec F S256x2048 .bf16)
  (x3 : Vec F S256x16 .f32) (x4 : Vec F S16x256 .f32) (x5 : Vec F S256x2048 .bf16) (x6 : Vec F S2048x256 .bf16)
  (x7 : Vec F S256x2048 .bf16) (x8 : Vec F S256x16 .f32) (x9 : Vec F S16x256 .f32) (x10 : Vec F S2x256x256 .f32)
  (x11 : Vec F S2x256x256 .f32)
  (hc0 : cond0_0 i)

set_option maxHeartbeats 2000000

/-- The stores of the forward hidden tiles at a first point. -/
theorem firstOut0 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).1 = outS fun h =>
    tOut arg3 harg3 x0 arg4 harg4 x1 arg5 harg5 x2 arg6 harg6 x3 arg7 harg7 x4 arg13 harg13 x10 arg14 harg14 x11 0 1 h
      (arg18.view.readCov ((firstMemB arg4 harg4 arg5 harg5 arg6 harg6 arg7 harg7 arg9 harg9 arg10 harg10 arg11 harg11 arg12 harg12 arg13 harg13 arg17 arg20 x1 x2 x3 x4 x6 x7 x8 x9 x10) (4 * 0 + h.val)) (rC 0 h).toLoadRect)
      (arg19.view.readCov ((firstNrm arg4 harg4 arg6 harg6 arg7 harg7 arg9 harg9 arg11 harg11 arg12 harg12 arg13 harg13 arg19 arg20 x1 x3 x4 x6 x8 x9 x10) (4 * 0 + h.val)) (rN 0 h).toLoadRect)
      (word 0 h (arg20.view.readCov ((firstStab arg6 harg6 arg7 harg7 arg11 harg11 arg12 harg12 arg13 harg13 arg20 x3 x4 x8 x9 x10) (4 * 0 + h.val)) (rS1 0 h))) := rfl

/-- The stores of the backward hidden tiles at a first point. -/
theorem firstOut1 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).2.1 = outS fun h =>
    tOut arg8 harg8 x5 arg9 harg9 x6 arg10 harg10 x7 arg11 harg11 x8 arg12 harg12 x9 arg13 harg13 x10 arg14 harg14 x11 1 0 h
      (arg18.view.readCov ((firstMemB arg4 harg4 arg5 harg5 arg6 harg6 arg7 harg7 arg9 harg9 arg10 harg10 arg11 harg11 arg12 harg12 arg13 harg13 arg17 arg20 x1 x2 x3 x4 x6 x7 x8 x9 x10) (4 * 1 + h.val)) (rC 1 h).toLoadRect)
      (arg19.view.readCov ((firstNrm arg4 harg4 arg6 harg6 arg7 harg7 arg9 harg9 arg11 harg11 arg12 harg12 arg13 harg13 arg19 arg20 x1 x3 x4 x6 x8 x9 x10) (4 * 1 + h.val)) (rN 1 h).toLoadRect)
      (word 1 h (arg20.view.readCov ((firstStab arg6 harg6 arg7 harg7 arg11 harg11 arg12 harg12 arg13 harg13 arg20 x3 x4 x8 x9 x10) (4 * 1 + h.val)) (rS1 1 h))) := rfl

end Cert.Scan

end
-- ==== Proof.Scan.Point.lean ====
/- One grid point over the extended reals: with the tokens of a chunk in the windows and the state carried to the chunk's start in the
   scratch, the point leaves the hidden vectors of the chunk's tokens in the two output windows and the state carried to its end. -/
module

public import proofs.«01_k».proof.Proof.Gen.KernelIdeal.Frame
public import proofs.«01_k».proof.Proof.Scan.Later
public import proofs.«01_k».proof.Proof.Scan.FirstStab
public import proofs.«01_k».proof.Proof.Scan.FirstMem
public import proofs.«01_k».proof.Proof.Scan.FirstMemB
public import proofs.«01_k».proof.Proof.Scan.FirstNrm
public import proofs.«01_k».proof.Proof.Scan.FirstOut

@[expose] public section

set_option maxRecDepth 16384

noncomputable section

namespace Cert.Scan

open Idealize.ShloMosaic Idealize.ShloMosaic.TcCoe Cert.KernelIdeal Cert.KernelIdeal.Gen

/-- The scratch holds, for every direction and head, the state carried to time `T`. -/
structure State (X : Fin 2 → Fin 4 → Tokens) (T : ℕ) (sc : Vec Ideal S2x4x512x512 .f32) (sb : Vec Ideal S2x4x512x512 .bf16)
    (sn : Vec Ideal S2x4x512x128 .f32) (sm : Vec Ideal S2x4x8x128 .f32) : Prop where
  c : ∀ d h a b, sc (ix4 d h a b) = ((X d h).C T a b : EReal)
  b : ∀ d h a b, sb (ix4 d h a b) = ((X d h).C T a b : EReal)
  n : ∀ d h a l, sn (ix4 d h a l) = ((X d h).N T a : EReal)
  m : ∀ d h a l, sm (ix4 d h a l) = ((X d h).m T : EReal)

/-- An output window holds the hidden vectors of a chunk. -/
def Hidden (X : Fin 4 → Tokens) (T : ℕ) (pos : Equiv.Perm (Fin 256)) (o : Vec Ideal S256x2048 .bf16) : Prop :=
  ∀ h r b, o (ix2 r (hcol h b)) = ((X h).h (T + (pos r).val) b : EReal)

variable {X : Fin 2 → Fin 4 → Tokens} {Y : Fin 2 → Fin 4 → ℕ → ℝ} {T : ℕ} {pos : Fin 2 → Equiv.Perm (Fin 256)}
variable (c : Dev nD) (i : grid0.Coords) (arg3 : Memref sig .tc .vmem S256x2048 .bf16) (harg3 : arg3.IsWhole)
  (arg4 : Memref sig .tc .vmem S2048x256 .bf16) (harg4 : arg4.IsWhole) (arg5 : Memref sig .tc .vmem S256x2048 .bf16)
  (harg5 : arg5.IsWhole) (arg6 : Memref sig .tc .vmem S256x16 .f32) (harg6 : arg6.IsWhole)
  (arg7 : Memref sig .tc .vmem S16x256 .f32) (harg7 : arg7.IsWhole) (arg8 : Memref sig .tc .vmem S256x2048 .bf16)
  (harg8 : arg8.IsWhole) (arg9 : Memref sig .tc .vmem S2048x256 .bf16) (harg9 : arg9.IsWhole)
  (arg10 : Memref sig .tc .vmem S256x2048 .bf16) (harg10 : arg10.IsWhole) (arg11 : Memref sig .tc .vmem S256x16 .f32)
  (harg11 : arg11.IsWhole) (arg12 : Memref sig .tc .vmem S16x256 .f32) (harg12 : arg12.IsWhole)
  (arg13 : Memref sig .tc .vmem S2x256x256 .f32) (harg13 : arg13.IsWhole) (arg14 : Memref sig .tc .vmem S2x256x256 .f32)
  (harg14 : arg14.IsWhole) (arg15 : Memref sig .tc .vmem S256x2048 .bf16) (harg15 : arg15.IsWhole)
  (arg16 : Memref sig .tc .vmem S256x2048 .bf16) (harg16 : arg16.IsWhole) (arg17 : Memref sig .tc .vmem S2x4x512x512 .f32)
  (harg17 : arg17.IsWhole) (arg18 : Memref sig .tc .vmem S2x4x512x512 .bf16) (harg18 : arg18.IsWhole)
  (arg19 : Memref sig .tc .vmem S2x4x512x128 .f32) (harg19 : arg19.IsWhole) (arg20 : Memref sig .tc .vmem S2x4x8x128 .f32)
  (harg20 : arg20.IsWhole) (x0 : Vec Ideal S256x2048 .bf16) (x1 : Vec Ideal S2048x256 .bf16)
  (x2 : Vec Ideal S256x2048 .bf16) (x3 : Vec Ideal S256x16 .f32) (x4 : Vec Ideal S16x256 .f32)
  (x5 : Vec Ideal S256x2048 .bf16) (x6 : Vec Ideal S2048x256 .bf16) (x7 : Vec Ideal S256x2048 .bf16)
  (x8 : Vec Ideal S256x16 .f32) (x9 : Vec Ideal S16x256 .f32) (x10 : Vec Ideal S2x256x256 .f32)
  (x11 : Vec Ideal S2x256x256 .f32)
  (W0 : Win (X 0) (Y 0) T (pos 0) 0 1 x0 x1 x2 x3 x4 x10 x11)
  (W1 : Win (X 1) (Y 1) T (pos 1) 1 0 x5 x6 x7 x8 x9 x10 x11)

section Later

variable (hc0 : ¬cond0_0 i)
  (xs0 : Vec Ideal S2x4x512x512 .f32) (xs1 : Vec Ideal S2x4x512x512 .bf16) (xs2 : Vec Ideal S2x4x512x128 .f32)
  (xs3 : Vec Ideal S2x4x8x128 .f32)
  (St : State X T xs0 xs1 xs2 xs3)

include W0 W1 St

/-- The forward hidden vectors that a later point leaves. -/
theorem later_hidden0 : Hidden (X 0) T (pos 0) (out0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3) := by
  intro h r b
  unfold out0_B_12
  rw [View.read_writes_junk_eq_canon, laterOut0, outS_canon]
  exact W0.tOut_apply ((lS_apply _ _ _ _ _).trans (St.m 0 h 0 0)) (fun _ _ => (lB_apply _ _ _ _ _ _ _).trans (St.b 0 h _ _))
    (fun _ _ => (lN_apply _ _ _ _ _ _ _).trans (St.n 0 h _ _)) r b

/-- The backward hidden vectors that a later point leaves. -/
theorem later_hidden1 : Hidden (X 1) T (pos 1) (out0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3) := by
  intro h r b
  unfold out0_B_13
  rw [View.read_writes_junk_eq_canon, laterOut1, outS_canon]
  exact W1.tOut_apply ((lS_apply _ _ _ _ _).trans (St.m 1 h 0 0)) (fun _ _ => (lB_apply _ _ _ _ _ _ _).trans (St.b 1 h _ _))
    (fun _ _ => (lN_apply _ _ _ _ _ _ _).trans (St.n 1 h _ _)) r b

/-- The state that a later point leaves. -/
theorem later_state : State X (T + 256) (sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3)
    (sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3)
    (sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3)
    (sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0 xs1 xs2 xs3) where
  c d h a b := by
    unfold sout0_B_0
    rw [View.read_writes_junk_eq_canon, laterMem]
    refine memS_hit (fun d h a b => ((X d h).C (T + 256) a b : EReal)) (fun d h a b => ?_) d h a b
    fin_cases d
    · exact W0.tMem_apply ((lS_apply _ _ _ _ _).trans (St.m 0 h 0 0)) (fun _ _ => (lC_apply _ _ _ _ _ _ _).trans (St.c 0 h _ _)) a b
    · exact W1.tMem_apply ((lS_apply _ _ _ _ _).trans (St.m 1 h 0 0)) (fun _ _ => (lC_apply _ _ _ _ _ _ _).trans (St.c 1 h _ _)) a b
  b d h a b := by
    unfold sout0_B_1
    rw [View.read_writes_junk_eq_canon, laterMemB]
    refine memBS_hit (fun d h a b => ((X d h).C (T + 256) a b : EReal)) (fun d h a b => ?_) d h a b
    fin_cases d
    · exact W0.tMemB_apply ((lS_apply _ _ _ _ _).trans (St.m 0 h 0 0)) (fun _ _ => (lC_apply _ _ _ _ _ _ _).trans (St.c 0 h _ _)) a b
    · exact W1.tMemB_apply ((lS_apply _ _ _ _ _).trans (St.m 1 h 0 0)) (fun _ _ => (lC_apply _ _ _ _ _ _ _).trans (St.c 1 h _ _)) a b
  n d h a b := by
    unfold sout0_B_2
    rw [View.read_writes_junk_eq_canon, laterNrm]
    refine nrmS_hit (fun d h a _ => ((X d h).N (T + 256) a : EReal)) (fun d h a b => ?_) d h a b
    fin_cases d
    · exact W0.tNrm_apply ((lS_apply _ _ _ _ _).trans (St.m 0 h 0 0)) (fun _ _ => (lN_apply _ _ _ _ _ _ _).trans (St.n 0 h _ _)) a b
    · exact W1.tNrm_apply ((lS_apply _ _ _ _ _).trans (St.m 1 h 0 0)) (fun _ _ => (lN_apply _ _ _ _ _ _ _).trans (St.n 1 h _ _)) a b
  m d h a b := by
    unfold sout0_B_3
    rw [View.read_writes_junk_eq_canon, laterStab]
    refine stabS_hit (fun d h _ _ => ((X d h).m (T + 256) : EReal)) (fun d h a b => ?_) d h a b
    fin_cases d
    · exact W0.tStab_apply ((lS_apply _ _ _ _ _).trans (St.m 0 h 0 0))  a b
    · exact W1.tStab_apply ((lS_apply _ _ _ _ _).trans (St.m 1 h 0 0))  a b

end Later

section First

variable (hc0 : cond0_0 i)

/-- Before anything has happened the stabilizer is zero. -/
theorem m_zero (x : Tokens) : x.m 0 = 0 := rfl
/-- Before anything has happened the memory is zero. -/
theorem C_zero (x : Tokens) (a b : Fin 512) : x.C 0 a b = 0 := rfl
/-- Before anything has happened the normalizer is zero. -/
theorem N_zero (x : Tokens) (a : Fin 512) : x.N 0 a = 0 := rfl

/-- At a first point a head's stabilizer reads as zero. -/
theorem first_m (a : Memref sig .tc .vmem S2x4x8x128 .f32)
    (t : Fin 2 → Fin 4 → List (View.Piece (Elt Ideal) S2x4x8x128 .f32) → FVec Ideal S1x1x8x128 .f32) (x : Tokens) (d : Fin 2) (h : Fin 4) :
    word (F := Ideal) d h (a.view.readCov (stabS zS t (4 * d.val + h.val)) (rS1 d h)) (ix2 0 0) = (x.m 0 : EReal) := by
  rw [word_readCov, stabS_miss, zS_canon, m_zero, EReal.coe_zero]

/-- At a first point a head's memory reads as zero. -/
theorem first_C (m : Memref sig .tc .vmem S2x4x512x512 .f32)
    (t : Fin 2 → Fin 4 → List (View.Piece (Elt Ideal) S2x4x512x512 .f32) → FVec Ideal S1x1x512x512 .f32) (x : Tokens) (d : Fin 2) (h : Fin 4)
    (a b : Fin 512) : m.view.readCov (memS zC t (4 * d.val + h.val)) (rC d h).toLoadRect (ix4 0 0 a b) = (x.C 0 a b : EReal) := by
  rw [rC_readCov, memS_miss, zC_canon, C_zero, EReal.coe_zero]

/-- At a first point a head's narrow memory reads as zero. -/
theorem first_B (m : Memref sig .tc .vmem S2x4x512x512 .bf16)
    (t : Fin 2 → Fin 4 → List (View.Piece (Elt Ideal) S2x4x512x512 .bf16) → FVec Ideal S1x1x512x512 .bf16) (x : Tokens) (d : Fin 2) (h : Fin 4)
    (a b : Fin 512) : m.view.readCov (memBS zB t (4 * d.val + h.val)) (rC d h).toLoadRect (ix4 0 0 a b) = (x.C 0 a b : EReal) := by
  rw [rC_readCov, memBS_miss, zB_canon, C_zero, EReal.coe_zero]

/-- At a first point a head's normalizer reads as zero. -/
theorem first_N (m : Memref sig .tc .vmem S2x4x512x128 .f32)
    (t : Fin 2 → Fin 4 → List (View.Piece (Elt Ideal) S2x4x512x128 .f32) → FVec Ideal S1x1x512x128 .f32) (x : Tokens) (d : Fin 2) (h : Fin 4)
    (a : Fin 512) (b : Fin 128) : m.view.readCov (nrmS zN t (4 * d.val + h.val)) (rN d h).toLoadRect (ix4 0 0 a b) = (x.N 0 a : EReal) := by
  rw [rN_readCov, nrmS_miss, zN_canon, N_zero, EReal.coe_zero]

variable (hT : T = 0)

include W0 W1 hT

/-- The forward hidden vectors that a first point leaves. -/
theorem first_hidden0 : Hidden (X 0) T (pos 0) (out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11) := by
  subst hT
  intro h r b
  unfold out0_A_12
  rw [View.read_writes_junk_eq_canon, firstOut0, outS_canon]
  exact W0.tOut_apply (first_m _ _ _ 0 h) (fun _ _ => first_B _ _ _ 0 h _ _) (fun _ _ => first_N _ _ _ 0 h _ _) r b

/-- The backward hidden vectors that a first point leaves. -/
theorem first_hidden1 : Hidden (X 1) T (pos 1) (out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11) := by
  subst hT
  intro h r b
  unfold out0_A_13
  rw [View.read_writes_junk_eq_canon, firstOut1, outS_canon]
  exact W1.tOut_apply (first_m _ _ _ 1 h) (fun _ _ => first_B _ _ _ 1 h _ _) (fun _ _ => first_N _ _ _ 1 h _ _) r b

/-- The state that a first point leaves. -/
theorem first_state : State X (T + 256) (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11)
    (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11)
    (sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11)
    (sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11) where
  c d h a b := by
    subst hT
    unfold sout0_A_0
    rw [View.read_writes_junk_eq_canon, firstMem_eq]
    unfold firstMem
    refine memS_hit (fun d h a b => ((X d h).C (0 + 256) a b : EReal)) (fun d h a b => ?_) d h a b
    fin_cases d
    · exact W0.tMem_apply (first_m _ _ _ 0 h) (fun _ _ => first_C _ _ _ 0 h _ _) a b
    · exact W1.tMem_apply (first_m _ _ _ 1 h) (fun _ _ => first_C _ _ _ 1 h _ _) a b
  b d h a b := by
    subst hT
    unfold sout0_A_1
    rw [View.read_writes_junk_eq_canon, firstMemB_eq]
    unfold firstMemB
    refine memBS_hit (fun d h a b => ((X d h).C (0 + 256) a b : EReal)) (fun d h a b => ?_) d h a b
    fin_cases d
    · exact W0.tMemB_apply (first_m _ _ _ 0 h) (fun _ _ => first_C _ _ _ 0 h _ _) a b
    · exact W1.tMemB_apply (first_m _ _ _ 1 h) (fun _ _ => first_C _ _ _ 1 h _ _) a b
  n d h a b := by
    subst hT
    unfold sout0_A_2
    rw [View.read_writes_junk_eq_canon, firstNrm_eq]
    unfold firstNrm
    refine nrmS_hit (fun d h a _ => ((X d h).N (0 + 256) a : EReal)) (fun d h a b => ?_) d h a b
    fin_cases d
    · exact W0.tNrm_apply (first_m _ _ _ 0 h) (fun _ _ => first_N _ _ _ 0 h _ _) a b
    · exact W1.tNrm_apply (first_m _ _ _ 1 h) (fun _ _ => first_N _ _ _ 1 h _ _) a b
  m d h a b := by
    subst hT
    unfold sout0_A_3
    rw [View.read_writes_junk_eq_canon, firstStab_eq]
    unfold firstStab
    refine stabS_hit (fun d h _ _ => ((X d h).m (0 + 256) : EReal)) (fun d h a b => ?_) d h a b
    fin_cases d
    · exact W0.tStab_apply (first_m _ _ _ 0 h)  a b
    · exact W1.tStab_apply (first_m _ _ _ 1 h)  a b

end First

end Cert.Scan

end
-- ==== Proof.Scan.Grid.lean ====
/- The grid: every point finds the tokens of its chunk in its windows, so after the last point the two result arrays hold the hidden vectors
   of every chain. -/
module

public import proofs.«01_k».proof.Proof.Scan.Masks
public import proofs.«01_k».proof.Proof.Scan.Point

@[expose] public section

set_option maxRecDepth 16384

noncomputable section

namespace Cert.Scan

open Idealize.ShloMosaic Idealize.ShloMosaic.TcCoe Cert.KernelIdeal Cert.KernelIdeal.Gen

/-- The block of rows that direction `d` visits at a grid point. -/
def blockOf (d : Fin 2) (n : ℕ) : ℕ :=
  if n % 33 < 1 then 64 + n / 33 else 32 * (n / 33) + (if d = 0 then n % 33 - 1 else 32 - n % 33)

theorem idx0 : ∀ t : Fin cfg0.N, win0_0.index t = ![blockOf 0 t.val, 0] := by decide +kernel
theorem idx1 : ∀ t : Fin cfg0.N, win0_1.index t = ![0, blockOf 0 t.val] := by decide +kernel
theorem idx2 : ∀ t : Fin cfg0.N, win0_2.index t = ![blockOf 0 t.val, 0] := by decide +kernel
theorem idx3 : ∀ t : Fin cfg0.N, win0_3.index t = ![blockOf 0 t.val, 0] := by decide +kernel
theorem idx4 : ∀ t : Fin cfg0.N, win0_4.index t = ![0, blockOf 0 t.val] := by decide +kernel
theorem idx5 : ∀ t : Fin cfg0.N, win0_5.index t = ![blockOf 1 t.val, 0] := by decide +kernel
theorem idx6 : ∀ t : Fin cfg0.N, win0_6.index t = ![0, blockOf 1 t.val] := by decide +kernel
theorem idx7 : ∀ t : Fin cfg0.N, win0_7.index t = ![blockOf 1 t.val, 0] := by decide +kernel
theorem idx8 : ∀ t : Fin cfg0.N, win0_8.index t = ![blockOf 1 t.val, 0] := by decide +kernel
theorem idx9 : ∀ t : Fin cfg0.N, win0_9.index t = ![0, blockOf 1 t.val] := by decide +kernel
theorem idx10 : ∀ t : Fin cfg0.N, win0_10.index t = ![0, 0, 0] := by decide +kernel
theorem idx11 : ∀ t : Fin cfg0.N, win0_11.index t = ![0, 0, 0] := by decide +kernel
theorem idx12 : ∀ t : Fin cfg0.N, win0_12.index t = ![blockOf 0 t.val, 0] := by decide +kernel
theorem idx13 : ∀ t : Fin cfg0.N, win0_13.index t = ![blockOf 1 t.val, 0] := by decide +kernel

/-- The row of a block that holds a time of the chunk, and back: the backward direction holds its tokens in reverse. -/
def posD (d : Fin 2) : Equiv.Perm (Fin 256) := if d = 0 then Equiv.refl _ else Fin.revPerm

theorem posD_le (d : Fin 2) (r s : Fin 256) : posD d s ≤ posD d r ↔ if d = 0 then s ≤ r else r ≤ s := by
  by_cases h : d = 0
  · simp [posD, h]
  · simp [posD, h, Fin.rev_le_rev]

/-- The batch of a grid point. -/
def batch (t : Fin cfg0.N) : Fin 2 := ⟨t.val / 33, by have := t.isLt; have : cfg0.N = 66 := N_0; omega⟩

/-- A row of a point's block is the row of the time that the block's row stands for. -/
theorem row_block (d : Fin 2) (t : Fin cfg0.N) (r : Fin 256) :
    (row d (batch t) (256 * (t.val % 33) + (posD d r).val)).val = 256 * blockOf d t.val + r.val := by
  have ht : t.val < 66 := lt_of_lt_of_eq t.isLt N_0
  have hr := r.isLt
  rw [row_val _ _ (by have := (posD d r).isLt; omega), rowN, blockOf, posD, batch]
  dsimp only
  by_cases hd : d = 0
  · simp only [hd, if_true, Equiv.refl_apply]; split_ifs <;> omega
  · simp only [hd, if_false, Fin.revPerm_apply, Fin.val_rev]; split_ifs <;> omega

variable (m : (ℓ : Loc nD τ sig) → Buf (Elt Ideal) ℓ) (c : Dev nD)

/-- The arguments as arrays. -/
abbrev qA : Rows := m ((c : Thread nD τ).loc main_arg0)
abbrev kA : Cols := m ((c : Thread nD τ).loc main_arg1)
abbrev vA : Rows := m ((c : Thread nD τ).loc main_arg2)
abbrev gA : Gates := m ((c : Thread nD τ).loc main_arg3)

/-- The tokens of a chain, of the arguments. -/
abbrev tokA (d b : Fin 2) (h : Fin 4) : Tokens := tok (qA m c) (kA m c) (vA m c) (gA m c) d b h

theorem blk0 (t : Fin cfg0.N) (r : Fin 256) (k : Fin 2048) (R : Fin 16896) (hR : R.val = 256 * blockOf 0 t.val + r.val) :
    (iblk m c 0 t : Vec Ideal S256x2048 .bf16) (ix2 r k) = qA m c (ix2 R k) := by
  have e := idx0 t
  blk_ext [iblk, V, e]

theorem blk1 (t : Fin cfg0.N) (r : Fin 256) (k : Fin 2048) (R : Fin 16896) (hR : R.val = 256 * blockOf 0 t.val + r.val) :
    (iblk m c 1 t : Vec Ideal S2048x256 .bf16) (ix2 k r) = kA m c (ix2 k R) := by
  have e := idx1 t
  blk_ext [iblk, V, e]

theorem blk2 (t : Fin cfg0.N) (r : Fin 256) (k : Fin 2048) (R : Fin 16896) (hR : R.val = 256 * blockOf 0 t.val + r.val) :
    (iblk m c 2 t : Vec Ideal S256x2048 .bf16) (ix2 r k) = vA m c (ix2 R k) := by
  have e := idx2 t
  blk_ext [iblk, V, e]

theorem blk3 (t : Fin cfg0.N) (r : Fin 256) (k : Fin 16) (R : Fin 16896) (hR : R.val = 256 * blockOf 0 t.val + r.val) :
    (iblk m c 3 t : Vec Ideal S256x16 .f32) (ix2 r k) = gA m c (ix2 R k) := by
  have e := idx3 t
  blk_ext [iblk, V, e]

theorem blk4 (t : Fin cfg0.N) (r : Fin 256) (k : Fin 16) (R : Fin 16896) (hR : R.val = 256 * blockOf 0 t.val + r.val) :
    (iblk m c 4 t : Vec Ideal S16x256 .f32) (ix2 k r) = gA m c (ix2 R k) := by
  have e := idx4 t
  show _ = m ((c : Thread nD τ).loc main_arg3) (ix2 R k)
  rw [← entry_v0 m c]
  blk_ext [iblk, e]

theorem blk5 (t : Fin cfg0.N) (r : Fin 256) (k : Fin 2048) (R : Fin 16896) (hR : R.val = 256 * blockOf 1 t.val + r.val) :
    (iblk m c 5 t : Vec Ideal S256x2048 .bf16) (ix2 r k) = qA m c (ix2 R k) := by
  have e := idx5 t
  blk_ext [iblk, V, e]

theorem blk6 (t : Fin cfg0.N) (r : Fin 256) (k : Fin 2048) (R : Fin 16896) (hR : R.val = 256 * blockOf 1 t.val + r.val) :
    (iblk m c 6 t : Vec Ideal S2048x256 .bf16) (ix2 k r) = kA m c (ix2 k R) := by
  have e := idx6 t
  blk_ext [iblk, V, e]

theorem blk7 (t : Fin cfg0.N) (r : Fin 256) (k : Fin 2048) (R : Fin 16896) (hR : R.val = 256 * blockOf 1 t.val + r.val) :
    (iblk m c 7 t : Vec Ideal S256x2048 .bf16) (ix2 r k) = vA m c (ix2 R k) := by
  have e := idx7 t
  blk_ext [iblk, V, e]

theorem blk8 (t : Fin cfg0.N) (r : Fin 256) (k : Fin 16) (R : Fin 16896) (hR : R.val = 256 * blockOf 1 t.val + r.val) :
    (iblk m c 8 t : Vec Ideal S256x16 .f32) (ix2 r k) = gA m c (ix2 R k) := by
  have e := idx8 t
  blk_ext [iblk, V, e]

theorem blk9 (t : Fin cfg0.N) (r : Fin 256) (k : Fin 16) (R : Fin 16896) (hR : R.val = 256 * blockOf 1 t.val + r.val) :
    (iblk m c 9 t : Vec Ideal S16x256 .f32) (ix2 k r) = gA m c (ix2 R k) := by
  have e := idx9 t
  show _ = m ((c : Thread nD τ).loc main_arg3) (ix2 R k)
  rw [← entry_v0 m c]
  blk_ext [iblk, e]

theorem blk10 (t : Fin cfg0.N) (d : Fin 2) (r s : Fin 256) :
    (iblk m c 10 t : Vec Ideal S2x256x256 .f32) (ix3 d r s) = V m c main_v6 (ix3 d r s) := by
  have e := idx10 t
  blk_ext [iblk, e]

theorem blk11 (t : Fin cfg0.N) (d : Fin 2) (r s : Fin 256) :
    (iblk m c 11 t : Vec Ideal S2x256x256 .f32) (ix3 d r s) = V m c main_v10 (ix3 d r s) := by
  have e := idx11 t
  blk_ext [iblk, e]

/-- The arguments are real numbers. -/
structure Finite : Prop where
  q : Real (qA m c)
  k : Real (kA m c)
  v : Real (vA m c)
  g : Real (gA m c)

variable {m c} (H : Finite m c)

include H

/-- The forward windows of a point hold the tokens of its chunk. -/
theorem win0 (t : Fin cfg0.N) : Win (tokA m c 0 (batch t)) (gateY (gA m c) 0 (batch t)) (256 * (t.val % 33)) (posD 0) 0 1
    (iblk m c 0 t) (iblk m c 1 t) (iblk m c 2 t) (iblk m c 3 t) (iblk m c 4 t) (iblk m c 10 t) (iblk m c 11 t) where
  gate _ _ := rfl
  q h r a := (blk0 m c t r _ _ (row_block 0 t r)).trans (H.q _)
  k h a s := (blk1 m c t s _ _ (row_block 0 t s)).trans (H.k _)
  v h s b := (blk2 m c t s _ _ (row_block 0 t s)).trans (H.v _)
  gi h s := (blk3 m c t s _ _ (row_block 0 t s)).trans (H.g _)
  gf h s := (blk3 m c t s _ _ (row_block 0 t s)).trans (H.g _)
  ti h s := (blk4 m c t s _ _ (row_block 0 t s)).trans (H.g _)
  tf h s := (blk4 m c t s _ _ (row_block 0 t s)).trans (H.g _)
  va r s := by rw [blk10, entry_v6, visA_apply]; exact if_congr (posD_le 0 r s).symm rfl rfl
  vb s r := by rw [blk10, entry_v6, visA_apply]; exact if_congr (posD_le 0 r s).symm rfl rfl
  ng r s := by rw [blk11, entry_v10, negA_apply]; exact if_congr (posD_le 0 r s).symm rfl rfl

/-- The backward windows of a point hold the tokens of its chunk. -/
theorem win1 (t : Fin cfg0.N) : Win (tokA m c 1 (batch t)) (gateY (gA m c) 1 (batch t)) (256 * (t.val % 33)) (posD 1) 1 0
    (iblk m c 5 t) (iblk m c 6 t) (iblk m c 7 t) (iblk m c 8 t) (iblk m c 9 t) (iblk m c 10 t) (iblk m c 11 t) where
  gate _ _ := rfl
  q h r a := (blk5 m c t r _ _ (row_block 1 t r)).trans (H.q _)
  k h a s := (blk6 m c t s _ _ (row_block 1 t s)).trans (H.k _)
  v h s b := (blk7 m c t s _ _ (row_block 1 t s)).trans (H.v _)
  gi h s := (blk8 m c t s _ _ (row_block 1 t s)).trans (H.g _)
  gf h s := (blk8 m c t s _ _ (row_block 1 t s)).trans (H.g _)
  ti h s := (blk9 m c t s _ _ (row_block 1 t s)).trans (H.g _)
  tf h s := (blk9 m c t s _ _ (row_block 1 t s)).trans (H.g _)
  va r s := by rw [blk10, entry_v6, visA_apply]; exact if_congr (posD_le 1 r s).symm rfl rfl
  vb s r := by rw [blk10, entry_v6, visA_apply]; exact if_congr (posD_le 1 r s).symm rfl rfl
  ng r s := by rw [blk11, entry_v10, negA_apply]; exact if_congr (posD_le 1 r s).symm rfl rfl

/-- After a point: the output windows hold the hidden vectors of its chunk, and the scratch the state carried past it. -/
def After (t : Fin cfg0.N) : Prop :=
  Hidden (tokA m c 0 (batch t)) (256 * (t.val % 33)) (posD 0) (outsAt0 m c t.val t.isLt).1
    ∧ Hidden (tokA m c 1 (batch t)) (256 * (t.val % 33)) (posD 1) (outsAt0 m c t.val t.isLt).2.1
    ∧ State (fun d => tokA m c d (batch t)) (256 * (t.val % 33) + 256) (outsAt0 m c t.val t.isLt).2.2.1
        (outsAt0 m c t.val t.isLt).2.2.2.1 (outsAt0 m c t.val t.isLt).2.2.2.2.1 (outsAt0 m c t.val t.isLt).2.2.2.2.2

/-- It is so after the first point of a batch. -/
theorem after_first (t : Fin cfg0.N) (h0 : t.val % 33 = 0) : After t (m := m) (c := c) := by
  unfold After
  rw [outsAt0_A m c t h0]
  have W0 := win0 H t
  have W1 := win1 H t
  have hT : 256 * (t.val % 33) = 0 := by rw [h0]
  dsimp only
  exact ⟨first_hidden0 (X := fun d => tokA m c d (batch t)) (Y := fun d => gateY (gA m c) d (batch t)) (T := 256 * (t.val % 33)) (pos := posD)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W0 W1 ((hcond0_0 t).mpr h0) hT,
      first_hidden1 (X := fun d => tokA m c d (batch t)) (Y := fun d => gateY (gA m c) d (batch t)) (T := 256 * (t.val % 33)) (pos := posD)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W0 W1 ((hcond0_0 t).mpr h0) hT,
      first_state (X := fun d => tokA m c d (batch t)) (Y := fun d => gateY (gA m c) d (batch t)) (T := 256 * (t.val % 33)) (pos := posD)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W0 W1 ((hcond0_0 t).mpr h0) hT⟩

/-- It is so after a later point if the scratch held the state carried to it. -/
theorem after_later (t : Fin cfg0.N) (h0 : ¬t.val % 33 = 0)
    (St : State (fun d => tokA m c d (batch t)) (256 * (t.val % 33)) (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2) : After t (m := m) (c := c) := by
  unfold After
  rw [outsAt0_B m c t h0]
  have W0 := win0 H t
  have W1 := win1 H t
  dsimp only
  exact ⟨later_hidden0 (X := fun d => tokA m c d (batch t)) (Y := fun d => gateY (gA m c) d (batch t)) (T := 256 * (t.val % 33)) (pos := posD)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W0 W1 (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 St,
      later_hidden1 (X := fun d => tokA m c d (batch t)) (Y := fun d => gateY (gA m c) d (batch t)) (T := 256 * (t.val % 33)) (pos := posD)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W0 W1 (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 St,
      later_state (X := fun d => tokA m c d (batch t)) (Y := fun d => gateY (gA m c) d (batch t)) (T := 256 * (t.val % 33)) (pos := posD)
        c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W0 W1 (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 St⟩

/-- It is so after every point. -/
theorem after_all : ∀ (n : ℕ) (hn : n < cfg0.N), After ⟨n, hn⟩ (m := m) (c := c)
  | 0, hn => after_first H ⟨0, hn⟩ rfl
  | k + 1, hn => by
    by_cases h0 : (k + 1) % 33 = 0
    · exact after_first H ⟨k + 1, hn⟩ h0
    · refine after_later H ⟨k + 1, hn⟩ h0 ?_
      have hb : batch ⟨k + 1, hn⟩ = batch ⟨k, by omega⟩ := Fin.ext (by show (k + 1) / 33 = k / 33; omega)
      have hT : 256 * ((k + 1) % 33) = 256 * (k % 33) + 256 := by omega
      have St := (after_all k (by omega)).2.2
      rw [hb]
      show State _ (256 * ((k + 1) % 33)) _ _ _ _
      rw [hT]
      exact St

/-- The forward result: every row holds the hidden vector of the chain that visits it. -/
theorem result0 : Result (qA m c) (kA m c) (vA m c) (gA m c) 0 ((dats m 0 c).arrAt 12 cfg0.N : (S16896x2048).Idx → EReal) := by
  intro b t ht h a
  have hN : cfg0.N = 66 := N_0
  have hb := b.isLt
  let n : Fin cfg0.N := ⟨33 * b.val + t / 256, by omega⟩
  let r : Fin 256 := (posD 0).symm ⟨t % 256, by omega⟩
  have hj : n.val % 33 = t / 256 := by show (33 * b.val + t / 256) % 33 = _; omega
  have hbat : batch n = b := Fin.ext (by show (33 * b.val + t / 256) / 33 = b.val; omega)
  have hpos : (posD 0 r).val = t % 256 := by rw [Equiv.apply_symm_apply]
  have hT : 256 * (n.val % 33) + (posD 0 r).val = t := by rw [hj, hpos]; omega
  have hrow : row 0 b t = row 0 (batch n) (256 * (n.val % 33) + (posD 0 r).val) := by rw [hT, hbat]
  have hv := row_block 0 n r
  have hA := (after_all H n.val n.isLt).1 h r a
  have hbl := congrFun (Value.blocks12 m c n (flush0_12 n)) (ix2 r (hcol h a))
  rw [Value.flushed12] at hbl
  have he : ((cfg0.win 12).blk n).view.emb (ix2 r (hcol h a)) = (ix2 (row 0 b t) (hcol h a) : S16896x2048.Idx) := by
    have e := idx12 n
    rw [hrow]
    blk_ext [e]
  rw [View.read_apply, he] at hbl
  refine hbl.trans ?_
  rw [hT, hbat] at hA
  exact hA

/-- The backward result: every row holds the hidden vector of the chain that visits it. -/
theorem result1 : Result (qA m c) (kA m c) (vA m c) (gA m c) 1 ((dats m 0 c).arrAt 13 cfg0.N : (S16896x2048).Idx → EReal) := by
  intro b t ht h a
  have hN : cfg0.N = 66 := N_0
  have hb := b.isLt
  let n : Fin cfg0.N := ⟨33 * b.val + t / 256, by omega⟩
  let r : Fin 256 := (posD 1).symm ⟨t % 256, by omega⟩
  have hj : n.val % 33 = t / 256 := by show (33 * b.val + t / 256) % 33 = _; omega
  have hbat : batch n = b := Fin.ext (by show (33 * b.val + t / 256) / 33 = b.val; omega)
  have hpos : (posD 1 r).val = t % 256 := by rw [Equiv.apply_symm_apply]
  have hT : 256 * (n.val % 33) + (posD 1 r).val = t := by rw [hj, hpos]; omega
  have hrow : row 1 b t = row 1 (batch n) (256 * (n.val % 33) + (posD 1 r).val) := by rw [hT, hbat]
  have hv := row_block 1 n r
  have hA := (after_all H n.val n.isLt).2.1 h r a
  have hbl := congrFun (Value.blocks13 m c n (flush0_13 n)) (ix2 r (hcol h a))
  rw [Value.flushed13] at hbl
  have he : ((cfg0.win 13).blk n).view.emb (ix2 r (hcol h a)) = (ix2 (row 1 b t) (hcol h a) : S16896x2048.Idx) := by
    have e := idx13 n
    rw [hrow]
    blk_ext [e]
  rw [View.read_apply, he] at hbl
  refine hbl.trans ?_
  rw [hT, hbat] at hA
  exact hA

end Cert.Scan

end
-- ==== Proof.Scan.RefTrip.lean ====
/- One trip of the reference's loop, value by value: at a valuation that holds a state of the loop each value the body makes is the
   step's. -/
module

public import proofs.«01_k».proof.Proof.Gen.ReferenceIdeal.Run
public import proofs.«01_k».proof.Proof.Gen.ReferenceIdeal.Step

@[expose] public section

noncomputable section

namespace Cert.Scan.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v70_7) = s.main_v70_7
  f_8 : V0 (Proc.devRef .tc main_v70_8) = s.main_v70_8
  f_9 : V0 (Proc.devRef .tc main_v70_9) = s.main_v70_9
  f_10 : V0 (Proc.devRef .tc main_v70_10) = s.main_v70_10
  f_0 : V0 (Proc.devRef .tc main_v70_0) = s.main_v70_0
  f_1 : V0 (Proc.devRef .tc main_v70_1) = s.main_v70_1
  f_2 : V0 (Proc.devRef .tc main_v70_2) = s.main_v70_2
  f_3 : V0 (Proc.devRef .tc main_v70_3) = s.main_v70_3
  f_4 : V0 (Proc.devRef .tc main_v70_4) = s.main_v70_4
  n_6 : V0 (Proc.devRef .tc main_v70_6) = constantI S_ 32 (BitVec.ofNat 32 j)
  k_5 : V0 (Proc.devRef .tc main_v70_5) = Cert.ReferenceIdeal.Step.K_main_v58 (F := F)

variable {V0 s j}

set_option maxRecDepth 8192 in
theorem al_0 (h : Holds V0 s j) : (constantI S_ 32 0#32 : (Proc.devRef .tc main_while0b_call10_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call10_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call10_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call10_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x4x64x512 (V0 (Proc.devRef .tc main_v70_0)) (fun k => (((![V0 (Proc.devRef .tc main_v70_6), constantI S_ 32 0#32, constantI S_ 32 0#32, constantI S_ 32 0#32, constantI S_ 32 0#32] : Fin 5 → (⟨S_, .i32⟩ : BufTy).Contents (Elt F))) k (Shape.Idx.first h_S_)).toInt) sliceFits_S132x4x4x64x512_S1x4x4x64x512 : (Proc.devRef .tc main_while0b_call10_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v91 V0 : (Proc.devRef .tc main_while0b_v91 : DevRef τ sig).ty.Contents (Elt F)) = Cert.ReferenceIdeal.Step.b5 j s := by
  unfold res_main_while0b_v91 Cert.ReferenceIdeal.Step.b5
  rw [← al_4 h]
  try rfl
set_option maxRecDepth 8192 in
theorem al_6 (h : Holds V0 s j) : (constantI S_ 32 0#32 : (Proc.devRef .tc main_while0b_call11_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call11_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call11_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call11_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x4x64x512 (V0 (Proc.devRef .tc main_v70_1)) (fun k => (((![V0 (Proc.devRef .tc main_v70_6), constantI S_ 32 0#32, constantI S_ 32 0#32, constantI S_ 32 0#32, constantI S_ 32 0#32] : Fin 5 → (⟨S_, .i32⟩ : BufTy).Contents (Elt F))) k (Shape.Idx.first h_S_)).toInt) sliceFits_S132x4x4x64x512_S1x4x4x64x512 : (Proc.devRef .tc main_while0b_call11_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v92 V0 : (Proc.devRef .tc main_while0b_v92 : DevRef τ sig).ty.Contents (Elt F)) = Cert.ReferenceIdeal.Step.b11 j s := by
  unfold res_main_while0b_v92 Cert.ReferenceIdeal.Step.b11
  rw [← al_10 h]
  try rfl
set_option maxRecDepth 8192 in
theorem al_12 (h : Holds V0 s j) : (constantI S_ 32 0#32 : (Proc.devRef .tc main_while0b_call12_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call12_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call12_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call12_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x4x64x512 (V0 (Proc.devRef .tc main_v70_2)) (fun k => (((![V0 (Proc.devRef .tc main_v70_6), constantI S_ 32 0#32, constantI S_ 32 0#32, constantI S_ 32 0#32, constantI S_ 32 0#32] : Fin 5 → (⟨S_, .i32⟩ : BufTy).Contents (Elt F))) k (Shape.Idx.first h_S_)).toInt) sliceFits_S132x4x4x64x512_S1x4x4x64x512 : (Proc.devRef .tc main_while0b_call12_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (res_main_while0b_v93 V0 : (Proc.devRef .tc main_while0b_v93 : DevRef τ sig).ty.Contents (Elt F)) = Cert.ReferenceIdeal.Step.b17 j s := by
  unfold res_main_while0b_v93 Cert.ReferenceIdeal.Step.b17
  rw [← al_16 h]
  try rfl
set_option maxRecDepth 8192 in
theorem al_18 (h : Holds V0 s j) : (constantI S_ 32 0#32 : (Proc.devRef .tc main_while0b_call13_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call13_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call13_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x4x64 (V0 (Proc.devRef .tc main_v70_3)) (fun k => (((![V0 (Proc.devRef .tc main_v70_6), constantI S_ 32 0#32, constantI S_ 32 0#32, constantI S_ 32 0#32] : Fin 4 → (⟨S_, .i32⟩ : BufTy).Contents (Elt F))) k (Shape.Idx.first h_S_)).toInt) sliceFits_S132x4x4x64_S1x4x4x64 : (Proc.devRef .tc main_while0b_call13_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
theorem al_22 (h : Holds V0 s j) : (res_main_while0b_v94 V0 : (Proc.devRef .tc main_while0b_v94 : DevRef τ sig).ty.Contents (Elt F)) = Cert.ReferenceIdeal.Step.b22 j s := by
  unfold res_main_while0b_v94 Cert.ReferenceIdeal.Step.b22
  rw [← al_21 h]
  try rfl
set_option maxRecDepth 8192 in
theorem al_23 (h : Holds V0 s j) : (constantI S_ 32 0#32 : (Proc.devRef .tc main_while0b_call14_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call14_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call14_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x4x4x64 (V0 (Proc.devRef .tc main_v70_4)) (fun k => (((![V0 (Proc.devRef .tc main_v70_6), constantI S_ 32 0#32, constantI S_ 32 0#32, constantI S_ 32 0#32] : Fin 4 → (⟨S_, .i32⟩ : BufTy).Contents (Elt F))) k (Shape.Idx.first h_S_)).toInt) sliceFits_S132x4x4x64_S1x4x4x64 : (Proc.devRef .tc main_while0b_call14_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
theorem al_27 (h : Holds V0 s j) : (shapeCast S4x4x64 (Host.dynamicSlice S1x4x4x64 (V0 (Proc.devRef .tc main_v70_4)) (fun k => (((![V0 (Proc.devRef .tc main_v70_6), constantI S_ 32 0#32, constantI S_ 32 0#32, constantI S_ 32 0#32] : Fin 4 → (⟨S_, .i32⟩ : BufTy).Contents (Elt F))) k (Shape.Idx.first h_S_)).toInt) sliceFits_S132x4x4x64_S1x4x4x64) shapeCasts_S1x4x4x64_S4x4x64 : (Proc.devRef .tc main_while0b_v95 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call15_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call15_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v96 V0 : (Proc.devRef .tc main_while0b_v96 : DevRef τ sig).ty.Contents (Elt F)) = Cert.ReferenceIdeal.Step.b30 j s := by
  unfold res_main_while0b_v96 Cert.ReferenceIdeal.Step.b30
  rw [← al_27 h, ← al_29 h]
  try rfl
set_option maxRecDepth 8192 in
theorem al_31 (h : Holds V0 s j) : (broadcastInDim S4x4x64x1 ![0, 1, 2] bcast_S4x4x64_S4x4x64x1_0_1_2 (res_main_while0b_v96 V0) : (Proc.devRef .tc main_while0b_v97 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (broadcastInDim S4x4x1x64 ![0, 1, 3] bcast_S4x4x64_S4x4x1x64_0_1_3 (res_main_while0b_v96 V0) : (Proc.devRef .tc main_while0b_v98 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v96 V0)) : (Proc.devRef .tc main_while0b_v99 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v96 V0)) : (Proc.devRef .tc main_while0b_v100 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v96 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v96 V0))) : (Proc.devRef .tc main_while0b_v101 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S4x4x1x64 ![0, 1, 3] bcast_S4x4x64_S4x4x1x64_0_1_3 (res_main_while0b_v94 V0) : (Proc.devRef .tc main_while0b_v102 : DevRef τ sig).ty.Contents (Elt F)) = Cert.ReferenceIdeal.Step.b36 j s := by
  unfold Cert.ReferenceIdeal.Step.b36
  rw [← al_22 h]
  try rfl
set_option maxRecDepth 8192 in
theorem al_37 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v94 V0)) : (Proc.devRef .tc main_while0b_v103 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (addf (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v96 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v96 V0)))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v94 V0))) : (Proc.devRef .tc main_while0b_v104 : DevRef τ sig).ty.Contents (Elt F)) = Cert.ReferenceIdeal.Step.b38 j s := by
  unfold Cert.ReferenceIdeal.Step.b38
  rw [← al_35 h, ← al_37 h]
  try rfl
set_option maxRecDepth 8192 in
theorem al_39 (h : Holds V0 s j) : (constant S_ .f32 0xFF800000#32 : (Proc.devRef .tc main_while0b_cst_14 : DevRef τ sig).ty.Contents (Elt F)) = Cert.ReferenceIdeal.Step.b39 j s := by
  unfold Cert.ReferenceIdeal.Step.b39
  rfl
set_option maxRecDepth 8192 in
theorem al_40 (h : Holds V0 s j) : (id (constant S_ .f32 0xFF800000#32) : (Proc.devRef .tc main_while0b_call16_v0 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (broadcastInDim S4x4x64x64 ![2, 3] bcast_S64x64_S4x4x64x64_2_3 (V0 (Proc.devRef .tc main_v70_5)) : (Proc.devRef .tc main_while0b_call16_v1 : DevRef τ sig).ty.Contents (Elt F)) = Cert.ReferenceIdeal.Step.b41 j s := by
  unfold Cert.ReferenceIdeal.Step.b41
  rw [h.k_5]
  try rfl
set_option maxRecDepth 8192 in
theorem al_42 (h : Holds V0 s j) : (broadcastInDim S4x4x64x64 ![] bcast_S_S4x4x64x64 (id (constant S_ .f32 0xFF800000#32)) : (Proc.devRef .tc main_while0b_call16_v2 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (res_main_while0b_v105 V0 : (Proc.devRef .tc main_while0b_v105 : DevRef τ sig).ty.Contents (Elt F)) = Cert.ReferenceIdeal.Step.b43 j s := by
  unfold res_main_while0b_v105 Cert.ReferenceIdeal.Step.b43
  rw [← al_41 h, ← al_38 h, ← al_42 h]
  try rfl
set_option maxRecDepth 8192 in
theorem al_44 (h : Holds V0 s j) : (broadcastInDim S4x4x1 ![0, 1] bcast_S4x4_S4x4x1_0_1 (V0 (Proc.devRef .tc main_v70_9)) : (Proc.devRef .tc main_while0b_v106 : DevRef τ sig).ty.Contents (Elt F)) = Cert.ReferenceIdeal.Step.b44 j s := by
  unfold Cert.ReferenceIdeal.Step.b44
  rw [h.f_9]
  try rfl
set_option maxRecDepth 8192 in
theorem al_45 (h : Holds V0 s j) : (broadcastInDim S4x4x64 ![0, 1, 2] bcast_S4x4x1_S4x4x64_0_1_2 (broadcastInDim S4x4x1 ![0, 1] bcast_S4x4_S4x4x1_0_1 (V0 (Proc.devRef .tc main_v70_9))) : (Proc.devRef .tc main_while0b_v107 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (res_main_while0b_v108 V0 : (Proc.devRef .tc main_while0b_v108 : DevRef τ sig).ty.Contents (Elt F)) = Cert.ReferenceIdeal.Step.b46 j s := by
  unfold res_main_while0b_v108 Cert.ReferenceIdeal.Step.b46
  rw [← al_30 h, ← al_45 h]
  try rfl
set_option maxRecDepth 8192 in
theorem al_47 (h : Holds V0 s j) : (constant S_ .f32 0xFF800000#32 : (Proc.devRef .tc main_while0b_cst_15 : DevRef τ sig).ty.Contents (Elt F)) = Cert.ReferenceIdeal.Step.b47 j s := by
  unfold Cert.ReferenceIdeal.Step.b47
  rfl
set_option maxRecDepth 8192 in
theorem al_48 (h : Holds V0 s j) : (Host.reduce FloatOps.maximumf (res_main_while0b_v105 V0) (constant S_ .f32 0xFF800000#32) reducesTo_S4x4x64x64_S4x4x64_d3 h_S_ : (Proc.devRef .tc main_while0b_v109 : DevRef τ sig).ty.Contents (Elt F)) = Cert.ReferenceIdeal.Step.b48 j s := by
  unfold Cert.ReferenceIdeal.Step.b48
  rw [← al_43 h, ← al_47 h]
  try rfl
set_option maxRecDepth 8192 in
theorem al_49 (h : Holds V0 s j) : (res_main_while0b_v110 V0 : (Proc.devRef .tc main_while0b_v110 : DevRef τ sig).ty.Contents (Elt F)) = Cert.ReferenceIdeal.Step.b49 j s := by
  unfold res_main_while0b_v110 Cert.ReferenceIdeal.Step.b49
  rw [← al_46 h, ← al_48 h]
  try rfl
set_option maxRecDepth 8192 in
theorem al_50 (h : Holds V0 s j) : (Host.dotGeneral dot_S4x4x64x512_S4x4x64x512_S4x4x64x64_3_3_2_2_01_01 none (res_main_while0b_v91 V0) (res_main_while0b_v92 V0) : (Proc.devRef .tc main_while0b_v111 : DevRef τ sig).ty.Contents (Elt F)) = Cert.ReferenceIdeal.Step.b50 j s := by
  unfold Cert.ReferenceIdeal.Step.b50
  rw [← al_5 h, ← al_11 h]
  try rfl
set_option maxRecDepth 8192 in
theorem al_51 (h : Holds V0 s j) : (broadcastInDim S4x4x64x1 ![0, 1, 2] bcast_S4x4x64_S4x4x64x1_0_1_2 (res_main_while0b_v110 V0) : (Proc.devRef .tc main_while0b_v112 : DevRef τ sig).ty.Contents (Elt F)) = Cert.ReferenceIdeal.Step.b51 j s := by
  unfold Cert.ReferenceIdeal.Step.b51
  rw [← al_49 h]
  try rfl
set_option maxRecDepth 8192 in
theorem al_52 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v110 V0)) : (Proc.devRef .tc main_while0b_v113 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (subf (res_main_while0b_v105 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v110 V0))) : (Proc.devRef .tc main_while0b_v114 : DevRef τ sig).ty.Contents (Elt F)) = Cert.ReferenceIdeal.Step.b53 j s := by
  unfold Cert.ReferenceIdeal.Step.b53
  rw [← al_43 h, ← al_52 h]
  try rfl
set_option maxRecDepth 8192 in
theorem al_54 (h : Holds V0 s j) : (Host.exp (subf (res_main_while0b_v105 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v110 V0)))) : (Proc.devRef .tc main_while0b_v115 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (res_main_while0b_v116 V0 : (Proc.devRef .tc main_while0b_v116 : DevRef τ sig).ty.Contents (Elt F)) = Cert.ReferenceIdeal.Step.b55 j s := by
  unfold res_main_while0b_v116 Cert.ReferenceIdeal.Step.b55
  rw [← al_50 h, ← al_54 h]
  try rfl
set_option maxRecDepth 8192 in
theorem al_56 (h : Holds V0 s j) : (subf (res_main_while0b_v108 V0) (res_main_while0b_v110 V0) : (Proc.devRef .tc main_while0b_v117 : DevRef τ sig).ty.Contents (Elt F)) = Cert.ReferenceIdeal.Step.b56 j s := by
  unfold Cert.ReferenceIdeal.Step.b56
  rw [← al_46 h, ← al_49 h]
  try rfl
set_option maxRecDepth 8192 in
theorem al_57 (h : Holds V0 s j) : (res_main_while0b_v118 V0 : (Proc.devRef .tc main_while0b_v118 : DevRef τ sig).ty.Contents (Elt F)) = Cert.ReferenceIdeal.Step.b57 j s := by
  unfold res_main_while0b_v118 Cert.ReferenceIdeal.Step.b57
  rw [← al_56 h]
  try rfl
set_option maxRecDepth 8192 in
theorem al_58 (h : Holds V0 s j) : (Host.dotGeneral dot_S4x4x64x64_S4x4x64x512_S4x4x64x512_3_2_2_3_01_01 none (res_main_while0b_v116 V0) (res_main_while0b_v93 V0) : (Proc.devRef .tc main_while0b_v119 : DevRef τ sig).ty.Contents (Elt F)) = Cert.ReferenceIdeal.Step.b58 j s := by
  unfold Cert.ReferenceIdeal.Step.b58
  rw [← al_55 h, ← al_17 h]
  try rfl
set_option maxRecDepth 8192 in
theorem al_59 (h : Holds V0 s j) : (broadcastInDim S4x4x64x1 ![0, 1, 2] bcast_S4x4x64_S4x4x64x1_0_1_2 (res_main_while0b_v118 V0) : (Proc.devRef .tc main_while0b_v120 : DevRef τ sig).ty.Contents (Elt F)) = Cert.ReferenceIdeal.Step.b59 j s := by
  unfold Cert.ReferenceIdeal.Step.b59
  rw [← al_57 h]
  try rfl
set_option maxRecDepth 8192 in
theorem al_60 (h : Holds V0 s j) : (Host.dotGeneral dot_S4x4x64x512_S4x4x512x512_S4x4x64x512_3_3_2_2_01_01 none (res_main_while0b_v91 V0) (V0 (Proc.devRef .tc main_v70_7)) : (Proc.devRef .tc main_while0b_v121 : DevRef τ sig).ty.Contents (Elt F)) = Cert.ReferenceIdeal.Step.b60 j s := by
  unfold Cert.ReferenceIdeal.Step.b60
  rw [← al_5 h, h.f_7]
  try rfl
set_option maxRecDepth 8192 in
theorem al_61 (h : Holds V0 s j) : (broadcastInDim S4x4x64x512 ![0, 1, 2, 3] bcast_S4x4x64x1_S4x4x64x512_0_1_2_3 (broadcastInDim S4x4x64x1 ![0, 1, 2] bcast_S4x4x64_S4x4x64x1_0_1_2 (res_main_while0b_v118 V0)) : (Proc.devRef .tc main_while0b_v122 : DevRef τ sig).ty.Contents (Elt F)) = Cert.ReferenceIdeal.Step.b61 j s := by
  unfold Cert.ReferenceIdeal.Step.b61
  rw [← al_59 h]
  try rfl
set_option maxRecDepth 8192 in
theorem al_62 (h : Holds V0 s j) : (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v118 V0))) (Host.dotGeneral dot_S4x4x64x512_S4x4x512x512_S4x4x64x512_3_3_2_2_01_01 none (res_main_while0b_v91 V0) (V0 (Proc.devRef .tc main_v70_7))) : (Proc.devRef .tc main_while0b_v123 : DevRef τ sig).ty.Contents (Elt F)) = Cert.ReferenceIdeal.Step.b62 j s := by
  unfold Cert.ReferenceIdeal.Step.b62
  rw [← al_61 h, ← al_60 h]
  try rfl
set_option maxRecDepth 8192 in
theorem al_63 (h : Holds V0 s j) : (addf (Host.dotGeneral dot_S4x4x64x64_S4x4x64x512_S4x4x64x512_3_2_2_3_01_01 none (res_main_while0b_v116 V0) (res_main_while0b_v93 V0)) (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v118 V0))) (Host.dotGeneral dot_S4x4x64x512_S4x4x512x512_S4x4x64x512_3_3_2_2_01_01 none (res_main_while0b_v91 V0) (V0 (Proc.devRef .tc main_v70_7)))) : (Proc.devRef .tc main_while0b_v124 : DevRef τ sig).ty.Contents (Elt F)) = Cert.ReferenceIdeal.Step.b63 j s := by
  unfold Cert.ReferenceIdeal.Step.b63
  rw [← al_58 h, ← al_62 h]
  try rfl
set_option maxRecDepth 8192 in
theorem al_64 (h : Holds V0 s j) : (constant S_ .f32 0x00000000#32 : (Proc.devRef .tc main_while0b_cst_16 : DevRef τ sig).ty.Contents (Elt F)) = Cert.ReferenceIdeal.Step.b64 j s := by
  unfold Cert.ReferenceIdeal.Step.b64
  rfl
set_option maxRecDepth 8192 in
theorem al_65 (h : Holds V0 s j) : (Host.reduceAdd (res_main_while0b_v116 V0) (constant S_ .f32 0x00000000#32) reducesTo_S4x4x64x64_S4x4x64_d3 h_S_ : (Proc.devRef .tc main_while0b_v125 : DevRef τ sig).ty.Contents (Elt F)) = Cert.ReferenceIdeal.Step.b65 j s := by
  unfold Cert.ReferenceIdeal.Step.b65
  rw [← al_55 h, ← al_64 h]
  try rfl
set_option maxRecDepth 8192 in
theorem al_66 (h : Holds V0 s j) : (Host.dotGeneral dot_S4x4x512_S4x4x64x512_S4x4x64_2_3_n_2_01_01 none (V0 (Proc.devRef .tc main_v70_8)) (res_main_while0b_v91 V0) : (Proc.devRef .tc main_while0b_v126 : DevRef τ sig).ty.Contents (Elt F)) = Cert.ReferenceIdeal.Step.b66 j s := by
  unfold Cert.ReferenceIdeal.Step.b66
  rw [← al_5 h, h.f_8]
  try rfl
set_option maxRecDepth 8192 in
theorem al_67 (h : Holds V0 s j) : (mulf (res_main_while0b_v118 V0) (Host.dotGeneral dot_S4x4x512_S4x4x64x512_S4x4x64_2_3_n_2_01_01 none (V0 (Proc.devRef .tc main_v70_8)) (res_main_while0b_v91 V0)) : (Proc.devRef .tc main_while0b_v127 : DevRef τ sig).ty.Contents (Elt F)) = Cert.ReferenceIdeal.Step.b67 j s := by
  unfold Cert.ReferenceIdeal.Step.b67
  rw [← al_57 h, ← al_66 h]
  try rfl
set_option maxRecDepth 8192 in
theorem al_68 (h : Holds V0 s j) : (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0))) : (Proc.devRef .tc main_while0b_v128 : DevRef τ sig).ty.Contents (Elt F)) = Cert.ReferenceIdeal.Step.b68 j s := by
  unfold Cert.ReferenceIdeal.Step.b68
  rw [← al_65 h, ← al_67 h]
  try rfl
set_option maxRecDepth 8192 in
theorem al_69 (h : Holds V0 s j) : (Host.absf (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0)))) : (Proc.devRef .tc main_while0b_v129 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (Host.negf (res_main_while0b_v110 V0) : (Proc.devRef .tc main_while0b_v130 : DevRef τ sig).ty.Contents (Elt F)) = Cert.ReferenceIdeal.Step.b70 j s := by
  unfold Cert.ReferenceIdeal.Step.b70
  rw [← al_49 h]
  try rfl
set_option maxRecDepth 8192 in
theorem al_71 (h : Holds V0 s j) : (Host.exp (Host.negf (res_main_while0b_v110 V0)) : (Proc.devRef .tc main_while0b_v131 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (maximumf (Host.absf (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0))))) (Host.exp (Host.negf (res_main_while0b_v110 V0))) : (Proc.devRef .tc main_while0b_v132 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (broadcastInDim S4x4x64x1 ![0, 1, 2] bcast_S4x4x64_S4x4x64x1_0_1_2 (maximumf (Host.absf (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0))))) (Host.exp (Host.negf (res_main_while0b_v110 V0)))) : (Proc.devRef .tc main_while0b_v133 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0))))) (Host.exp (Host.negf (res_main_while0b_v110 V0))))) : (Proc.devRef .tc main_while0b_v134 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (addf (Host.dotGeneral dot_S4x4x64x64_S4x4x64x512_S4x4x64x512_3_2_2_3_01_01 none (res_main_while0b_v116 V0) (res_main_while0b_v93 V0)) (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v118 V0))) (Host.dotGeneral dot_S4x4x64x512_S4x4x512x512_S4x4x64x512_3_3_2_2_01_01 none (res_main_while0b_v91 V0) (V0 (Proc.devRef .tc main_v70_7))))) (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0))))) (Host.exp (Host.negf (res_main_while0b_v110 V0)))))) : (Proc.devRef .tc main_while0b_v135 : DevRef τ sig).ty.Contents (Elt F)) = Cert.ReferenceIdeal.Step.b75 j s := by
  unfold Cert.ReferenceIdeal.Step.b75
  rw [← al_63 h, ← al_74 h]
  try rfl
set_option maxRecDepth 8192 in
theorem al_76 (h : Holds V0 s j) : (extractStridedSlice S4x4x1 ![0, 0, 63] (res_main_while0b_v96 V0) slices_S4x4x64_S4x4x1_0_0_63 : (Proc.devRef .tc main_while0b_v136 : DevRef τ sig).ty.Contents (Elt F)) = Cert.ReferenceIdeal.Step.b76 j s := by
  unfold Cert.ReferenceIdeal.Step.b76
  rw [← al_30 h]
  try rfl
set_option maxRecDepth 8192 in
theorem al_77 (h : Holds V0 s j) : (res_main_while0b_v137 V0 : (Proc.devRef .tc main_while0b_v137 : DevRef τ sig).ty.Contents (Elt F)) = Cert.ReferenceIdeal.Step.b77 j s := by
  unfold res_main_while0b_v137 Cert.ReferenceIdeal.Step.b77
  rw [← al_76 h]
  try rfl
set_option maxRecDepth 8192 in
theorem al_78 (h : Holds V0 s j) : (broadcastInDim S4x4x1 ![0, 1] bcast_S4x4_S4x4x1_0_1 (res_main_while0b_v137 V0) : (Proc.devRef .tc main_while0b_v138 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S4x4x64 ![0, 1, 2] bcast_S4x4x1_S4x4x64_0_1_2 (broadcastInDim S4x4x1 ![0, 1] bcast_S4x4_S4x4x1_0_1 (res_main_while0b_v137 V0)) : (Proc.devRef .tc main_while0b_v139 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (subf (broadcastInDim S4x4x64 ![0, 1, 2] bcast_S4x4x1_S4x4x64_0_1_2 (broadcastInDim S4x4x1 ![0, 1] bcast_S4x4_S4x4x1_0_1 (res_main_while0b_v137 V0))) (res_main_while0b_v96 V0) : (Proc.devRef .tc main_while0b_v140 : DevRef τ sig).ty.Contents (Elt F)) = Cert.ReferenceIdeal.Step.b80 j s := by
  unfold Cert.ReferenceIdeal.Step.b80
  rw [← al_79 h, ← al_30 h]
  try rfl
set_option maxRecDepth 8192 in
theorem al_81 (h : Holds V0 s j) : (res_main_while0b_v141 V0 : (Proc.devRef .tc main_while0b_v141 : DevRef τ sig).ty.Contents (Elt F)) = Cert.ReferenceIdeal.Step.b81 j s := by
  unfold res_main_while0b_v141 Cert.ReferenceIdeal.Step.b81
  rw [← al_80 h, ← al_22 h]
  try rfl
set_option maxRecDepth 8192 in
theorem al_82 (h : Holds V0 s j) : (addf (res_main_while0b_v137 V0) (V0 (Proc.devRef .tc main_v70_9)) : (Proc.devRef .tc main_while0b_v142 : DevRef τ sig).ty.Contents (Elt F)) = Cert.ReferenceIdeal.Step.b82 j s := by
  unfold Cert.ReferenceIdeal.Step.b82
  rw [← al_77 h, h.f_9]
  try rfl
set_option maxRecDepth 8192 in
theorem al_83 (h : Holds V0 s j) : (constant S_ .f32 0xFF800000#32 : (Proc.devRef .tc main_while0b_cst_17 : DevRef τ sig).ty.Contents (Elt F)) = Cert.ReferenceIdeal.Step.b83 j s := by
  unfold Cert.ReferenceIdeal.Step.b83
  rfl
set_option maxRecDepth 8192 in
theorem al_84 (h : Holds V0 s j) : (Host.reduce FloatOps.maximumf (res_main_while0b_v141 V0) (constant S_ .f32 0xFF800000#32) reducesTo_S4x4x64_S4x4_d2 h_S_ : (Proc.devRef .tc main_while0b_v143 : DevRef τ sig).ty.Contents (Elt F)) = Cert.ReferenceIdeal.Step.b84 j s := by
  unfold Cert.ReferenceIdeal.Step.b84
  rw [← al_81 h, ← al_83 h]
  try rfl
set_option maxRecDepth 8192 in
theorem al_85 (h : Holds V0 s j) : (res_main_while0b_v144 V0 : (Proc.devRef .tc main_while0b_v144 : DevRef τ sig).ty.Contents (Elt F)) = Cert.ReferenceIdeal.Step.b85 j s := by
  unfold res_main_while0b_v144 Cert.ReferenceIdeal.Step.b85
  rw [← al_82 h, ← al_84 h]
  try rfl
set_option maxRecDepth 8192 in
theorem al_86 (h : Holds V0 s j) : (broadcastInDim S4x4x1 ![0, 1] bcast_S4x4_S4x4x1_0_1 (res_main_while0b_v144 V0) : (Proc.devRef .tc main_while0b_v145 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (broadcastInDim S4x4x64 ![0, 1, 2] bcast_S4x4x1_S4x4x64_0_1_2 (broadcastInDim S4x4x1 ![0, 1] bcast_S4x4_S4x4x1_0_1 (res_main_while0b_v144 V0)) : (Proc.devRef .tc main_while0b_v146 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (subf (res_main_while0b_v141 V0) (broadcastInDim S4x4x64 ![0, 1, 2] bcast_S4x4x1_S4x4x64_0_1_2 (broadcastInDim S4x4x1 ![0, 1] bcast_S4x4_S4x4x1_0_1 (res_main_while0b_v144 V0))) : (Proc.devRef .tc main_while0b_v147 : DevRef τ sig).ty.Contents (Elt F)) = Cert.ReferenceIdeal.Step.b88 j s := by
  unfold Cert.ReferenceIdeal.Step.b88
  rw [← al_81 h, ← al_87 h]
  try rfl
set_option maxRecDepth 8192 in
theorem al_89 (h : Holds V0 s j) : (res_main_while0b_v148 V0 : (Proc.devRef .tc main_while0b_v148 : DevRef τ sig).ty.Contents (Elt F)) = Cert.ReferenceIdeal.Step.b89 j s := by
  unfold res_main_while0b_v148 Cert.ReferenceIdeal.Step.b89
  rw [← al_88 h]
  try rfl
set_option maxRecDepth 8192 in
theorem al_90 (h : Holds V0 s j) : (addf (res_main_while0b_v137 V0) (V0 (Proc.devRef .tc main_v70_9)) : (Proc.devRef .tc main_while0b_v149 : DevRef τ sig).ty.Contents (Elt F)) = Cert.ReferenceIdeal.Step.b90 j s := by
  unfold Cert.ReferenceIdeal.Step.b90
  rw [← al_77 h, h.f_9]
  try rfl
set_option maxRecDepth 8192 in
theorem al_91 (h : Holds V0 s j) : (subf (addf (res_main_while0b_v137 V0) (V0 (Proc.devRef .tc main_v70_9))) (res_main_while0b_v144 V0) : (Proc.devRef .tc main_while0b_v150 : DevRef τ sig).ty.Contents (Elt F)) = Cert.ReferenceIdeal.Step.b91 j s := by
  unfold Cert.ReferenceIdeal.Step.b91
  rw [← al_90 h, ← al_85 h]
  try rfl
set_option maxRecDepth 8192 in
theorem al_92 (h : Holds V0 s j) : (res_main_while0b_v151 V0 : (Proc.devRef .tc main_while0b_v151 : DevRef τ sig).ty.Contents (Elt F)) = Cert.ReferenceIdeal.Step.b92 j s := by
  unfold res_main_while0b_v151 Cert.ReferenceIdeal.Step.b92
  rw [← al_91 h]
  try rfl
set_option maxRecDepth 8192 in
theorem al_93 (h : Holds V0 s j) : (broadcastInDim S4x4x1x1 ![0, 1] bcast_S4x4_S4x4x1x1_0_1 (res_main_while0b_v151 V0) : (Proc.devRef .tc main_while0b_v152 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (broadcastInDim S4x4x512x512 ![0, 1, 2, 3] bcast_S4x4x1x1_S4x4x512x512_0_1_2_3 (broadcastInDim S4x4x1x1 ![0, 1] bcast_S4x4_S4x4x1x1_0_1 (res_main_while0b_v151 V0)) : (Proc.devRef .tc main_while0b_v153 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (mulf (broadcastInDim S4x4x512x512 ![0, 1, 2, 3] bcast_S4x4x1x1_S4x4x512x512_0_1_2_3 (broadcastInDim S4x4x1x1 ![0, 1] bcast_S4x4_S4x4x1x1_0_1 (res_main_while0b_v151 V0))) (V0 (Proc.devRef .tc main_v70_7)) : (Proc.devRef .tc main_while0b_v154 : DevRef τ sig).ty.Contents (Elt F)) = Cert.ReferenceIdeal.Step.b95 j s := by
  unfold Cert.ReferenceIdeal.Step.b95
  rw [← al_94 h, h.f_7]
  try rfl
set_option maxRecDepth 8192 in
theorem al_96 (h : Holds V0 s j) : (broadcastInDim S4x4x64x1 ![0, 1, 2] bcast_S4x4x64_S4x4x64x1_0_1_2 (res_main_while0b_v148 V0) : (Proc.devRef .tc main_while0b_v155 : DevRef τ sig).ty.Contents (Elt F)) = Cert.ReferenceIdeal.Step.b96 j s := by
  unfold Cert.ReferenceIdeal.Step.b96
  rw [← al_89 h]
  try rfl
set_option maxRecDepth 8192 in
theorem al_97 (h : Holds V0 s j) : (broadcastInDim S4x4x64x512 ![0, 1, 2, 3] bcast_S4x4x64x1_S4x4x64x512_0_1_2_3 (broadcastInDim S4x4x64x1 ![0, 1, 2] bcast_S4x4x64_S4x4x64x1_0_1_2 (res_main_while0b_v148 V0)) : (Proc.devRef .tc main_while0b_v156 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v148 V0))) (res_main_while0b_v93 V0) : (Proc.devRef .tc main_while0b_v157 : DevRef τ sig).ty.Contents (Elt F)) = Cert.ReferenceIdeal.Step.b98 j s := by
  unfold Cert.ReferenceIdeal.Step.b98
  rw [← al_97 h, ← al_17 h]
  try rfl
set_option maxRecDepth 8192 in
theorem al_99 (h : Holds V0 s j) : (Host.dotGeneral dot_S4x4x64x512_S4x4x64x512_S4x4x512x512_2_2_3_3_01_01 none (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v148 V0))) (res_main_while0b_v93 V0)) (res_main_while0b_v92 V0) : (Proc.devRef .tc main_while0b_v158 : DevRef τ sig).ty.Contents (Elt F)) = Cert.ReferenceIdeal.Step.b99 j s := by
  unfold Cert.ReferenceIdeal.Step.b99
  rw [← al_98 h, ← al_11 h]
  try rfl
set_option maxRecDepth 8192 in
theorem al_100 (h : Holds V0 s j) : (addf (mulf (broadcastInDim S4x4x512x512 ![0, 1, 2, 3] bcast_S4x4x1x1_S4x4x512x512_0_1_2_3 (broadcastInDim S4x4x1x1 ![0, 1] bcast_S4x4_S4x4x1x1_0_1 (res_main_while0b_v151 V0))) (V0 (Proc.devRef .tc main_v70_7))) (Host.dotGeneral dot_S4x4x64x512_S4x4x64x512_S4x4x512x512_2_2_3_3_01_01 none (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v148 V0))) (res_main_while0b_v93 V0)) (res_main_while0b_v92 V0)) : (Proc.devRef .tc main_while0b_v159 : DevRef τ sig).ty.Contents (Elt F)) = Cert.ReferenceIdeal.Step.b100 j s := by
  unfold Cert.ReferenceIdeal.Step.b100
  rw [← al_95 h, ← al_99 h]
  try rfl
set_option maxRecDepth 8192 in
theorem al_101 (h : Holds V0 s j) : (broadcastInDim S4x4x1 ![0, 1] bcast_S4x4_S4x4x1_0_1 (res_main_while0b_v151 V0) : (Proc.devRef .tc main_while0b_v160 : DevRef τ sig).ty.Contents (Elt F)) = Cert.ReferenceIdeal.Step.b101 j s := by
  unfold Cert.ReferenceIdeal.Step.b101
  rw [← al_92 h]
  try rfl
set_option maxRecDepth 8192 in
theorem al_102 (h : Holds V0 s j) : (broadcastInDim S4x4x512 ![0, 1, 2] bcast_S4x4x1_S4x4x512_0_1_2 (broadcastInDim S4x4x1 ![0, 1] bcast_S4x4_S4x4x1_0_1 (res_main_while0b_v151 V0)) : (Proc.devRef .tc main_while0b_v161 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (mulf (broadcastInDim S4x4x512 ![0, 1, 2] bcast_S4x4x1_S4x4x512_0_1_2 (broadcastInDim S4x4x1 ![0, 1] bcast_S4x4_S4x4x1_0_1 (res_main_while0b_v151 V0))) (V0 (Proc.devRef .tc main_v70_8)) : (Proc.devRef .tc main_while0b_v162 : DevRef τ sig).ty.Contents (Elt F)) = Cert.ReferenceIdeal.Step.b103 j s := by
  unfold Cert.ReferenceIdeal.Step.b103
  rw [← al_102 h, h.f_8]
  try rfl
set_option maxRecDepth 8192 in
theorem al_104 (h : Holds V0 s j) : (Host.dotGeneral dot_S4x4x64_S4x4x64x512_S4x4x512_2_2_n_3_01_01 none (res_main_while0b_v148 V0) (res_main_while0b_v92 V0) : (Proc.devRef .tc main_while0b_v163 : DevRef τ sig).ty.Contents (Elt F)) = Cert.ReferenceIdeal.Step.b104 j s := by
  unfold Cert.ReferenceIdeal.Step.b104
  rw [← al_89 h, ← al_11 h]
  try rfl
set_option maxRecDepth 8192 in
theorem al_105 (h : Holds V0 s j) : (addf (mulf (broadcastInDim S4x4x512 ![0, 1, 2] bcast_S4x4x1_S4x4x512_0_1_2 (broadcastInDim S4x4x1 ![0, 1] bcast_S4x4_S4x4x1_0_1 (res_main_while0b_v151 V0))) (V0 (Proc.devRef .tc main_v70_8))) (Host.dotGeneral dot_S4x4x64_S4x4x64x512_S4x4x512_2_2_n_3_01_01 none (res_main_while0b_v148 V0) (res_main_while0b_v92 V0)) : (Proc.devRef .tc main_while0b_v164 : DevRef τ sig).ty.Contents (Elt F)) = Cert.ReferenceIdeal.Step.b105 j s := by
  unfold Cert.ReferenceIdeal.Step.b105
  rw [← al_103 h, ← al_104 h]
  try rfl
set_option maxRecDepth 8192 in
theorem al_106 (h : Holds V0 s j) : (broadcastInDim S1x4x4x64x512 ![1, 2, 3, 4] bcast_S4x4x64x512_S1x4x4x64x512_1_2_3_4 (Host.divf (addf (Host.dotGeneral dot_S4x4x64x64_S4x4x64x512_S4x4x64x512_3_2_2_3_01_01 none (res_main_while0b_v116 V0) (res_main_while0b_v93 V0)) (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v118 V0))) (Host.dotGeneral dot_S4x4x64x512_S4x4x512x512_S4x4x64x512_3_3_2_2_01_01 none (res_main_while0b_v91 V0) (V0 (Proc.devRef .tc main_v70_7))))) (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0))))) (Host.exp (Host.negf (res_main_while0b_v110 V0))))))) : (Proc.devRef .tc main_while0b_call17_v0 : DevRef τ sig).ty.Contents (Elt F)) = Cert.ReferenceIdeal.Step.b106 j s := by
  unfold Cert.ReferenceIdeal.Step.b106
  rw [← al_75 h]
  try rfl
set_option maxRecDepth 8192 in
theorem al_107 (h : Holds V0 s j) : (constantI S_ 32 0#32 : (Proc.devRef .tc main_while0b_call17_c : DevRef τ sig).ty.Contents (Elt F)) = Cert.ReferenceIdeal.Step.b107 j s := by
  unfold Cert.ReferenceIdeal.Step.b107
  rfl
set_option maxRecDepth 8192 in
theorem al_108 (h : Holds V0 s j) : (constantI S_ 32 0#32 : (Proc.devRef .tc main_while0b_call17_c_0 : DevRef τ sig).ty.Contents (Elt F)) = Cert.ReferenceIdeal.Step.b108 j s := by
  unfold Cert.ReferenceIdeal.Step.b108
  rfl
set_option maxRecDepth 8192 in
theorem al_109 (h : Holds V0 s j) : (constantI S_ 32 0#32 : (Proc.devRef .tc main_while0b_call17_c_1 : DevRef τ sig).ty.Contents (Elt F)) = Cert.ReferenceIdeal.Step.b109 j s := by
  unfold Cert.ReferenceIdeal.Step.b109
  rfl
set_option maxRecDepth 8192 in
theorem al_110 (h : Holds V0 s j) : (constantI S_ 32 0#32 : (Proc.devRef .tc main_while0b_call17_c_2 : DevRef τ sig).ty.Contents (Elt F)) = Cert.ReferenceIdeal.Step.b110 j s := by
  unfold Cert.ReferenceIdeal.Step.b110
  rfl
set_option maxRecDepth 8192 in
theorem al_111 (h : Holds V0 s j) : (Host.dynamicUpdateSlice (V0 (Proc.devRef .tc main_v70_10)) (broadcastInDim S1x4x4x64x512 ![1, 2, 3, 4] bcast_S4x4x64x512_S1x4x4x64x512_1_2_3_4 (Host.divf (addf (Host.dotGeneral dot_S4x4x64x64_S4x4x64x512_S4x4x64x512_3_2_2_3_01_01 none (res_main_while0b_v116 V0) (res_main_while0b_v93 V0)) (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v118 V0))) (Host.dotGeneral dot_S4x4x64x512_S4x4x512x512_S4x4x64x512_3_3_2_2_01_01 none (res_main_while0b_v91 V0) (V0 (Proc.devRef .tc main_v70_7))))) (broadcastInDim S4x4x64x512 ![0, 1, 2, 3] bcast_S4x4x64x1_S4x4x64x512_0_1_2_3 (broadcastInDim S4x4x64x1 ![0, 1, 2] bcast_S4x4x64_S4x4x64x1_0_1_2 (maximumf (Host.absf (addf (Host.reduceAdd (res_main_while0b_v116 V0) (constant S_ .f32 0x00000000#32) reducesTo_S4x4x64x64_S4x4x64_d3 h_S_) (mulf (res_main_while0b_v118 V0) (Host.dotGeneral dot_S4x4x512_S4x4x64x512_S4x4x64_2_3_n_2_01_01 none (V0 (Proc.devRef .tc main_v70_8)) (res_main_while0b_v91 V0))))) (Host.exp (Host.negf (res_main_while0b_v110 V0)))))))) (fun k => (((![V0 (Proc.devRef .tc main_v70_6), constantI S_ 32 0#32, constantI S_ 32 0#32, constantI S_ 32 0#32, constantI S_ 32 0#32] : Fin 5 → (⟨S_, .i32⟩ : BufTy).Contents (Elt F))) k (Shape.Idx.first h_S_)).toInt) updateFits_S132x4x4x64x512_S1x4x4x64x512 : (Proc.devRef .tc main_while0b_v165 : DevRef τ sig).ty.Contents (Elt F)) = Cert.ReferenceIdeal.Step.b111 j s := by
  unfold Cert.ReferenceIdeal.Step.b111
  rw [← al_106 h, ← al_107 h, ← al_108 h, ← al_109 h, ← al_110 h, h.f_10, h.n_6]
  try rfl

end Cert.Scan.RefRun

end
-- ==== Proof.Scan.RefRun.lean ====
/- The reference's run over the states of its loop: one trip keeps the valuation holding the next state, the operations before the loop
   leave the first, and the results are read from the last. -/
module

public import proofs.«01_k».proof.Proof.Scan.RefTrip

@[expose] public section

noncomputable section

namespace Cert.Scan.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable {V0 : Valuation τ sig (Elt F)} {s : State F} {j : ℕ}

/-! One trip's step of the carried values is `step`, field by field; a counter steps to the next number. -/

theorem step_7 (h : Holds V0 s j) : step_main_v70_7 V0 = (step j s).main_v70_7 := by
  unfold step_main_v70_7 Cert.ReferenceIdeal.Step.step
  show id (addf (mulf (broadcastInDim S4x4x512x512 ![0, 1, 2, 3] bcast_S4x4x1x1_S4x4x512x512_0_1_2_3 (broadcastInDim S4x4x1x1 ![0, 1] bcast_S4x4_S4x4x1x1_0_1 (res_main_while0b_v151 V0))) (V0 (Proc.devRef .tc main_v70_7))) (Host.dotGeneral dot_S4x4x64x512_S4x4x64x512_S4x4x512x512_2_2_3_3_01_01 none (mulf (broadcastInDim S4x4x64x512 ![0, 1, 2, 3] bcast_S4x4x64x1_S4x4x64x512_0_1_2_3 (broadcastInDim S4x4x64x1 ![0, 1, 2] bcast_S4x4x64_S4x4x64x1_0_1_2 (res_main_while0b_v148 V0))) (res_main_while0b_v93 V0)) (res_main_while0b_v92 V0))) = _
  rw [al_100 h]
  try rfl
theorem step_8 (h : Holds V0 s j) : step_main_v70_8 V0 = (step j s).main_v70_8 := by
  unfold step_main_v70_8 Cert.ReferenceIdeal.Step.step
  show id (addf (mulf (broadcastInDim S4x4x512 ![0, 1, 2] bcast_S4x4x1_S4x4x512_0_1_2 (broadcastInDim S4x4x1 ![0, 1] bcast_S4x4_S4x4x1_0_1 (res_main_while0b_v151 V0))) (V0 (Proc.devRef .tc main_v70_8))) (Host.dotGeneral dot_S4x4x64_S4x4x64x512_S4x4x512_2_2_n_3_01_01 none (res_main_while0b_v148 V0) (res_main_while0b_v92 V0))) = _
  rw [al_105 h]
  try rfl
theorem step_9 (h : Holds V0 s j) : step_main_v70_9 V0 = (step j s).main_v70_9 := by
  unfold step_main_v70_9 Cert.ReferenceIdeal.Step.step
  show id (res_main_while0b_v144 V0) = _
  rw [al_85 h]
  try rfl
set_option maxRecDepth 8192 in
theorem step_10 (h : Holds V0 s j) : step_main_v70_10 V0 = (step j s).main_v70_10 := by
  unfold step_main_v70_10 Cert.ReferenceIdeal.Step.step
  exact (al_111 h)
theorem step_6 (h : Holds V0 s j) : step_main_v70_6 V0 = constantI S_ 32 (BitVec.ofNat 32 (j + 1)) := by
  unfold step_main_v70_6
  rw [h.n_6]
  funext i
  show BitVec.ofNat 32 j + 1#32 = BitVec.ofNat 32 (j + 1)
  simp only [BitVec.ofNat_add]

set_option maxRecDepth 8192 in
theorem out_main_v82_holds (h : Holds V0 s j) : out_main_v82 V0 = Cert.ReferenceIdeal.Step.R_main_v82 s := by
  unfold out_main_v82 Cert.ReferenceIdeal.Step.R_main_v82
  rw [h.f_10]
  try rfl

set_option maxRecDepth 8192 in
theorem out_main_v90_holds (h : Holds V0 s j) : out_main_v90 V0 = Cert.ReferenceIdeal.Step.R_main_v90 s := by
  unfold out_main_v90 Cert.ReferenceIdeal.Step.R_main_v90
  rw [h.f_10]
  try rfl

/-- One trip keeps the valuation holding: `step` of the state, the same set-up values, the next number. -/
theorem holds_step (h : Holds V0 s j) : Holds (STEP V0) (step j s) (j + 1) where
  f_7 := (STEP_main_v70_7 V0).trans (step_7 h)
  f_8 := (STEP_main_v70_8 V0).trans (step_8 h)
  f_9 := (STEP_main_v70_9 V0).trans (step_9 h)
  f_10 := (STEP_main_v70_10 V0).trans (step_10 h)
  n_6 := (STEP_main_v70_6 V0).trans (step_6 h)
  k_5 := (STEP_main_v70_5 V0).trans h.k_5
  f_0 := (STEP_main_v70_0 V0).trans h.f_0
  f_1 := (STEP_main_v70_1 V0).trans h.f_1
  f_2 := (STEP_main_v70_2 V0).trans h.f_2
  f_3 := (STEP_main_v70_3 V0).trans h.f_3
  f_4 := (STEP_main_v70_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 6000000 in
/-- What the operations before the loop leave: the set-up values, number 0, the initial state. -/
theorem entry_holds : Holds (entryContents preI m c) (initState m c) 0 := by
  refine ⟨?_, ?_, ?_, ?_, ?_, ?_, ?_, ?_, ?_, (ctr_entry m c).trans rfl, ?_⟩ <;>
    (simp only [entryContents, afterL_cons, afterL_nil]; after_reads_simp; rfl)

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 132 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v82) = Cert.ReferenceIdeal.Step.R_main_v82 (it c 132)
      ∧ r.2.mem ((c.tc : Thread nD τ).loc main_v90) = Cert.ReferenceIdeal.Step.R_main_v90 (it c 132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 132
    ⟨(h c).1.trans (out_main_v82_holds hk), (h c).2.1.trans (out_main_v90_holds hk), (h c).2.2.1, (h c).2.2.2.1, (h c).2.2.2.2.1, (h c).2.2.2.2.2⟩) (Value.run m ρ)

end Cert.Scan.RefRun

end
-- ==== Proof.Scan.RunningSum.lean ====
/- The host's running sum along the last axis of an array of real numbers, over the extended reals. -/
module

public import proofs.«01_k».proof.Proof.Scan.Chunk
public import Idealize.ShloMosaic.PureOps.Ideal
public import Idealize.ShloMosaic.Lib.ValueIdxCore
public import Idealize.ShloMosaic.Lib.Pointwise.Index

@[expose] public section

noncomputable section

namespace Cert.Scan

open Idealize.ShloMosaic

/-- A left fold that adds is the start and the sum of what it adds. -/
theorem foldl_add_sum {n : ℕ} (v : EReal) (y : Fin n → EReal) :
    (List.finRange n).foldl (fun r k => r + y k) v = v + ∑ k, y k := by
  rw [← List.sum_ofFn, List.ofFn_eq_map]
  generalize List.finRange n = l
  induction l generalizing v with
  | nil => simp
  | cons k l ih => rw [List.foldl_cons, ih, List.map_cons, List.sum_cons, add_assoc]

/-- A window of 64 that ends at `r` reaches the elements up to `r`. -/
theorem sum_window (y : ℕ → ℝ) {r : ℕ} (hr : r < 64) :
    ∑ w : Fin 64, (if 63 ≤ r + w.val then (y (r + w.val - 63) : EReal) else 0) = ((∑ p ∈ Finset.range (r + 1), y p : ℝ) : EReal) := by
  rw [coe_sum, Fin.sum_univ_eq_sum_range (fun w => if 63 ≤ r + w then (y (r + w - 63) : EReal) else 0) 64,
    show 64 = (63 - r) + (r + 1) by omega, Finset.sum_range_add]
  rw [Finset.sum_eq_zero fun w hw => if_neg (by have := Finset.mem_range.mp hw; omega), zero_add]
  refine Finset.sum_congr rfl fun p _ => ?_
  rw [if_pos (by omega), show r + (63 - r + p) - 63 = p by omega]

/-- The running sum of real numbers along the last axis. -/
theorem runningSum (x : (⟨3, ![4, 4, 64]⟩ : Shape).Idx → EReal) (init : (⟨0, ![]⟩ : Shape).Idx → EReal) (hi : ∀ i, init i = 0)
    (hw : (⟨3, ![4, 4, 64]⟩ : Shape).ReduceWindows ![1, 1, 64] ![1, 1, 1] ![0, 0, 63] ![0, 0, 0] ⟨3, ![4, 4, 64]⟩)
    (hu : 0 < (⟨0, ![]⟩ : Shape).numel) (e h : Fin 4) (r : Fin 64) (y : ℕ → ℝ) (hx : ∀ s : Fin 64, x (ix3 e h s) = (y s.val : EReal)) :
    Host.reduceWindowAdd (F := Ideal) (φ := .f32) ![1, 1, 64] ![1, 1, 1] ![0, 0, 63] ![0, 0, 0] x init hw hu (ix3 e h r)
      = ((∑ p ∈ Finset.range (r.val + 1), y p : ℝ) : EReal) := by
  rw [← sum_window y r.isLt]
  unfold Host.reduceWindowAdd
  rw [Ideal.hostReduceWindowAdd_def]
  unfold Ideal.hostReduceWindowAdd Host.reduceWindow
  dsimp only
  rw [foldl_add_sum, hi, zero_add]
  let G : (⟨3, ![1, 1, 64]⟩ : Shape).Idx → EReal := fun w =>
    if 63 ≤ r.val + (w 2).val then (y (r.val + (w 2).val - 63) : EReal) else 0
  trans ∑ n, G ((⟨3, ![1, 1, 64]⟩ : Shape).rowMajor.symm n)
  · refine Finset.sum_congr rfl fun n _ => ?_
    let w := (⟨3, ![1, 1, 64]⟩ : Shape).rowMajor.symm n
    have h0 : (w 0).val < 1 := (w 0).isLt
    have h1 : (w 1).val < 1 := (w 1).isLt
    have h2 : (w 2).val < 64 := (w 2).isLt
    have he := e.isLt
    have hh := h.isLt
    have hr := r.isLt
    split
    · next hin =>
      have h63 : 63 ≤ r.val * 1 + (w 2).val := (hin 2).1
      show _ = if 63 ≤ r.val + (w 2).val then (y (r.val + (w 2).val - 63) : EReal) else 0
      rw [if_pos (by omega)]
      refine (congrArg x (funext fun a => Fin.ext ?_)).trans (hx ⟨r.val + (w 2).val - 63, by omega⟩)
      match a with
      | ⟨0, _⟩ => show e.val * 1 + (w 0).val - 0 = e.val; omega
      | ⟨1, _⟩ => show h.val * 1 + (w 1).val - 0 = h.val; omega
      | ⟨2, _⟩ => show r.val * 1 + (w 2).val - 63 = r.val + (w 2).val - 63; omega
    · next hin =>
      show _ = if 63 ≤ r.val + (w 2).val then (y (r.val + (w 2).val - 63) : EReal) else 0
      rw [if_neg]
      intro h63
      refine hin fun a => ?_
      match a with
      | ⟨0, _⟩ => show 0 ≤ e.val * 1 + (w 0).val ∧ e.val * 1 + (w 0).val - 0 < 4; omega
      | ⟨1, _⟩ => show 0 ≤ h.val * 1 + (w 1).val ∧ h.val * 1 + (w 1).val - 0 < 4; omega
      | ⟨2, _⟩ => show 63 ≤ r.val * 1 + (w 2).val ∧ r.val * 1 + (w 2).val - 63 < 64; omega
  rw [Equiv.sum_comp (⟨3, ![1, 1, 64]⟩ : Shape).rowMajor.symm G, sum_idx3]
  simp only [Fin.sum_univ_one]
  rfl

end Cert.Scan

end
-- ==== Proof.Scan.RefChunk.lean ====
/- What one trip of the reference's loop does, over the extended reals: from the states the chains carry to a chunk of 64 tokens to the
   states they carry on and the hidden vectors of the chunk. -/
module

public import proofs.«01_k».proof.Proof.Gen.ReferenceIdeal.Step
public import proofs.«01_k».proof.Proof.Scan.Order
public import proofs.«01_k».proof.Proof.Scan.RunningSum
public import Idealize.ShloMosaic.Lib.Pointwise
public import Idealize.ShloMosaic.Lib.WordCmp
public import Idealize.ShloMosaic.Lib.DynamicIndex

@[expose] public section

set_option maxRecDepth 16384

noncomputable section

namespace Cert.Scan.Ref

open Idealize.ShloMosaic Idealize.ShloMosaic.TcCoe Cert.ReferenceIdeal Cert.ReferenceIdeal.Gen Cert.ReferenceIdeal.Step

/-- A trip's number read as a signed word. -/
theorem toInt_trip {j : ℕ} (hj : j < 132) : (BitVec.ofNat 32 j).toInt = (j : ℤ) := by
  rw [BitVec.toInt_eq_toNat_of_lt (by rw [BitVec.toNat_ofNat]; omega), BitVec.toNat_ofNat]
  congr 1; omega

/-- Chunk `j` of an array of chunks of rows. -/
theorem chunk5 (x : S132x4x4x64x512.Idx → EReal) {j : ℕ} (hj : j < 132) (start : Fin 5 → ℤ)
    (hs : ∀ a, start a = ((![j, 0, 0, 0, 0] : Fin 5 → ℕ) a : ℤ)) (hf : S132x4x4x64x512.Slices (fun _ => 0) S1x4x4x64x512) (e h : Fin 4)
    (r : Fin 64) (a : Fin 512) :
    Host.dynamicSlice S1x4x4x64x512 x start hf (ix5 0 e h r a) = x (ix5 ⟨j, hj⟩ e h r a) := by
  have hoff : S132x4x4x64x512.Slices ![j, 0, 0, 0, 0] S1x4x4x64x512 := ⟨rfl, fun a => by
    fin_cases a
    · show j + 1 ≤ 132; omega
    all_goals exact Nat.le_of_eq rfl⟩
  rw [Host.dynamicSlice_eq_extractStridedSlice _ x start ![j, 0, 0, 0, 0] hf hoff hs]
  pointwise

/-- Chunk `j` of an array of chunks of gates. -/
theorem chunk4 (x : S132x4x4x64.Idx → EReal) {j : ℕ} (hj : j < 132) (start : Fin 4 → ℤ)
    (hs : ∀ a, start a = ((![j, 0, 0, 0] : Fin 4 → ℕ) a : ℤ)) (hf : S132x4x4x64.Slices (fun _ => 0) S1x4x4x64) (e h : Fin 4)
    (r : Fin 64) :
    Host.dynamicSlice S1x4x4x64 x start hf (ix4 0 e h r) = x (ix4 ⟨j, hj⟩ e h r) := by
  have hoff : S132x4x4x64.Slices ![j, 0, 0, 0] S1x4x4x64 := ⟨rfl, fun a => by
    fin_cases a
    · show j + 1 ≤ 132; omega
    all_goals exact Nat.le_of_eq rfl⟩
  rw [Host.dynamicSlice_eq_extractStridedSlice _ x start ![j, 0, 0, 0] hf hoff hs]
  pointwise

/-- An array of chunks of rows after chunk `j` is stored. -/
theorem store5 (x : S132x4x4x64x512.Idx → EReal) (u : S1x4x4x64x512.Idx → EReal) {j : ℕ} (hj : j < 132) (start : Fin 5 → ℤ)
    (hs : ∀ a, start a = ((![j, 0, 0, 0, 0] : Fin 5 → ℕ) a : ℤ)) (hf : S132x4x4x64x512.Slices (fun _ => 0) S1x4x4x64x512) (t : Fin 132)
    (e h : Fin 4) (r : Fin 64) (a : Fin 512) :
    Host.dynamicUpdateSlice x u start hf (ix5 t e h r a) = if t.val = j then u (ix5 0 e h r a) else x (ix5 t e h r a) := by
  have hoff : S132x4x4x64x512.Slices ![j, 0, 0, 0, 0] S1x4x4x64x512 := ⟨rfl, fun a => by
    fin_cases a
    · show j + 1 ≤ 132; omega
    all_goals exact Nat.le_of_eq rfl⟩
  rw [WordCmp.dynamicUpdateSlice_eq_update x u start hf ![j, 0, 0, 0, 0] hoff hs]
  pointwise
  by_cases ht : t.val = j
  · rw [dif_pos (by omega), if_pos ht]
    congr 2
    exact Fin.ext (by show t.val - j = 0; omega)
  · rw [dif_neg (by omega), if_neg ht]

/-- What the loop's state holds before trip `j`, for every chain: the chunks of its tokens, the state it carries to time `64 j`, and its
    hidden vectors up to there. -/
structure At (X : Fin 4 → Fin 4 → Tokens) (j : ℕ) (s : State Ideal) : Prop where
  q : ∀ (t : Fin 132) e h (r : Fin 64) a, s.main_v70_0 (ix5 t e h r a) = ((X e h).q (64 * t.val + r.val) a : EReal)
  k : ∀ (t : Fin 132) e h (r : Fin 64) a, s.main_v70_1 (ix5 t e h r a) = ((X e h).k (64 * t.val + r.val) a : EReal)
  v : ∀ (t : Fin 132) e h (r : Fin 64) a, s.main_v70_2 (ix5 t e h r a) = ((X e h).v (64 * t.val + r.val) a : EReal)
  i : ∀ (t : Fin 132) e h (r : Fin 64), s.main_v70_3 (ix4 t e h r) = ((X e h).i (64 * t.val + r.val) : EReal)
  f : ∀ (t : Fin 132) e h (r : Fin 64), s.main_v70_4 (ix4 t e h r) = ((X e h).f (64 * t.val + r.val) : EReal)
  c : ∀ e h b a, s.main_v70_7 (ix4 e h b a) = ((X e h).C (64 * j) a b : EReal)
  n : ∀ e h a, s.main_v70_8 (ix3 e h a) = ((X e h).N (64 * j) a : EReal)
  m : ∀ e h, s.main_v70_9 (ix2 e h) = ((X e h).m (64 * j) : EReal)
  o : ∀ (t : Fin 132), t.val < j → ∀ e h (r : Fin 64) b, s.main_v70_10 (ix5 t e h r b) = ((X e h).h (64 * t.val + r.val) b : EReal)

/-- The mask of the rows up to a row. -/
theorem mask_at (r s : Fin 64) (x y : EReal) :
    Scalar.select (K_main_v58 (F := Ideal) (ix2 r s)) x y = if s ≤ r then x else y := by
  have e : K_main_v58 (F := Ideal) (ix2 r s) = if s ≤ r then 1#1 else 0#1 := by
    pointwise [K_main_v58, K_main_call9_v5, K_main_call9_c_0, K_main_call9_v4, K_main_call9_v3, K_main_call9_v2, K_main_call9_v1,
      K_main_call9_c, K_main_call9_v0, K_main_v57, K_main_c]
    show (if IntOp.cmpi .sge (BitVec.ofNat 32 r.val + 0#32) (BitVec.ofNat 32 s.val) = 1#1 then 1#1 else 0#1) = _
    rw [BitVec.add_zero]
    refine if_congr ?_ rfl rfl
    rw [WordCmp.cmpi_sge_ofNat_eq_one_iff (by omega) (by omega)]
    rfl
  rw [e]
  split <;> rfl

section Trip

variable {X : Fin 4 → Fin 4 → Tokens} {j : ℕ} {s : State Ideal} (A : At X j s) (hj : j < 132) (e h : Fin 4)

section
include A hj

theorem q_at (r : Fin 64) (a : Fin 512) : b5 j s (ix4 e h r a) = ((X e h).q (64 * j + r.val) a : EReal) := by
  refine Eq.trans ?_ (A.q ⟨j, hj⟩ e h r a)
  pointwise [b5]
  refine chunk5 _ hj _ (fun k => ?_) _ e h r a
  fin_cases k
  · exact toInt_trip hj
  all_goals rfl

theorem k_at (r : Fin 64) (a : Fin 512) : b11 j s (ix4 e h r a) = ((X e h).k (64 * j + r.val) a : EReal) := by
  refine Eq.trans ?_ (A.k ⟨j, hj⟩ e h r a)
  pointwise [b11]
  refine chunk5 _ hj _ (fun k => ?_) _ e h r a
  fin_cases k
  · exact toInt_trip hj
  all_goals rfl

theorem v_at (r : Fin 64) (a : Fin 512) : b17 j s (ix4 e h r a) = ((X e h).v (64 * j + r.val) a : EReal) := by
  refine Eq.trans ?_ (A.v ⟨j, hj⟩ e h r a)
  pointwise [b17]
  refine chunk5 _ hj _ (fun k => ?_) _ e h r a
  fin_cases k
  · exact toInt_trip hj
  all_goals rfl

theorem i_at (r : Fin 64) : b22 j s (ix3 e h r) = ((X e h).i (64 * j + r.val) : EReal) := by
  refine Eq.trans ?_ (A.i ⟨j, hj⟩ e h r)
  pointwise [b22]
  refine chunk4 _ hj _ (fun k => ?_) _ e h r
  fin_cases k
  · exact toInt_trip hj
  all_goals rfl

theorem f_at (r : Fin 64) : b27 j s (ix3 e h r) = ((X e h).f (64 * j + r.val) : EReal) := by
  refine Eq.trans ?_ (A.f ⟨j, hj⟩ e h r)
  pointwise [b27]
  refine chunk4 _ hj _ (fun k => ?_) _ e h r
  fin_cases k
  · exact toInt_trip hj
  all_goals rfl

/-- The log forget gates added up. -/
theorem sum_at (r : Fin 64) : b30 j s (ix3 e h r) = ((X e h).B (64 * j) (r.val + 1) : EReal) :=
  runningSum _ _ (fun i => by pointwise [b29, b28]) _ _ e h r (fun p => (X e h).f (64 * j + p)) (f_at A hj e h)

/-- The log weights. -/
theorem logD_at (r t : Fin 64) : b43 j s (ix4 e h r t) = (X e h).logD (64 * j) (Equiv.refl _) r t := by
  pointwise [b43, b42, b41, b40, b39, b38, b37, b36, b35, b34, b33, b32, b31]
  rw [mask_at, sum_at A hj, sum_at A hj, i_at A hj, ofBits_negInf]
  exact (X e h).logD_if (64 * j) (Equiv.refl _) r t

/-- The stabilizer of a row. -/
theorem stab_at (r : Fin 64) : b49 j s (ix3 e h r) = ((X e h).m (64 * j + r.val + 1) : EReal) := by
  pointwise [b49, b48, b47, b46, b45, b44]
  simp only [logD_at A hj, sum_at A hj, A.m, ofBits_negInf]
  exact (X e h).stab_row (64 * j) (Equiv.refl _) r

/-- What is left, at a row, of what the chunk started from. -/
theorem carried_at (r : Fin 64) : b57 j s (ix3 e h r)
    = ((Real.exp ((X e h).B (64 * j) (r.val + 1) + (X e h).m (64 * j) - (X e h).m (64 * j + r.val + 1)) : ℝ) : EReal) := by
  pointwise [b57, b56, b46, b45, b44]
  rw [sum_at A hj, stab_at A hj, A.m]
  exact (X e h).exp_carried (64 * j) (Equiv.refl _) r

/-- The weighted scores. -/
theorem score_at (r t : Fin 64) : b55 j s (ix4 e h r t)
    = (∑ a : Fin 512, ((X e h).q (64 * j + r.val) a : EReal) * ((X e h).k (64 * j + t.val) a : EReal))
      * ((X e h).wgt (64 * j) r.val t.val : EReal) := by
  pointwise [b55, b54, b53, b52, b51, b50]
  rw [logD_at A hj, stab_at A hj]
  simp only [q_at A hj, k_at A hj]
  exact congrArg _ ((X e h).exp_logD (64 * j) (Equiv.refl _) r t)

/-- The hidden vectors of the chunk. -/
theorem hidden_at (r : Fin 64) (b : Fin 512) : b75 j s (ix4 e h r b) = ((X e h).h (64 * j + r.val) b : EReal) := by
  refine Eq.trans ?_ ((X e h).h_row (64 * j) (Equiv.refl _) r b)
  pointwise [b75, b74, b73, b72, b71, b70, b69, b68, b67, b66, b65, b64, b63, b62, b61, b60, b59, b58]
  simp only [score_at A hj, stab_at A hj, carried_at A hj, q_at A hj, v_at A hj, A.n, A.c]
  have comm : ∑ a : Fin 512, ((X e h).N (64 * j) a : EReal) * ((X e h).q (64 * j + r.val) a : EReal)
      = ∑ a : Fin 512, ((X e h).q (64 * j + r.val) a : EReal) * ((X e h).N (64 * j) a : EReal) :=
    Finset.sum_congr rfl fun a _ => mul_comm _ _
  rw [comm]
  rfl

/-- The log weights at the chunk's end. -/
theorem left_at (r : Fin 64) : b81 j s (ix3 e h r) = ((X e h).B (64 * j) 64 : EReal) - ((X e h).B (64 * j) (r.val + 1) : EReal)
    + ((X e h).i (64 * j + r.val) : EReal) := by
  pointwise [b81, b80, b79, b78, b77, b76]
  rw [sum_at A hj, sum_at A hj, i_at A hj]
  rfl

/-- The stabilizer the chunk leaves. -/
theorem stab_end : b85 j s (ix2 e h) = ((X e h).m (64 * j + 64) : EReal) := by
  pointwise [b85, b84, b83, b82, b77, b76]
  simp only [left_at A hj, sum_at A hj, A.m, ofBits_negInf]
  exact (X e h).stab_all (64 * j) (Equiv.refl (Fin 64))

/-- What is left, at the chunk's end, of what it started from. -/
theorem carried_end : b92 j s (ix2 e h)
    = ((Real.exp ((X e h).B (64 * j) 64 + (X e h).m (64 * j) - (X e h).m (64 * j + 64)) : ℝ) : EReal) := by
  pointwise [b92, b91, b90, b77, b76]
  rw [sum_at A hj, stab_end A hj, A.m]
  exact (X e h).exp_carried_all (64 * j) (W := 64)

/-- The weights left of the chunk's rows at its end. -/
theorem weight_end (r : Fin 64) : b89 j s (ix3 e h r)
    = ((Real.exp ((X e h).D (64 * j) 64 r.val - (X e h).m (64 * j + 64)) : ℝ) : EReal) := by
  pointwise [b89, b88, b87, b86]
  rw [left_at A hj, stab_end A hj]
  exact (X e h).exp_left (64 * j) (Equiv.refl _) r

/-- The matrix memory the chunk leaves. -/
theorem memory_end (b a : Fin 512) : b100 j s (ix4 e h b a) = ((X e h).C (64 * j + 64) a b : EReal) := by
  refine Eq.trans ?_ ((X e h).C_all (64 * j) (Equiv.refl (Fin 64)) a b)
  pointwise [b100, b99, b98, b97, b96, b95, b94, b93]
  simp only [carried_end A hj, weight_end A hj, k_at A hj, v_at A hj, A.c]
  exact congrArg _ (Finset.sum_congr rfl fun t _ => mul_comm _ _)

/-- The normalizer the chunk leaves. -/
theorem normal_end (a : Fin 512) : b105 j s (ix3 e h a) = ((X e h).N (64 * j + 64) a : EReal) := by
  refine Eq.trans ?_ ((X e h).N_all (64 * j) (Equiv.refl (Fin 64)) a)
  pointwise [b105, b104, b103, b102, b101]
  simp only [carried_end A hj, weight_end A hj, k_at A hj, A.n]
  exact congrArg _ (Finset.sum_congr rfl fun t _ => mul_comm _ _)

/-- The stored hidden vectors. -/
theorem stored_at (t : Fin 132) (ht : t.val < j + 1) (r : Fin 64) (b : Fin 512) :
    b111 j s (ix5 t e h r b) = ((X e h).h (64 * t.val + r.val) b : EReal) := by
  unfold b111
  rw [store5 _ _ hj _ (fun k => by
    fin_cases k
    · exact toInt_trip hj
    all_goals rfl)]
  by_cases h' : t.val = j
  · rw [if_pos h', h', ← hidden_at A hj]
    pointwise [b106]
  · rw [if_neg h']
    exact A.o t (by omega) e h r b

end

/-- ONE TRIP: the state carried to a chunk becomes the state carried to the next. -/
theorem At.step (A : At X j s) (hj : j < 132) : At X (j + 1) (Step.step j s) where
  q := A.q
  k := A.k
  v := A.v
  i := A.i
  f := A.f
  c e h b a := memory_end A hj e h b a
  n e h a := normal_end A hj e h a
  m e h := stab_end A hj e h
  o t ht e h r b := stored_at A hj e h t ht r b

end Trip

end Cert.Scan.Ref

end
-- ==== Proof.Scan.RefLayout.lean ====
/- How the reference lays the packed arrays out for its loop and packs what the loop leaves: chain `e` of four is direction `e / 2` of
   batch `e % 2`, and its tokens stand in the order in which that direction visits the rows. -/
module

public import proofs.«01_k».proof.Proof.Gen.ReferenceIdeal.Step
public import proofs.«01_k».proof.Proof.Scan.Order
public import Idealize.ShloMosaic.Lib.Pointwise

@[expose] public section

set_option maxRecDepth 16384

noncomputable section

namespace Cert.Scan.Ref

open Idealize.ShloMosaic Idealize.ShloMosaic.TcCoe Cert.ReferenceIdeal Cert.ReferenceIdeal.Gen Cert.ReferenceIdeal.Step

/-- The direction and the batch of a chain. -/
def dir (e : Fin 4) : Fin 2 := ⟨e.val / 2, by omega⟩
def bat (e : Fin 4) : Fin 2 := ⟨e.val % 2, by omega⟩

/-- The time of a row of a chunk. -/
def time (t : Fin 132) (r : Fin 64) : Fin 8448 := ⟨t.val * 64 + r.val, by omega⟩

/-- The rows of a packed array in the order of the four chains. -/
def unpack (x : S16896x2048.Idx → EReal) : S4x8448x2048.Idx → EReal :=
  concatenate S4x8448x2048 0 [
    ⟨S2x8448x2048, concatenate S2x8448x2048 1 [
      ⟨S2x256x2048, shapeCast _ (extractStridedSlice S512x2048 ![16384, 0] x slices_S16896x2048_S512x2048_16384_0)
        shapeCasts_S512x2048_S2x256x2048⟩,
      ⟨S2x8192x2048, shapeCast _ (extractStridedSlice S16384x2048 ![0, 0] x slices_S16896x2048_S16384x2048_0_0)
        shapeCasts_S16384x2048_S2x8192x2048⟩] concatenates_S2x256x2048_S2x8192x2048_S2x8448x2048_d1⟩,
    ⟨S2x8448x2048, concatenate S2x8448x2048 1 [
      ⟨S2x256x2048, Host.reverse [1] (shapeCast _ (extractStridedSlice S512x2048 ![16384, 0] x
        slices_S16896x2048_S512x2048_16384_0) shapeCasts_S512x2048_S2x256x2048)⟩,
      ⟨S2x8192x2048, Host.reverse [1] (shapeCast _ (extractStridedSlice S16384x2048 ![0, 0] x
        slices_S16896x2048_S16384x2048_0_0) shapeCasts_S16384x2048_S2x8192x2048)⟩]
      concatenates_S2x256x2048_S2x8192x2048_S2x8448x2048_d1⟩] concatenates_S2x8448x2048_S2x8448x2048_S4x8448x2048_d0

/-- The gates likewise: a chain's eight columns. -/
def unpackG (x : S16896x16.Idx → EReal) : S4x8448x8.Idx → EReal :=
  concatenate S4x8448x8 0 [
    ⟨S2x8448x8, extractStridedSlice S2x8448x8 ![0, 0, 0] (concatenate S2x8448x16 1 [
      ⟨S2x256x16, shapeCast _ (extractStridedSlice S512x16 ![16384, 0] x slices_S16896x16_S512x16_16384_0)
        shapeCasts_S512x16_S2x256x16⟩,
      ⟨S2x8192x16, shapeCast _ (extractStridedSlice S16384x16 ![0, 0] x slices_S16896x16_S16384x16_0_0)
        shapeCasts_S16384x16_S2x8192x16⟩] concatenates_S2x256x16_S2x8192x16_S2x8448x16_d1) slices_S2x8448x16_S2x8448x8_0_0_0⟩,
    ⟨S2x8448x8, extractStridedSlice S2x8448x8 ![0, 0, 8] (concatenate S2x8448x16 1 [
      ⟨S2x256x16, Host.reverse [1] (shapeCast _ (extractStridedSlice S512x16 ![16384, 0] x
        slices_S16896x16_S512x16_16384_0) shapeCasts_S512x16_S2x256x16)⟩,
      ⟨S2x8192x16, Host.reverse [1] (shapeCast _ (extractStridedSlice S16384x16 ![0, 0] x
        slices_S16896x16_S16384x16_0_0) shapeCasts_S16384x16_S2x8192x16)⟩]
      concatenates_S2x256x16_S2x8192x16_S2x8448x16_d1) slices_S2x8448x16_S2x8448x8_0_0_8⟩]
    concatenates_S2x8448x8_S2x8448x8_S4x8448x8_d0

/-- The rows of the chains cut into heads and chunks. -/
def cut (y : S4x8448x2048.Idx → EReal) : S132x4x4x64x512.Idx → EReal :=
  transpose S132x4x4x64x512 [2, 0, 1, 3, 4] (shapeCast S4x4x132x64x512 (transpose S4x4x8448x512 [0, 2, 1, 3]
    (shapeCast S4x8448x4x512 y shapeCasts_S4x8448x2048_S4x8448x4x512) transposes_S4x8448x4x512_S4x4x8448x512_0_2_1_3)
    shapeCasts_S4x4x8448x512_S4x4x132x64x512) transposes_S4x4x132x64x512_S132x4x4x64x512_2_0_1_3_4

/-- One gate of every head cut into chunks. -/
def cutG (y : S4x4x8448.Idx → EReal) : S132x4x4x64.Idx → EReal :=
  transpose S132x4x4x64 [2, 0, 1, 3] (shapeCast S4x4x132x64 y shapeCasts_S4x4x8448_S4x4x132x64)
    transposes_S4x4x132x64_S132x4x4x64_2_0_1_3

/-- The gates by column. -/
def turnG (y : S4x8448x8.Idx → EReal) : S4x8x8448.Idx → EReal := transpose S4x8x8448 [0, 2, 1] y transposes_S4x8448x8_S4x8x8448_0_2_1

theorem cut_apply (y : S4x8448x2048.Idx → EReal) (t : Fin 132) (e h : Fin 4) (r : Fin 64) (a : Fin 512) :
    cut y (ix5 t e h r a) = y (ix3 e (time t r) ⟨h.val * 512 + a.val, by omega⟩) := by
  pointwise [cut]
  rfl

theorem cutG_apply (y : S4x4x8448.Idx → EReal) (t : Fin 132) (e h : Fin 4) (r : Fin 64) :
    cutG y (ix4 t e h r) = y (ix3 e h (time t r)) := by
  pointwise [cutG]
  rfl

theorem turnG_apply (y : S4x8448x8.Idx → EReal) (e : Fin 4) (c : Fin 8) (u : Fin 8448) : turnG y (ix3 e c u) = y (ix3 e u c) := by
  pointwise [turnG]

/-- The row a chain visits at a time, case by case. -/
theorem row_chain (e : Fin 4) (u : Fin 8448) : (row (dir e) (bat e) u.val).val
    = if e.val < 2 then (if u.val < 256 then 16384 + (e.val * 256 + u.val) else e.val * 8192 + (u.val - 256))
      else if u.val < 256 then 16384 + ((e.val - 2) * 256 + (255 - u.val)) else (e.val - 2) * 8192 + (8447 - u.val) := by
  rw [row_val _ _ u.isLt]
  unfold rowN
  have hd : (dir e = 0) ↔ e.val < 2 := by
    rw [Fin.ext_iff]; show e.val / 2 = 0 ↔ _; omega
  have hb : (bat e).val = e.val % 2 := rfl
  rw [hb, if_congr hd rfl rfl, if_congr hd rfl rfl]
  have := e.isLt
  split_ifs <;> omega

theorem unpack_apply (x : S16896x2048.Idx → EReal) (e : Fin 4) (u : Fin 8448) (c : Fin 2048) :
    unpack x (ix3 e u c) = x (ix2 (row (dir e) (bat e) u.val) c) := by
  pointwise [unpack]
  have hr := row_chain e u
  have hu := u.isLt
  have he := e.isLt
  have hd : (dir e).val = e.val / 2 := rfl
  by_cases h1 : e.val < 2 <;> by_cases h2 : u.val < 256
  · rw [dif_pos h1, dif_pos h2]
    rw [if_pos h1, if_pos h2] at hr
    refine congrArg x (congrArg₂ ix2 (Fin.ext hr.symm) (Fin.ext ?_))
    rfl
  · rw [dif_pos h1, dif_neg h2]
    rw [if_pos h1, if_neg h2] at hr
    refine congrArg x (congrArg₂ ix2 (Fin.ext hr.symm) (Fin.ext ?_))
    rfl
  · rw [dif_neg h1, dif_pos h2]
    rw [if_neg h1, if_pos h2] at hr
    refine congrArg x (congrArg₂ ix2 (Fin.ext ?_) (Fin.ext ?_))
    · show 16384 + ((e.val - 2) * 256 + (256 - (u.val + 1))) = _
      omega
    · rfl
  · rw [dif_neg h1, dif_neg h2]
    rw [if_neg h1, if_neg h2] at hr
    refine congrArg x (congrArg₂ ix2 (Fin.ext ?_) (Fin.ext ?_))
    · show (e.val - 2) * 8192 + (8192 - (u.val - 256 + 1)) = _
      omega
    · rfl

theorem unpackG_apply (x : S16896x16.Idx → EReal) (e : Fin 4) (u : Fin 8448) (c : Fin 8) :
    unpackG x (ix3 e u c) = x (ix2 (row (dir e) (bat e) u.val) ⟨8 * (dir e).val + c.val, by omega⟩) := by
  pointwise [unpackG]
  have hr := row_chain e u
  have hu := u.isLt
  have he := e.isLt
  have hd : (dir e).val = e.val / 2 := rfl
  by_cases h1 : e.val < 2 <;> by_cases h2 : u.val < 256
  · rw [dif_pos h1, dif_pos h2]
    rw [if_pos h1, if_pos h2] at hr
    refine congrArg x (congrArg₂ ix2 (Fin.ext hr.symm) (Fin.ext ?_))
    show c.val = 8 * (dir e).val + c.val; omega
  · rw [dif_pos h1, dif_neg h2]
    rw [if_pos h1, if_neg h2] at hr
    refine congrArg x (congrArg₂ ix2 (Fin.ext hr.symm) (Fin.ext ?_))
    show c.val = 8 * (dir e).val + c.val; omega
  · rw [dif_neg h1, dif_pos h2]
    rw [if_neg h1, if_pos h2] at hr
    refine congrArg x (congrArg₂ ix2 (Fin.ext ?_) (Fin.ext ?_))
    · show 16384 + ((e.val - 2) * 256 + (256 - (u.val + 1))) = _
      omega
    · show 8 + c.val = 8 * (dir e).val + c.val; omega
  · rw [dif_neg h1, dif_neg h2]
    rw [if_neg h1, if_neg h2] at hr
    refine congrArg x (congrArg₂ ix2 (Fin.ext ?_) (Fin.ext ?_))
    · show (e.val - 2) * 8192 + (8192 - (u.val - 256 + 1)) = _
      omega
    · show 8 + c.val = 8 * (dir e).val + c.val; omega

/-- The rows of a packed array as the loop takes them. -/
theorem cut_unpack (x : S16896x2048.Idx → EReal) (t : Fin 132) (e h : Fin 4) (r : Fin 64) (a : Fin 512) :
    cut (unpack x) (ix5 t e h r a) = x (ix2 (row (dir e) (bat e) (64 * t.val + r.val)) (hcol h a)) := by
  rw [cut_apply, unpack_apply]
  refine congrArg x (congrArg₂ ix2 ?_ (Fin.ext ?_))
  · show row _ _ (t.val * 64 + r.val) = _
    rw [Nat.mul_comm]
  · show h.val * 512 + a.val = 512 * h.val + a.val
    omega

/-- An array of chunks read at equal places. -/
theorem read5 (x : S132x4x4x64x512.Idx → EReal) {t t' : Fin 132} {e e' h h' : Fin 4} {r r' : Fin 64} {a a' : Fin 512}
    (ht : t.val = t'.val) (he : e.val = e'.val) (hh : h.val = h'.val) (hr : r.val = r'.val) (ha : a.val = a'.val) :
    x (ix5 t e h r a) = x (ix5 t' e' h' r' a') := by
  rw [Fin.ext ht, Fin.ext he, Fin.ext hh, Fin.ext hr, Fin.ext ha]

/-- The chunks of the chains joined. -/
def uncut (o : S132x4x4x64x512.Idx → EReal) : S4x8448x2048.Idx → EReal :=
  shapeCast _ (transpose S4x8448x4x512 [0, 2, 1, 3] (shapeCast S4x4x8448x512 (transpose S4x4x132x64x512 [1, 2, 0, 3, 4] o
    transposes_S132x4x4x64x512_S4x4x132x64x512_1_2_0_3_4) shapeCasts_S4x4x132x64x512_S4x4x8448x512)
    transposes_S4x4x8448x512_S4x8448x4x512_0_2_1_3) shapeCasts_S4x8448x4x512_S4x8448x2048

theorem uncut_apply (o : S132x4x4x64x512.Idx → EReal) (e : Fin 4) (u : Fin 8448) (c : Fin 2048) :
    uncut o (ix3 e u c) = o (ix5 ⟨u.val / 64, by omega⟩ e ⟨c.val / 512, by omega⟩ ⟨u.val % 64, by omega⟩ ⟨c.val % 512, by omega⟩) := by
  pointwise [uncut]

/-- The forward chains of the two batches. -/
def fore (y : S4x8448x2048.Idx → EReal) : S2x8448x2048.Idx → EReal :=
  extractStridedSlice S2x8448x2048 ![0, 0, 0] y slices_S4x8448x2048_S2x8448x2048_0_0_0

theorem fore_apply (y : S4x8448x2048.Idx → EReal) (b : Fin 2) (u : Fin 8448) (c : Fin 2048) :
    fore y (ix3 b u c) = y (ix3 ⟨b.val, by omega⟩ u c) := by
  pointwise [fore]

/-- The latent rows of two batches' chains, and their context rows. -/
def latent (y : S2x8448x2048.Idx → EReal) : S2x8192x2048.Idx → EReal :=
  extractStridedSlice S2x8192x2048 ![0, 256, 0] y slices_S2x8448x2048_S2x8192x2048_0_256_0
def context (y : S2x8448x2048.Idx → EReal) : S2x256x2048.Idx → EReal :=
  extractStridedSlice S2x256x2048 ![0, 0, 0] y slices_S2x8448x2048_S2x256x2048_0_0_0

theorem latent_apply (y : S2x8448x2048.Idx → EReal) (b : Fin 2) (u : Fin 8192) (c : Fin 2048) :
    latent y (ix3 b u c) = y (ix3 b ⟨256 + u.val, by omega⟩ c) := by
  pointwise [latent]

theorem context_apply (y : S2x8448x2048.Idx → EReal) (b : Fin 2) (u : Fin 256) (c : Fin 2048) :
    context y (ix3 b u c) = y (ix3 b ⟨u.val, by omega⟩ c) := by
  pointwise [context]

/-- Latent and context rows packed. -/
def packed (x : S2x8192x2048.Idx → EReal) (y : S2x256x2048.Idx → EReal) : S16896x2048.Idx → EReal :=
  concatenate S16896x2048 0 [⟨S16384x2048, shapeCast _ x shapeCasts_S2x8192x2048_S16384x2048⟩,
    ⟨S512x2048, shapeCast _ y shapeCasts_S2x256x2048_S512x2048⟩] concatenates_S16384x2048_S512x2048_S16896x2048_d0

theorem packed_apply (x : S2x8192x2048.Idx → EReal) (y : S2x256x2048.Idx → EReal) (r : Fin 16896) (c : Fin 2048) :
    packed x y (ix2 r c) = if h : r.val < 16384 then x (ix3 ⟨r.val / 8192, by omega⟩ ⟨r.val % 8192, by omega⟩ c)
      else y (ix3 ⟨(r.val - 16384) / 256, by omega⟩ ⟨(r.val - 16384) % 256, by omega⟩ c) := by
  pointwise [packed]

/-- The forward result at the row a chain visits at a time. -/
theorem forward_at (s : State Ideal) (b : Fin 2) {t : ℕ} (ht : t < 8448) (h : Fin 4) (a : Fin 512) :
    R_main_v82 s (ix2 (row 0 b t) (hcol h a))
      = s.main_v70_10 (ix5 ⟨t / 64, by omega⟩ ⟨b.val, by omega⟩ h ⟨t % 64, by omega⟩ a) := by
  have hr := row_val 0 b ht
  change packed (latent (fore (uncut s.main_v70_10))) (context (fore (uncut s.main_v70_10))) _ = _
  rw [packed_apply]
  simp only [latent_apply, context_apply, fore_apply, uncut_apply]
  have hb := b.isLt
  have ha := a.isLt
  have hh := h.isLt
  unfold rowN at hr
  rw [if_pos rfl, if_pos rfl] at hr
  by_cases h2 : t < 256
  · rw [if_pos h2] at hr
    rw [dif_neg (by omega)]
    refine read5 _ ?_ ?_ ?_ ?_ ?_
    · show (((row 0 b t).val - 16384) % 256) / 64 = t / 64
      omega
    · show ((row 0 b t).val - 16384) / 256 = b.val
      omega
    · show (512 * h.val + a.val) / 512 = h.val
      omega
    · show (((row 0 b t).val - 16384) % 256) % 64 = t % 64
      omega
    · show (512 * h.val + a.val) % 512 = a.val
      omega
  · rw [if_neg h2] at hr
    rw [dif_pos (by omega)]
    refine read5 _ ?_ ?_ ?_ ?_ ?_
    · show (256 + (row 0 b t).val % 8192) / 64 = t / 64
      omega
    · show (row 0 b t).val / 8192 = b.val
      omega
    · show (512 * h.val + a.val) / 512 = h.val
      omega
    · show (256 + (row 0 b t).val % 8192) % 64 = t % 64
      omega
    · show (512 * h.val + a.val) % 512 = a.val
      omega

/-- The backward result at the row a chain visits at a time. -/
theorem backward_at (s : State Ideal) (b : Fin 2) {t : ℕ} (ht : t < 8448) (h : Fin 4) (a : Fin 512) :
    R_main_v90 s (ix2 (row 1 b t) (hcol h a))
      = s.main_v70_10 (ix5 ⟨t / 64, by omega⟩ ⟨2 + b.val, by omega⟩ h ⟨t % 64, by omega⟩ a) := by
  pointwise [R_main_v90]
  have hr := row_val 1 b ht
  have hb := b.isLt
  have ha := a.isLt
  have hh := h.isLt
  unfold rowN at hr
  rw [if_neg (by decide : ¬ (1 : Fin 2) = 0), if_neg (by decide : ¬ (1 : Fin 2) = 0)] at hr
  by_cases h2 : t < 256
  · rw [if_pos h2] at hr
    rw [dif_neg (by omega)]
    refine read5 _ ?_ ?_ ?_ ?_ ?_
    · show (256 - (((row 1 b t).val - 16384) % 256 + 1)) / 64 = t / 64
      omega
    · show 2 + ((row 1 b t).val - 16384) / 256 = 2 + b.val
      omega
    · show (512 * h.val + a.val) / 512 = h.val
      omega
    · show (256 - (((row 1 b t).val - 16384) % 256 + 1)) % 64 = t % 64
      omega
    · show (512 * h.val + a.val) % 512 = a.val
      omega
  · rw [if_neg h2] at hr
    rw [dif_pos (by omega)]
    refine read5 _ ?_ ?_ ?_ ?_ ?_
    · show (256 + (8192 - ((row 1 b t).val % 8192 + 1))) / 64 = t / 64
      omega
    · show 2 + (row 1 b t).val / 8192 = 2 + b.val
      omega
    · show (512 * h.val + a.val) / 512 = h.val
      omega
    · show (256 + (8192 - ((row 1 b t).val % 8192 + 1))) % 64 = t % 64
      omega
    · show (512 * h.val + a.val) % 512 = a.val
      omega

end Cert.Scan.Ref

end
-- ==== Proof.Scan.RefValue.lean ====
/- The reference's two results over the extended reals, on arrays of real numbers: each direction's hidden vectors, at the rows where
   the direction meets them. -/
module

public import proofs.«01_k».proof.Proof.Scan.RefChunk
public import proofs.«01_k».proof.Proof.Scan.RefLayout

@[expose] public section

set_option maxRecDepth 16384

noncomputable section

namespace Cert.Scan.Ref

open Idealize.ShloMosaic Idealize.ShloMosaic.TcCoe Cert.ReferenceIdeal Cert.ReferenceIdeal.Gen Cert.ReferenceIdeal.Step

variable (q : S16896x2048.Idx → EReal) (kt : S2048x16896.Idx → EReal) (v : S16896x2048.Idx → EReal) (g : S16896x16.Idx → EReal)

/-- The tokens of chain `e`, head `h`. -/
def chain (e h : Fin 4) : Tokens := tok q kt v g (dir e) (bat e) h

/-- The keys with rows and columns exchanged. -/
def turned : S16896x2048.Idx → EReal := transpose S16896x2048 [1, 0] kt transposes_S2048x16896_S16896x2048_1_0

theorem turned_apply (r : Fin 16896) (c : Fin 2048) : turned kt (ix2 r c) = kt (ix2 c r) := by
  pointwise [turned]

/-- The log of the logistic function as the reference writes it, of an array. -/
def logs (w : S4x4x8448.Idx → EReal) : S4x4x8448.Idx → EReal :=
  Host.negf (F := Ideal) (φ := .f32) (select
    (cmpf (F := Ideal) (φ := .f32) .une (subf (F := Ideal) (φ := .f32) (Host.negf (F := Ideal) (φ := .f32) w) (K_main_call2_v2 (F := Ideal)))
      (subf (F := Ideal) (φ := .f32) (Host.negf (F := Ideal) (φ := .f32) w) (K_main_call2_v2 (F := Ideal))))
    (addf (F := Ideal) (φ := .f32) (Host.negf (F := Ideal) (φ := .f32) w) (K_main_call2_v5 (F := Ideal)))
    (addf (F := Ideal) (φ := .f32) (maximumf (F := Ideal) (φ := .f32) (Host.negf (F := Ideal) (φ := .f32) w) (K_main_call2_v0 (F := Ideal)))
      (Host.log1p (F := Ideal) (φ := .f32) (Host.exp (F := Ideal) (φ := .f32) (Host.negf (F := Ideal) (φ := .f32)
        (Host.absf (F := Ideal) (φ := .f32) (subf (F := Ideal) (φ := .f32) (Host.negf (F := Ideal) (φ := .f32) w)
          (K_main_call2_v2 (F := Ideal)))))))))

theorem logs_apply (w : S4x4x8448.Idx → EReal) (e h : Fin 4) (u : Fin 8448) (y : ℝ) (hy : w (ix3 e h u) = (y : EReal)) :
    logs w (ix3 e h u) = (logSigmoid y : EReal) := by
  pointwise [logs, K_main_call2_v5, K_main_call2_v2, K_main_call2_v0, K_main_call2_cst]
  rw [hy, if_neg (by simp)]
  exact (congrArg Neg.neg (softplus_coe y)).trans (by rw [EReal.coe_neg, neg_neg])

/-- The columns of the input gates and of the forget gates. -/
def colsI (y : S4x8x8448.Idx → EReal) : S4x4x8448.Idx → EReal := extractStridedSlice S4x4x8448 ![0, 0, 0] y slices_S4x8x8448_S4x4x8448_0_0_0
def colsF (y : S4x8x8448.Idx → EReal) : S4x4x8448.Idx → EReal := extractStridedSlice S4x4x8448 ![0, 4, 0] y slices_S4x8x8448_S4x4x8448_0_4_0

theorem colsI_apply (y : S4x8x8448.Idx → EReal) (e h : Fin 4) (u : Fin 8448) : colsI y (ix3 e h u) = y (ix3 e ⟨h.val, by omega⟩ u) := by
  pointwise [colsI]

theorem colsF_apply (y : S4x8x8448.Idx → EReal) (e h : Fin 4) (u : Fin 8448) : colsF y (ix3 e h u) = y (ix3 e ⟨4 + h.val, by omega⟩ u) := by
  pointwise [colsF]

theorem input_at (e h : Fin 4) (t : Fin 132) (r : Fin 64) : cutG (colsI (turnG (unpackG g))) (ix4 t e h r)
    = g (ix2 (row (dir e) (bat e) (64 * t.val + r.val)) (iCol (dir e) h)) := by
  rw [cutG_apply, colsI_apply, turnG_apply, unpackG_apply]
  refine congrArg g (congrArg₂ ix2 ?_ (Fin.ext rfl))
  show row _ _ (t.val * 64 + r.val) = _
  rw [Nat.mul_comm]

theorem forget_at (hg : Real g) (e h : Fin 4) (t : Fin 132) (r : Fin 64) : cutG (logs (colsF (turnG (unpackG g)))) (ix4 t e h r)
    = (logSigmoid (gateY g (dir e) (bat e) h (64 * t.val + r.val)) : EReal) := by
  rw [cutG_apply]
  refine logs_apply _ e h _ _ ?_
  rw [colsF_apply, turnG_apply, unpackG_apply, hg]
  refine congrArg (fun i => ((g i).toReal : EReal)) (congrArg₂ ix2 ?_ (Fin.ext ?_))
  · show row _ _ (t.val * 64 + r.val) = _
    rw [Nat.mul_comm]
  · show 8 * (dir e).val + (4 + h.val) = 8 * (dir e).val + 4 + h.val
    omega

variable {q kt v g}

/-- The state the loop starts from. -/
theorem init_at (hq : Real q) (hk : Real kt) (hv : Real v) (hg : Real g) : At (chain q kt v g) 0 (init (F := Ideal) q kt v g) where
  q t e h r a := by
    refine (cut_unpack q t e h r a).trans (hq _)
  k t e h r a := by
    refine (cut_unpack (turned kt) t e h r a).trans ((turned_apply kt _ _).trans (hk _))
  v t e h r a := by
    refine (cut_unpack v t e h r a).trans (hv _)
  i t e h r := (input_at g e h t r).trans (hg _)
  f t e h r := forget_at g hg e h t r
  c e h b a := by
    show K_main_v17 (F := Ideal) (ix4 e h b a) = _
    pointwise [K_main_v17, K_main_cst]
    rfl
  n e h a := by
    show K_main_v18 (F := Ideal) (ix3 e h a) = _
    pointwise [K_main_v18, K_main_cst_0]
    rfl
  m e h := by
    show K_main_v19 (F := Ideal) (ix2 e h) = _
    pointwise [K_main_v19, K_main_cst_1]
    rfl
  o t ht := absurd ht (Nat.not_lt_zero _)

/-- The state after `n` trips. -/
def iter (q : S16896x2048.Idx → EReal) (kt : S2048x16896.Idx → EReal) (v : S16896x2048.Idx → EReal) (g : S16896x16.Idx → EReal) :
    ℕ → State Ideal
  | 0 => init (F := Ideal) q kt v g
  | n + 1 => step n (iter q kt v g n)

theorem iter_at (hq : Real q) (hk : Real kt) (hv : Real v) (hg : Real g) (n : ℕ) (hn : n ≤ 132) :
    At (chain q kt v g) n (iter q kt v g n) := by
  induction n with
  | zero => exact init_at hq hk hv hg
  | succ n ih => exact (ih (by omega)).step (by omega)

/-- THE FORWARD RESULT. -/
theorem forward (hq : Real q) (hk : Real kt) (hv : Real v) (hg : Real g) :
    Result q kt v g 0 (R_main_v82 (iter q kt v g 132) : S16896x2048.Idx → EReal) := by
  intro b t ht h a
  refine (forward_at _ b ht h a).trans (((iter_at hq hk hv hg 132 le_rfl).o _ (by show t / 64 < 132; omega) _ _ _ _).trans ?_)
  have hd : dir ⟨b.val, by omega⟩ = 0 := Fin.ext (by show b.val / 2 = 0; omega)
  have hb : bat ⟨b.val, by omega⟩ = b := Fin.ext (by show b.val % 2 = b.val; omega)
  rw [chain, hd, hb]
  show ((tok q kt v g 0 b h).h (64 * (t / 64) + t % 64) a : EReal) = _
  rw [Nat.div_add_mod]

/-- THE BACKWARD RESULT. -/
theorem backward (hq : Real q) (hk : Real kt) (hv : Real v) (hg : Real g) :
    Result q kt v g 1 (R_main_v90 (iter q kt v g 132) : S16896x2048.Idx → EReal) := by
  intro b t ht h a
  refine (backward_at _ b ht h a).trans (((iter_at hq hk hv hg 132 le_rfl).o _ (by show t / 64 < 132; omega) _ _ _ _).trans ?_)
  have hd : dir ⟨2 + b.val, by omega⟩ = 1 := Fin.ext (by show (2 + b.val) / 2 = 1; omega)
  have hb : bat ⟨2 + b.val, by omega⟩ = b := Fin.ext (by show (2 + b.val) % 2 = b.val; omega)
  rw [chain, hd, hb]
  show ((tok q kt v g 1 b h).h (64 * (t / 64) + t % 64) a : EReal) = _
  rw [Nat.div_add_mod]

end Cert.Scan.Ref

end
-- ==== Proof.Scan.Claims.lean ====
/- The claims: both programs run and leave their arguments, and over the extended reals, on arrays of real numbers, both leave each
   direction's hidden vectors. -/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Scan.Grid
public import proofs.«01_k».proof.Proof.Scan.RefRun
public import proofs.«01_k».proof.Proof.Scan.RefValue
public import Idealize.ShloMosaic.Adequacy
public import Idealize.ShloMosaic.Init

@[expose] public section

noncomputable section

namespace Cert.Scan.Claims

open Idealize.ShloMosaic Idealize.ShloMosaic.TcCoe Idealize.SL.Sem

/-- The side conditions the precondition states. -/
instance preFacts : Cert.Pre_finite.Facts where
  bitsLt_bf16_f32 := by decide
  bcast_S_S16896x2048 := by decide
  bcast_S_S2048x16896 := by decide
  bcast_S_S16896x16 := by decide

/-- The bit pattern of plus infinity. -/
theorem ofBits_posInf : Ideal.ofBits .f32 2139095040#32 = ⊤ := by simp [Ideal.ofBits, Ideal.ieee]

/-- An array whose entries all lie below plus infinity in absolute value holds real numbers. -/
theorem real_of_pre {s : Shape} (x : s.Idx → EReal) (hb : Cert.Pre_finite.S_.BroadcastsInDim s (![] : Fin 0 → Fin s.rank))
    (h : cmpf (F := Ideal) (φ := .f32) .olt (Host.absf (F := Ideal) (φ := .f32) x)
      (broadcastInDim s ![] hb (constant (F := Ideal) Cert.Pre_finite.S_ .f32 0x7F800000#32)) = fun _ => 1#1) : Real x := by
  intro i
  have hi := congrFun h i
  change FloatOps.cmpf (F := Ideal) (φ := .f32) .olt (max (x i) (-(x i))) (Ideal.ofBits .f32 2139095040#32) = 1#1 at hi
  rw [ofBits_posInf] at hi
  refine real_of_abs_lt ?_
  by_contra hlt
  change BitVec.ofBool (decide (max (x i) (-(x i)) < ⊤)) = 1#1 at hi
  rw [decide_eq_false hlt] at hi
  exact absurd hi (by decide)

/-- The precondition makes the arguments arrays of real numbers. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Scan.Finite m c where
  q := real_of_pre _ _ (h c).1
  k := real_of_pre _ _ (h c).2.1
  v := real_of_pre _ _ (h c).2.2.1
  g := real_of_pre _ _ (h c).2.2.2

/-- The reference's loop states, device by device. -/
def states (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  Ref.iter (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))

/-- The kernel's frame at the bit-exact instance. -/
theorem frame_kernel : Cert.quiescent_Kernel := fun m ρ _ => Cert.Kernel.Gen.frame m ρ

/-- The kernel's frame over the extended reals. -/
theorem frame_ideal : Cert.quiescent_KernelIdeal := fun m ρ _ => Cert.KernelIdeal.Gen.frame m ρ

/-- The reference's frame. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (RefRun.run_iter m ρ (states m) (fun _ => rfl) (fun _ _ => rfl))

/-- THE VALUES: kernel and reference leave the same two arrays. -/
theorem value : Cert.algebraic_KernelIdeal_ReferenceIdeal_pre_finite := by
  intro m ρ m' ρ' hpre hargs
  refine ⟨fun c => (Cert.KernelIdeal.Gen.dats m 0 c).arrAt 12 Cert.KernelIdeal.cfg0.N,
    fun c => (Cert.KernelIdeal.Gen.dats m 0 c).arrAt 13 Cert.KernelIdeal.cfg0.N, Cert.KernelIdeal.Value.run_blocks m ρ, ?_⟩
  refine (θ_run Cert.ReferenceIdeal.defs _ _).mono (fun r h c => ?_)
    (RefRun.run_iter m' ρ' (states m') (fun _ => rfl) (fun _ _ => rfl))
  have H := finite_of_pre m hpre c
  obtain ⟨h0, h1, hk⟩ := h c
  obtain ⟨e0, e1, e2, e3⟩ := hargs c
  have hs : states m' c 132 = Ref.iter (qA m c) (kA m c) (vA m c) (gA m c) 132 := by
    unfold states; rw [e0, e1, e2, e3]
  rw [hs] at h0 h1
  exact ⟨h0.trans ((Ref.forward H.q H.k H.v H.g).unique (result0 H)), h1.trans ((Ref.backward H.q H.k H.v H.g).unique (result1 H)), hk⟩

end Cert.Scan.Claims

end
-- ==== Proof.Ffn.HalfStep.lean ====
/- The feed-forward half-step of one row over the extended reals. -/
module

public import Idealize.ShloMosaic.PureOps.Ideal

@[expose] public section

noncomputable section

namespace Cert.Ffn

open Idealize.ShloMosaic

/-- The reciprocal root of a row's mean square, with the small constant under the root. -/
def rms (y : Fin 1024 → EReal) : EReal :=
  Ideal.rsqrt (Ideal.div (∑ k, y k * y k) (Ideal.ofBits .f32 1149239296#32) + Ideal.ofBits .f32 897988541#32)

/-- A normalized and modulated row. -/
def modulated (x g shift scale : Fin 1024 → EReal) (k : Fin 1024) : EReal :=
  x k * rms x * (g k * (1 + scale k)) + shift k

/-- The column of the first weight that holds hidden unit `J`'s gate. -/
def gateCol (J : Fin 2816) : Fin 5632 := ⟨J.val, by omega⟩
/-- The column of the first weight that holds hidden unit `J`'s value. -/
def upCol (J : Fin 2816) : Fin 5632 := ⟨2816 + J.val, by omega⟩

/-- Hidden unit `J` of a row: its gate times the gate's logistic value times its value. -/
def unit (t : Fin 1024 → EReal) (wi : Fin 1024 → Fin 5632 → EReal) (J : Fin 2816) : EReal :=
  (∑ k, t k * wi k (gateCol J)) * Ideal.logistic (∑ k, t k * wi k (gateCol J)) * ∑ k, t k * wi k (upCol J)

/-- The feed-forward part of a row: the hidden units against the second weight. -/
def swiglu (t : Fin 1024 → EReal) (wi : Fin 1024 → Fin 5632 → EReal) (wo : Fin 2816 → Fin 1024 → EReal) (n : Fin 1024) : EReal :=
  ∑ J, unit t wi J * wo J n

/-- A row with half of its gated and normalized feed-forward part added. -/
def residual (x y gate g : Fin 1024 → EReal) (n : Fin 1024) : EReal :=
  x n + y n * rms y * (Ideal.ofBits .f32 1056964608#32 * gate n * g n)

/-- The half-step of a row. -/
def halfStep (x shift scale gate g g' : Fin 1024 → EReal) (wi : Fin 1024 → Fin 5632 → EReal) (wo : Fin 2816 → Fin 1024 → EReal) :
    Fin 1024 → EReal :=
  residual x (swiglu (modulated x g shift scale) wi wo) gate g'

/-- The hidden units in eleven groups of 256. -/
theorem sum_groups (f : Fin 2816 → EReal) : ∑ J, f J = ∑ c : Fin 11, ∑ j : Fin 256, f ⟨256 * c.val + j.val, by omega⟩ := by
  rw [← Fintype.sum_prod_type' fun (c : Fin 11) (j : Fin 256) => f ⟨256 * c.val + j.val, by omega⟩]
  refine (Fintype.sum_equiv (finProdFinEquiv (m := 11) (n := 256)) _ f fun p => ?_).symm
  congr 1
  apply Fin.ext
  simp [finProdFinEquiv]
  omega

end Cert.Ffn

end
-- ==== Proof.Ffn.Body.lean ====
/- What one grid point of the feed-forward call writes, entry by entry. -/
module

public import proofs.«01_k».proof.Proof.Ffn.HalfStep
public import proofs.«01_k».proof.Proof.Gen.Kernel2Ideal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Ffn

open Idealize.ShloMosaic Idealize.ShloMosaic.TcCoe Cert.Kernel2Ideal Cert.Kernel2Ideal.Gen

variable {F : FTy → Type} [FloatOps F]

/-- The modulated block, as the point computes it. -/
def tokens (x0 : Vec F S512x1024 .f32) (x1 : Vec F S1x9x1024 .f32) (x2 : Vec F S6x1024 .f32) : FVec F S512x1024 .bf16 :=
  k0_pay3 x0 (View.ld x1 (Rect.unit ![0, 6, 0] ![1, 1, 1024] inb_S1x9x1024_S1x1x1024_0_6_0))
    (View.ld x1 (Rect.unit ![0, 7, 0] ![1, 1, 1024] inb_S1x9x1024_S1x1x1024_0_7_0))
    (View.ld x2 (Rect.unit ![4, 0] ![1, 1024] inb_S6x1024_S1x1024_4_0))

/-- The rectangle of a group's gate columns lies in the first weight. -/
theorem inb_gate : ∀ (g : Fin 11) (a : Fin 4), (![0, 0, 0, 256 * g.val] : Fin 4 → ℕ) a + S1x1x1024x256.size a ≤ S1x1x1024x5632.size a := by
  decide

/-- The rectangle of a group's value columns lies in the first weight. -/
theorem inb_up : ∀ (g : Fin 11) (a : Fin 4),
    (![0, 0, 0, 2816 + 256 * g.val] : Fin 4 → ℕ) a + S1x1x1024x256.size a ≤ S1x1x1024x5632.size a := by
  decide

/-- The rectangle of a group's rows lies in the second weight. -/
theorem inb_down : ∀ (g : Fin 11) (a : Fin 4), (![0, 0, 256 * g.val, 0] : Fin 4 → ℕ) a + S1x1x256x1024.size a ≤ S1x1x2816x1024.size a := by
  decide

/-- The gate columns of a group of hidden units. -/
def wGate (x3 : Vec F S1x1x1024x5632 .bf16) (g : Fin 11) : Vec F S1x1x1024x256 .bf16 :=
  View.ld x3 (Rect.unit ![0, 0, 0, 256 * g.val] ![1, 1, 1024, 256] (inb_gate g))

/-- The value columns of a group of hidden units. -/
def wUp (x3 : Vec F S1x1x1024x5632 .bf16) (g : Fin 11) : Vec F S1x1x1024x256 .bf16 :=
  View.ld x3 (Rect.unit ![0, 0, 0, 2816 + 256 * g.val] ![1, 1, 1024, 256] (inb_up g))

/-- The second weight's rows of a group of hidden units. -/
def wDown (x4 : Vec F S1x1x2816x1024 .bf16) (g : Fin 11) : Vec F S1x1x256x1024 .bf16 :=
  View.ld x4 (Rect.unit ![0, 0, 256 * g.val, 0] ![1, 1, 256, 1024] (inb_down g))

/-- The accumulator after one more group of hidden units. -/
def more (t : FVec F S512x1024 .bf16) (x3 : Vec F S1x1x1024x5632 .bf16) (x4 : Vec F S1x1x2816x1024 .bf16) (g : Fin 11)
    (acc : Vec F S512x1024 .f32) : Vec F S512x1024 .f32 :=
  k0_pay7 t (wGate x3 g) (wUp x3 g) (wDown x4 g) acc

/-- The accumulator after the first group. -/
def first (x0 : Vec F S512x1024 .f32) (x1 : Vec F S1x9x1024 .f32) (x2 : Vec F S6x1024 .f32) (x3 : Vec F S1x1x1024x5632 .bf16)
    (x4 : Vec F S1x1x2816x1024 .bf16) : Vec F S512x1024 .f32 :=
  k0_pay6 (k0_pay4 x0 (View.ld x1 (Rect.unit ![0, 6, 0] ![1, 1, 1024] inb_S1x9x1024_S1x1x1024_0_6_0))
      (View.ld x1 (Rect.unit ![0, 7, 0] ![1, 1, 1024] inb_S1x9x1024_S1x1x1024_0_7_0))
      (View.ld x2 (Rect.unit ![4, 0] ![1, 1024] inb_S6x1024_S1x1024_4_0)) (wGate x3 0))
    (k0_pay5 x0 (View.ld x1 (Rect.unit ![0, 6, 0] ![1, 1, 1024] inb_S1x9x1024_S1x1x1024_0_6_0))
      (View.ld x1 (Rect.unit ![0, 7, 0] ![1, 1, 1024] inb_S1x9x1024_S1x1x1024_0_7_0))
      (View.ld x2 (Rect.unit ![4, 0] ![1, 1024] inb_S6x1024_S1x1024_4_0)) (wUp x3 0))
    (wDown x4 0)

/-- The accumulator after the first group and a list of further ones. -/
def accum (x0 : Vec F S512x1024 .f32) (x1 : Vec F S1x9x1024 .f32) (x2 : Vec F S6x1024 .f32) (x3 : Vec F S1x1x1024x5632 .bf16)
    (x4 : Vec F S1x1x2816x1024 .bf16) : List (Fin 11) → Vec F S512x1024 .f32
  | [] => first x0 x1 x2 x3 x4
  | g :: l => more (tokens x0 x1 x2) x3 x4 g (accum x0 x1 x2 x3 x4 l)

/-- What a point writes, over the accumulator that it ends with. -/
def finish (x0 : Vec F S512x1024 .f32) (x1 : Vec F S1x9x1024 .f32) (x2 : Vec F S6x1024 .f32) (acc : Vec F S512x1024 .f32) :
    Vec F S512x1024 .f32 :=
  k0_pay1 x0 acc (k0_pay23 (k0_pay2 (View.ld x1 (Rect.unit ![0, 8, 0] ![1, 1, 1024] inb_S1x9x1024_S1x1x1024_0_8_0)))
    (View.ld x2 (Rect.unit ![5, 0] ![1, 1024] inb_S6x1024_S1x1024_5_0))) (k0_pay24 acc)

/-- A point writes the block with the normalized sum of the eleven groups. -/
theorem out_eq (c : Dev nD) (i : grid0.Coords) (arg1 : Memref sig .tc .vmem S512x1024 .f32) (harg1 : arg1.IsWhole)
    (arg2 : Memref sig .tc .vmem S1x9x1024 .f32) (harg2 : arg2.IsWhole) (arg3 : Memref sig .tc .vmem S6x1024 .f32) (harg3 : arg3.IsWhole)
    (arg4 : Memref sig .tc .vmem S1x1x1024x5632 .bf16) (harg4 : arg4.IsWhole) (arg5 : Memref sig .tc .vmem S1x1x2816x1024 .bf16)
    (harg5 : arg5.IsWhole) (arg6 : Memref sig .tc .vmem S512x1024 .f32) (harg6 : arg6.IsWhole)
    (arg7 : Memref sig .tc .vmem S512x1024 .f32) (harg7 : arg7.IsWhole)
    (x0 : Vec F S512x1024 .f32) (x1 : Vec F S1x9x1024 .f32) (x2 : Vec F S6x1024 .f32) (x3 : Vec F S1x1x1024x5632 .bf16)
    (x4 : Vec F S1x1x2816x1024 .bf16) :
    out0_A_5 c i arg1 harg1 arg2 harg2 arg3 harg3 arg4 harg4 arg5 harg5 arg6 harg6 arg7 harg7 x0 x1 x2 x3 x4
      = finish x0 x1 x2 (accum x0 x1 x2 x3 x4 [10, 9, 8, 7, 6, 5, 4, 3, 2, 1]) := by
  frame_open
  simp (disch := decide) only [↓ View.readCov_skip, ↓ View.readCov_cons_toLoadRect, ↓ View.readCov_fill]
  frame_out
  rfl

/-- A group's gate column. -/
theorem wGate_apply (x3 : Vec F S1x1x1024x5632 .bf16) (g : Fin 11) (k : Fin 1024) (j : Fin 256) :
    wGate x3 g (ix4 0 0 k j) = x3 (ix4 0 0 k (gateCol ⟨256 * g.val + j.val, by omega⟩)) := by
  show x3 _ = x3 _
  congr 1
  funext a; fin_cases a <;> (apply Fin.ext; simp [Rect.unit, ix4, gateCol])

/-- A group's value column. -/
theorem wUp_apply (x3 : Vec F S1x1x1024x5632 .bf16) (g : Fin 11) (k : Fin 1024) (j : Fin 256) :
    wUp x3 g (ix4 0 0 k j) = x3 (ix4 0 0 k (upCol ⟨256 * g.val + j.val, by omega⟩)) := by
  show x3 _ = x3 _
  congr 1
  funext a; fin_cases a <;> (apply Fin.ext; simp [Rect.unit, ix4, upCol, Nat.add_assoc])

/-- A group's row of the second weight. -/
theorem wDown_apply (x4 : Vec F S1x1x2816x1024 .bf16) (g : Fin 11) (j : Fin 256) (n : Fin 1024) :
    wDown x4 g (ix4 0 0 j n) = x4 (ix4 0 0 ⟨256 * g.val + j.val, by omega⟩ n) := by
  show x4 _ = x4 _
  congr 1
  funext a; fin_cases a <;> (apply Fin.ext; simp [Rect.unit, ix4])

section Ideal

variable (x0 : Vec Ideal S512x1024 .f32) (x1 : Vec Ideal S1x9x1024 .f32) (x2 : Vec Ideal S6x1024 .f32)
  (x3 : Vec Ideal S1x1x1024x5632 .bf16) (x4 : Vec Ideal S1x1x2816x1024 .bf16)

/-- The first weight of a block. -/
abbrev wi (k : Fin 1024) (J : Fin 5632) : EReal := x3 (ix4 0 0 k J)
/-- The second weight of a block. -/
abbrev wo (J : Fin 2816) (n : Fin 1024) : EReal := x4 (ix4 0 0 J n)

/-- The modulated block is the modulated row, row by row. -/
theorem tokens_apply (r : Fin 512) (k : Fin 1024) : tokens x0 x1 x2 (ix2 r k)
    = modulated (fun n => x0 (ix2 r n)) (fun n => x2 (ix2 4 n)) (fun n => x1 (ix3 0 6 n)) (fun n => x1 (ix3 0 7 n)) k := by
  unfold tokens
  pointwise [k0_pay3]
  rfl

/-- One group's share of the feed-forward part. -/
def part (t : Fin 1024 → EReal) (g : Fin 11) (n : Fin 1024) : EReal :=
  ∑ j : Fin 256, unit t (wi x3) ⟨256 * g.val + j.val, by omega⟩ * wo x4 ⟨256 * g.val + j.val, by omega⟩ n

/-- One more group adds its share. -/
theorem more_apply (t : FVec Ideal S512x1024 .bf16) (g : Fin 11) (acc : Vec Ideal S512x1024 .f32) (r : Fin 512) (n : Fin 1024) :
    more t x3 x4 g acc (ix2 r n) = acc (ix2 r n) + part x3 x4 (fun k => t (ix2 r k)) g n := by
  unfold more
  pointwise [k0_pay7]
  simp only [wGate_apply, wUp_apply, wDown_apply]
  rfl

/-- The first group leaves its share. -/
theorem first_apply (r : Fin 512) (n : Fin 1024) :
    first x0 x1 x2 x3 x4 (ix2 r n) = part x3 x4 (fun k => tokens x0 x1 x2 (ix2 r k)) 0 n := by
  unfold first
  pointwise [k0_pay6, k0_pay4, k0_pay5]
  simp only [wGate_apply, wUp_apply, wDown_apply]
  rfl

/-- A sum of eleven terms, in order. -/
theorem sum_eleven (f : Fin 11 → EReal) :
    ∑ g, f g = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

/-- The accumulator ends with the feed-forward part of every row. -/
theorem accum_apply (r : Fin 512) (n : Fin 1024) : accum x0 x1 x2 x3 x4 [10, 9, 8, 7, 6, 5, 4, 3, 2, 1] (ix2 r n)
    = swiglu (fun k => tokens x0 x1 x2 (ix2 r k)) (wi x3) (wo x4) n := by
  have e : swiglu (fun k => tokens x0 x1 x2 (ix2 r k)) (wi x3) (wo x4) n
      = ∑ g : Fin 11, part x3 x4 (fun k => tokens x0 x1 x2 (ix2 r k)) g n := sum_groups _
  rw [e, sum_eleven]
  simp only [accum, more_apply, first_apply]

/-- What a point writes is the half-step of its block's rows. -/
theorem finish_apply (r : Fin 512) (n : Fin 1024) :
    finish x0 x1 x2 (accum x0 x1 x2 x3 x4 [10, 9, 8, 7, 6, 5, 4, 3, 2, 1]) (ix2 r n)
      = halfStep (fun k => x0 (ix2 r k)) (fun k => x1 (ix3 0 6 k)) (fun k => x1 (ix3 0 7 k)) (fun k => x1 (ix3 0 8 k))
          (fun k => x2 (ix2 4 k)) (fun k => x2 (ix2 5 k)) (wi x3) (wo x4) n := by
  have e : ∀ k, accum x0 x1 x2 x3 x4 [10, 9, 8, 7, 6, 5, 4, 3, 2, 1] (ix2 r k)
      = swiglu (modulated (fun n => x0 (ix2 r n)) (fun n => x2 (ix2 4 n)) (fun n => x1 (ix3 0 6 n)) (fun n => x1 (ix3 0 7 n)))
          (wi x3) (wo x4) k := fun k => by
    rw [accum_apply]; congr 1; funext k; exact tokens_apply x0 x1 x2 r k
  unfold finish
  generalize accum x0 x1 x2 x3 x4 [10, 9, 8, 7, 6, 5, 4, 3, 2, 1] = acc at e ⊢
  pointwise [k0_pay1, k0_pay23, k0_pay2, k0_pay24]
  simp only [e]
  rfl

end Ideal

end Cert.Ffn

end
-- ==== Proof.Ffn.Grid.lean ====
/- The grid: every point finds a block of rows with their batch's modulations and the whole weights, so after the last point the result
   holds the half-step of every row. -/
module

public import proofs.«01_k».proof.Proof.Ffn.Body

@[expose] public section

set_option maxRecDepth 16384

noncomputable section

namespace Cert.Ffn

open Idealize.ShloMosaic Idealize.ShloMosaic.TcCoe Cert.Kernel2Ideal Cert.Kernel2Ideal.Gen

theorem idx0 : ∀ t : Fin cfg0.N, win0_0.index t = ![t.val, 0] := by decide +kernel
theorem idx1 : ∀ t : Fin cfg0.N, win0_1.index t = ![min (t.val / 16) 2, 0, 0] := by decide +kernel
theorem idx2 : ∀ t : Fin cfg0.N, win0_2.index t = ![0, 0] := by decide +kernel
theorem idx3 : ∀ t : Fin cfg0.N, win0_3.index t = ![0, 1, 0, 0] := by decide +kernel
theorem idx4 : ∀ t : Fin cfg0.N, win0_4.index t = ![0, 1, 0, 0] := by decide +kernel
theorem idx5 : ∀ t : Fin cfg0.N, win0_5.index t = ![t.val, 0] := by decide +kernel

/-- The row of modulations that a row of the hybrid trunk takes: its batch's, and the context's for the rows after the batches'. -/
def modRow (R : Fin 16896) : Fin 8 := ⟨R.val / 8192, by omega⟩

variable (m : (ℓ : Loc nD τ sig) → Buf (Elt Ideal) ℓ) (c : Dev nD)

/-- The arguments as arrays. -/
abbrev xA : (S16896x1024).Idx → EReal := m ((c : Thread nD τ).loc main_arg0)
abbrev modA : (S8x9x1024).Idx → EReal := m ((c : Thread nD τ).loc main_arg1)
abbrev normA : (S6x1024).Idx → EReal := m ((c : Thread nD τ).loc main_arg2)
abbrev winA : (S4x2x1024x5632).Idx → EReal := m ((c : Thread nD τ).loc main_arg3)
abbrev woutA : (S4x2x2816x1024).Idx → EReal := m ((c : Thread nD τ).loc main_arg4)

/-- What the half-step call leaves of the argument arrays, row by row. -/
def goal (x : (S16896x1024).Idx → EReal) (mo : (S8x9x1024).Idx → EReal) (ng : (S6x1024).Idx → EReal) (wi : (S4x2x1024x5632).Idx → EReal)
    (wo : (S4x2x2816x1024).Idx → EReal) (R : Fin 16896) (n : Fin 1024) : EReal :=
  halfStep (fun k => x (ix2 R k)) (fun k => mo (ix3 (modRow R) 6 k)) (fun k => mo (ix3 (modRow R) 7 k)) (fun k => mo (ix3 (modRow R) 8 k))
    (fun k => ng (ix2 4 k)) (fun k => ng (ix2 5 k)) (fun k J => wi (ix4 0 1 k J)) (fun J n => wo (ix4 0 1 J n)) n

theorem blk0 (t : Fin cfg0.N) (r : Fin 512) (k : Fin 1024) (R : Fin 16896) (hR : R.val = 512 * t.val + r.val) :
    (iblk m c 0 t : Vec Ideal S512x1024 .f32) (ix2 r k) = xA m c (ix2 R k) := by
  have e := idx0 t
  blk_ext [iblk, V, e]

theorem blk1 (t : Fin cfg0.N) (j : Fin 9) (k : Fin 1024) (M : Fin 8) (hM : M.val = min (t.val / 16) 2) :
    (iblk m c 1 t : Vec Ideal S1x9x1024 .f32) (ix3 0 j k) = modA m c (ix3 M j k) := by
  have e := idx1 t
  blk_ext [iblk, V, e]

theorem blk2 (t : Fin cfg0.N) (j : Fin 6) (k : Fin 1024) :
    (iblk m c 2 t : Vec Ideal S6x1024 .f32) (ix2 j k) = normA m c (ix2 j k) := by
  have e := idx2 t
  blk_ext [iblk, V, e]

theorem blk3 (t : Fin cfg0.N) (k : Fin 1024) (J : Fin 5632) :
    (iblk m c 3 t : Vec Ideal S1x1x1024x5632 .bf16) (ix4 0 0 k J) = winA m c (ix4 0 1 k J) := by
  have e := idx3 t
  blk_ext [iblk, V, e]

theorem blk4 (t : Fin cfg0.N) (J : Fin 2816) (n : Fin 1024) :
    (iblk m c 4 t : Vec Ideal S1x1x2816x1024 .bf16) (ix4 0 0 J n) = woutA m c (ix4 0 1 J n) := by
  have e := idx4 t
  blk_ext [iblk, V, e]

/-- The result holds the half-step of every row. -/
theorem result (R : Fin 16896) (n : Fin 1024) : ((dats m 0 c).arrAt 5 cfg0.N : (S16896x1024).Idx → EReal) (ix2 R n)
    = goal (xA m c) (modA m c) (normA m c) (winA m c) (woutA m c) R n := by
  have hN : cfg0.N = 33 := N_0
  have hR := R.isLt
  let t : Fin cfg0.N := ⟨R.val / 512, by omega⟩
  let r : Fin 512 := ⟨R.val % 512, by omega⟩
  have hrow : R.val = 512 * t.val + r.val := by show R.val = 512 * (R.val / 512) + R.val % 512; omega
  have hM : (modRow R).val = min (t.val / 16) 2 := by show R.val / 8192 = min (R.val / 512 / 16) 2; omega
  have hbl := congrFun (Value.blocks5 m c t (flush0_5 t)) (ix2 r n)
  rw [Value.flushed5_A] at hbl
  have he : ((cfg0.win 5).blk t).view.emb (ix2 r n) = (ix2 R n : S16896x1024.Idx) := by
    have e := idx5 t
    blk_ext [e]
  rw [View.read_apply, he] at hbl
  refine hbl.trans ?_
  refine (congrFun (out_eq ..) (ix2 r n)).trans ?_
  rw [finish_apply]
  have e3 : wi (iblk m c 3 t) = fun k J => winA m c (ix4 0 1 k J) := funext fun k => funext fun J => blk3 m c t k J
  have e4 : wo (iblk m c 4 t) = fun J n => woutA m c (ix4 0 1 J n) := funext fun J => funext fun n => blk4 m c t J n
  rw [e3, e4]
  unfold goal
  simp only [blk0 m c t r _ R hrow, blk1 m c t _ _ _ hM, blk2]

end Cert.Ffn

end
-- ==== Proof.Ffn.RefValue.lean ====
/- The reference over the extended reals: its result holds the half-step of every row. -/
module

public import proofs.«01_k».proof.Proof.Ffn.Grid
public import proofs.«01_k».proof.Proof.Gen.Reference2Ideal.Run
public import Idealize.ShloMosaic.Lib.Pointwise

@[expose] public section

set_option maxRecDepth 16384

noncomputable section

namespace Cert.Ffn.Ref

open Idealize.ShloMosaic Idealize.ShloMosaic.TcCoe Cert.Reference2Ideal Cert.Reference2Ideal.Gen Cert.Reference2Ideal.Value

variable (m : (ℓ : Loc nD τ sig) → Buf (Elt Ideal) ℓ) (c : Dev nD)

/-- The result in the reference's own order of multiplications. -/
theorem order (x shift scale gate g g' : Fin 1024 → EReal) (wi : Fin 1024 → Fin 5632 → EReal) (wo : Fin 2816 → Fin 1024 → EReal) (n : Fin 1024) :
    x n + Ideal.ofBits .f32 1056964608#32 * gate n
        * (swiglu (fun k => x k * rms x * g k * (1 + scale k) + shift k) wi wo n
            * rms (swiglu (fun k => x k * rms x * g k * (1 + scale k) + shift k) wi wo) * g' n)
      = halfStep x shift scale gate g g' wi wo n := by
  have e : (fun k => x k * rms x * g k * (1 + scale k) + shift k) = modulated x g shift scale := funext fun k => by
    rw [modulated, mul_assoc (x k * rms x)]
  rw [e, halfStep, residual, mul_left_comm]

/-- The reference's result, row by row. -/
theorem res_apply (R : Fin 16896) (n : Fin 1024) : (res_main_v76 m c : (S16896x1024).Idx → EReal) (ix2 R n)
    = goal (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) R n := by
  unfold res_main_v76 goal
  rw [← order]
  generalize m ((c.tc : Thread nD τ).loc main_arg0) = x
  generalize m ((c.tc : Thread nD τ).loc main_arg1) = mo
  generalize m ((c.tc : Thread nD τ).loc main_arg2) = ng
  generalize m ((c.tc : Thread nD τ).loc main_arg3) = wi
  generalize m ((c.tc : Thread nD τ).loc main_arg4) = wo
  by_cases h : R.val < 16384
  · pointwise
    simp only [dif_pos h]
    rfl
  · have hM : modRow R = 2 := Fin.ext (by show R.val / 8192 = 2; omega)
    rw [hM]
    pointwise
    simp only [dif_neg h]
    rfl

end Cert.Ffn.Ref

end
-- ==== Proof.Ffn.Claims.lean ====
/- The half-step's claims: both programs run and leave their arguments, and over the extended reals both leave the half-step of every row. -/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Ffn.Grid
public import proofs.«01_k».proof.Proof.Ffn.RefValue
public import Idealize.ShloMosaic.Adequacy
public import Idealize.ShloMosaic.Init

@[expose] public section

noncomputable section

namespace Cert.Ffn.Claims

open Idealize.ShloMosaic Idealize.ShloMosaic.TcCoe Idealize.SL.Sem

/-- The kernel's frame at the bit-exact instance. -/
theorem frame_kernel : Cert.quiescent_Kernel2 := fun m ρ _ => Cert.Kernel2.Gen.frame m ρ

/-- The kernel's frame over the extended reals. -/
theorem frame_ideal : Cert.quiescent_Kernel2Ideal := fun m ρ _ => Cert.Kernel2Ideal.Gen.frame m ρ

/-- The reference's frame. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

/-- THE VALUES: kernel and reference leave the same array. -/
theorem value : Cert.algebraic_Kernel2Ideal_Reference2Ideal := by
  intro m ρ m' ρ' _ hargs
  refine ⟨fun c => (Cert.Kernel2Ideal.Gen.dats m 0 c).arrAt 5 Cert.Kernel2Ideal.cfg0.N, Cert.Kernel2Ideal.Value.run_blocks m ρ, ?_⟩
  refine (θ_run Cert.Reference2Ideal.defs _ _).mono (fun r h c => ?_) (Cert.Reference2Ideal.Value.run m' ρ')
  obtain ⟨h0, hk⟩ := h c
  obtain ⟨e0, e1, e2, e3, e4⟩ := hargs c
  refine ⟨h0.trans (funext fun i => ?_), hk⟩
  obtain ⟨R, n, rfl⟩ : ∃ (R : Fin 16896) (n : Fin 1024), i = ix2 R n := ⟨i 0, i 1, by funext a; fin_cases a <;> rfl⟩
  refine (Ref.res_apply m' c R n).trans ((result m c R n).trans ?_).symm
  rw [e0, e1, e2, e3, e4]

end Cert.Ffn.Claims

end
-- ==== Proof.InProj.Grid.lean ====
/- The input projection of the mixer: every point projects the normalized and modulated rows of its block and stores the two parts, each
   as two halves of the columns, so after the last point the two results hold the two parts of every row. -/
module

public import proofs.«01_k».proof.Proof.Ffn.HalfStep
public import proofs.«01_k».proof.Proof.Gen.Kernel3Ideal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.InProj

open Idealize.ShloMosaic Idealize.ShloMosaic.TcCoe Cert.Kernel3Ideal Cert.Kernel3Ideal.Gen
open Cert.Ffn (modulated)

/-- A modulated row against one column of the weight. -/
def project (x g shift scale : Fin 1024 → EReal) (w : Fin 1024 → EReal) : EReal :=
  ∑ k, modulated x g shift scale k * w k

/-- The weight's column of one of the mixer's inputs. -/
def colX (n : Fin 2048) : Fin 4096 := ⟨n.val, by omega⟩
/-- The weight's column of one of the mixer's gates. -/
def colZ (n : Fin 2048) : Fin 4096 := ⟨2048 + n.val, by omega⟩

/-- The two stores leave the two halves of the columns. -/
theorem halves (p q : FVec Ideal S512x1024 .bf16) (r : Fin 512) (n : Fin 2048) :
    View.canon (Val := Elt Ideal) (e := .bf16) [⟨r0_8, p⟩, ⟨r0_5, q⟩] (ix2 r n)
      = if h : n.val < 1024 then q (ix2 r ⟨n.val, h⟩) else p (ix2 r ⟨n.val - 1024, by omega⟩) := by
  by_cases h : n.val < 1024
  · rw [dif_pos h, View.canon_cons_of_not_mem]
    · have e : (ix2 r n : S512x2048.Idx) = r0_5.emb (ix2 r ⟨n.val, h⟩) := by
        show _ = r0_5.idx _
        funext a; fin_cases a <;> (apply Fin.ext; simp [r0_5, Rect.unit, ix2])
      rw [e, View.canon_cons_emb]
    · intro hm
      have h1 := (Rect.mem_set_unit (inb := inb_S512x2048_S512x1024_0_1024)).mp hm 1
      simp [ix2] at h1
      omega
  · rw [dif_neg h]
    have e : (ix2 r n : S512x2048.Idx) = r0_8.emb (ix2 r ⟨n.val - 1024, by omega⟩) := by
      show _ = r0_8.idx _
      funext a; fin_cases a
      · apply Fin.ext; simp [r0_8, Rect.unit, ix2]
      · apply Fin.ext; simp [r0_8, Rect.unit, ix2]; omega
    rw [e, View.canon_cons_emb]

section Body

variable (x0 : Vec Ideal S512x1024 .f32) (x1 : Vec Ideal S1x9x1024 .f32) (x2 : Vec Ideal S6x1024 .f32) (x3 : Vec Ideal S1x1024x4096 .bf16)
  (r : Fin 512)

/-- The projection of a block's row. -/
abbrev rowOf (w : Fin 1024 → EReal) : EReal :=
  project (fun k => x0 (ix2 r k)) (fun k => x2 (ix2 2 k)) (fun k => x1 (ix3 0 3 k)) (fun k => x1 (ix3 0 4 k)) w

theorem outX_apply (n : Fin 2048) : out0_4 x0 x1 x2 x3 (ix2 r n) = rowOf x0 x1 x2 r fun k => x3 (ix3 0 k (colX n)) := by
  unfold out0_4
  refine (halves _ _ r n).trans ?_
  by_cases h : n.val < 1024
  · rw [dif_pos h]
    have e : colX n = ⟨0 + n.val, by omega⟩ := Fin.ext (by show n.val = 0 + n.val; omega)
    rw [e]
    pointwise [k0_pay4, k0_pay3]
    rfl
  · rw [dif_neg h]
    have e : colX n = ⟨1024 + (n.val - 1024), by omega⟩ := Fin.ext (by show n.val = 1024 + (n.val - 1024); omega)
    rw [e]
    pointwise [k0_pay1, k0_pay6, k0_pay3]
    rfl

theorem outZ_apply (n : Fin 2048) : out0_5 x0 x1 x2 x3 (ix2 r n) = rowOf x0 x1 x2 r fun k => x3 (ix3 0 k (colZ n)) := by
  unfold out0_5
  refine (halves _ _ r n).trans ?_
  by_cases h : n.val < 1024
  · rw [dif_pos h]
    pointwise [k0_pay5, k0_pay3]
    rfl
  · rw [dif_neg h]
    have e : colZ n = ⟨3072 + (n.val - 1024), by omega⟩ := Fin.ext (by show 2048 + n.val = 3072 + (n.val - 1024); omega)
    rw [e]
    pointwise [k0_pay2, k0_pay6, k0_pay3]
    rfl

end Body

theorem idx0 : ∀ t : Fin cfg0.N, win0_0.index t = ![t.val, 0] := by decide +kernel
theorem idx1 : ∀ t : Fin cfg0.N, win0_1.index t = ![min (t.val / 16) 2, 0, 0] := by decide +kernel
theorem idx2 : ∀ t : Fin cfg0.N, win0_2.index t = ![0, 0] := by decide +kernel
theorem idx3 : ∀ t : Fin cfg0.N, win0_3.index t = ![0, 0, 0] := by decide +kernel
theorem idx4 : ∀ t : Fin cfg0.N, win0_4.index t = ![t.val, 0] := by decide +kernel
theorem idx5 : ∀ t : Fin cfg0.N, win0_5.index t = ![t.val, 0] := by decide +kernel

/-- The row of modulations that a row of the hybrid trunk takes: its batch's, and the context's for the rows after the batches'. -/
def modRow (R : Fin 16896) : Fin 8 := ⟨R.val / 8192, by omega⟩

variable (m : (ℓ : Loc nD τ sig) → Buf (Elt Ideal) ℓ) (c : Dev nD)

/-- The arguments as arrays. -/
abbrev xA : (S16896x1024).Idx → EReal := m ((c : Thread nD τ).loc main_arg0)
abbrev modA : (S8x9x1024).Idx → EReal := m ((c : Thread nD τ).loc main_arg1)
abbrev normA : (S6x1024).Idx → EReal := m ((c : Thread nD τ).loc main_arg2)
abbrev winA : (S2x1024x4096).Idx → EReal := m ((c : Thread nD τ).loc main_arg3)

/-- One column of the projection, row by row. -/
def goal (x : (S16896x1024).Idx → EReal) (mo : (S8x9x1024).Idx → EReal) (ng : (S6x1024).Idx → EReal) (w : (S2x1024x4096).Idx → EReal)
    (R : Fin 16896) (n : Fin 4096) : EReal :=
  project (fun k => x (ix2 R k)) (fun k => ng (ix2 2 k)) (fun k => mo (ix3 (modRow R) 3 k)) (fun k => mo (ix3 (modRow R) 4 k))
    fun k => w (ix3 0 k n)

theorem blk0 (t : Fin cfg0.N) (r : Fin 512) (k : Fin 1024) (R : Fin 16896) (hR : R.val = 512 * t.val + r.val) :
    (iblk m c 0 t : Vec Ideal S512x1024 .f32) (ix2 r k) = xA m c (ix2 R k) := by
  have e := idx0 t
  blk_ext [iblk, V, e]

theorem blk1 (t : Fin cfg0.N) (j : Fin 9) (k : Fin 1024) (M : Fin 8) (hM : M.val = min (t.val / 16) 2) :
    (iblk m c 1 t : Vec Ideal S1x9x1024 .f32) (ix3 0 j k) = modA m c (ix3 M j k) := by
  have e := idx1 t
  blk_ext [iblk, V, e]

theorem blk2 (t : Fin cfg0.N) (j : Fin 6) (k : Fin 1024) :
    (iblk m c 2 t : Vec Ideal S6x1024 .f32) (ix2 j k) = normA m c (ix2 j k) := by
  have e := idx2 t
  blk_ext [iblk, V, e]

theorem blk3 (t : Fin cfg0.N) (k : Fin 1024) (J : Fin 4096) :
    (iblk m c 3 t : Vec Ideal S1x1024x4096 .bf16) (ix3 0 k J) = winA m c (ix3 0 k J) := by
  have e := idx3 t
  blk_ext [iblk, V, e]

/-- The first result holds the mixer's inputs. -/
theorem resultX (R : Fin 16896) (n : Fin 2048) : ((dats m 0 c).arrAt 4 cfg0.N : (S16896x2048).Idx → EReal) (ix2 R n)
    = goal (xA m c) (modA m c) (normA m c) (winA m c) R (colX n) := by
  have hN : cfg0.N = 33 := N_0
  have hR := R.isLt
  let t : Fin cfg0.N := ⟨R.val / 512, by omega⟩
  let r : Fin 512 := ⟨R.val % 512, by omega⟩
  have hrow : R.val = 512 * t.val + r.val := by show R.val = 512 * (R.val / 512) + R.val % 512; omega
  have hM : (modRow R).val = min (t.val / 16) 2 := by show R.val / 8192 = min (R.val / 512 / 16) 2; omega
  have hbl := congrFun (Value.blocks4 m c t (flush0_4 t)) (ix2 r n)
  rw [Value.flushed4] at hbl
  have he : ((cfg0.win 4).blk t).view.emb (ix2 r n) = (ix2 R n : S16896x2048.Idx) := by
    have e := idx4 t
    blk_ext [e]
  rw [View.read_apply, he] at hbl
  refine hbl.trans ?_
  refine (outX_apply ..).trans ?_
  unfold goal
  simp only [rowOf, blk0 m c t r _ R hrow, blk1 m c t _ _ _ hM, blk2, blk3]

/-- The second result holds the mixer's gates. -/
theorem resultZ (R : Fin 16896) (n : Fin 2048) : ((dats m 0 c).arrAt 5 cfg0.N : (S16896x2048).Idx → EReal) (ix2 R n)
    = goal (xA m c) (modA m c) (normA m c) (winA m c) R (colZ n) := by
  have hN : cfg0.N = 33 := N_0
  have hR := R.isLt
  let t : Fin cfg0.N := ⟨R.val / 512, by omega⟩
  let r : Fin 512 := ⟨R.val % 512, by omega⟩
  have hrow : R.val = 512 * t.val + r.val := by show R.val = 512 * (R.val / 512) + R.val % 512; omega
  have hM : (modRow R).val = min (t.val / 16) 2 := by show R.val / 8192 = min (R.val / 512 / 16) 2; omega
  have hbl := congrFun (Value.blocks5 m c t (flush0_5 t)) (ix2 r n)
  rw [Value.flushed5] at hbl
  have he : ((cfg0.win 5).blk t).view.emb (ix2 r n) = (ix2 R n : S16896x2048.Idx) := by
    have e := idx5 t
    blk_ext [e]
  rw [View.read_apply, he] at hbl
  refine hbl.trans ?_
  refine (outZ_apply ..).trans ?_
  unfold goal
  simp only [rowOf, blk0 m c t r _ R hrow, blk1 m c t _ _ _ hM, blk2, blk3]

end Cert.InProj

end
-- ==== Proof.InProj.Claims.lean ====
/- The input projection's claims: both programs run and leave their arguments, and over the extended reals both leave the two parts of the
   projection of every row. -/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.InProj.Grid
public import Idealize.ShloMosaic.Lib.Pointwise
public import Idealize.ShloMosaic.Adequacy
public import Idealize.ShloMosaic.Init

@[expose] public section

set_option maxRecDepth 16384

noncomputable section

namespace Cert.InProj.Claims

open Idealize.ShloMosaic Idealize.ShloMosaic.TcCoe Idealize.SL.Sem

/-- The kernel's frame at the bit-exact instance. -/
theorem frame_kernel : Cert.quiescent_Kernel3 := fun m ρ _ => Cert.Kernel3.Gen.frame m ρ

/-- The kernel's frame over the extended reals. -/
theorem frame_ideal : Cert.quiescent_Kernel3Ideal := fun m ρ _ => Cert.Kernel3Ideal.Gen.frame m ρ

/-- The reference's frame. -/
theorem frame_reference : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run m ρ)

/-- A projected column in the reference's own order of multiplications. -/
theorem order (x g shift scale w : Fin 1024 → EReal) :
    ∑ k, (x k * Cert.Ffn.rms x * g k * (1 + scale k) + shift k) * w k = project x g shift scale w := by
  unfold project Cert.Ffn.modulated
  simp only [mul_assoc (x _ * Cert.Ffn.rms x)]

/-- THE VALUES: kernel and reference leave the same two arrays. -/
theorem value : Cert.algebraic_Kernel3Ideal_Reference3Ideal := by
  intro m ρ m' ρ' _ hargs
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks m ρ, ?_⟩
  refine (θ_run Cert.Reference3Ideal.defs _ _).mono (fun r h c => ?_) (Cert.Reference3Ideal.Value.run m' ρ')
  obtain ⟨h0, h1, hk⟩ := h c
  obtain ⟨e0, e1, e2, e3⟩ := hargs c
  refine ⟨h0.trans (funext fun i => ?_), h1.trans (funext fun i => ?_), hk⟩
  · obtain ⟨R, n, rfl⟩ : ∃ (R : Fin 16896) (n : Fin 2048), i = ix2 R n := ⟨i 0, i 1, by funext a; fin_cases a <;> rfl⟩
    refine Eq.trans ?_ (resultX m c R n).symm
    unfold goal
    rw [← order, xA, modA, normA, winA, ← e0, ← e1, ← e2, ← e3]
    generalize m' ((c.tc : Thread Cert.Reference3Ideal.nD Cert.Reference3Ideal.τ).loc Cert.Reference3Ideal.main_arg0) = x
    generalize m' ((c.tc : Thread Cert.Reference3Ideal.nD Cert.Reference3Ideal.τ).loc Cert.Reference3Ideal.main_arg1) = mo
    generalize m' ((c.tc : Thread Cert.Reference3Ideal.nD Cert.Reference3Ideal.τ).loc Cert.Reference3Ideal.main_arg2) = ng
    generalize m' ((c.tc : Thread Cert.Reference3Ideal.nD Cert.Reference3Ideal.τ).loc Cert.Reference3Ideal.main_arg3) = w
    have en : colX n = ⟨0 + n.val, by omega⟩ := Fin.ext (by show n.val = 0 + n.val; omega)
    rw [en]
    by_cases h : R.val < 16384
    · pointwise
      simp only [dif_pos h]
      rfl
    · have hM : modRow R = 2 := Fin.ext (by show R.val / 8192 = 2; omega)
      rw [hM]
      pointwise
      simp only [dif_neg h]
      rfl
  · obtain ⟨R, n, rfl⟩ : ∃ (R : Fin 16896) (n : Fin 2048), i = ix2 R n := ⟨i 0, i 1, by funext a; fin_cases a <;> rfl⟩
    refine Eq.trans ?_ (resultZ m c R n).symm
    unfold goal
    rw [← order, xA, modA, normA, winA, ← e0, ← e1, ← e2, ← e3]
    generalize m' ((c.tc : Thread Cert.Reference3Ideal.nD Cert.Reference3Ideal.τ).loc Cert.Reference3Ideal.main_arg0) = x
    generalize m' ((c.tc : Thread Cert.Reference3Ideal.nD Cert.Reference3Ideal.τ).loc Cert.Reference3Ideal.main_arg1) = mo
    generalize m' ((c.tc : Thread Cert.Reference3Ideal.nD Cert.Reference3Ideal.τ).loc Cert.Reference3Ideal.main_arg2) = ng
    generalize m' ((c.tc : Thread Cert.Reference3Ideal.nD Cert.Reference3Ideal.τ).loc Cert.Reference3Ideal.main_arg3) = w
    by_cases h : R.val < 16384
    · pointwise
      simp only [dif_pos h]
      rfl
    · have hM : modRow R = 2 := Fin.ext (by show R.val / 8192 = 2; omega)
      rw [hM]
      pointwise
      simp only [dif_neg h]
      rfl

end Cert.InProj.Claims

end
-- ==== Proof.OutProj.Row.lean ====
/- The output projection of one row over the extended reals. -/
module

public import proofs.«01_k».proof.Proof.Ffn.HalfStep

@[expose] public section

noncomputable section

namespace Cert.OutProj

open Idealize.ShloMosaic
open Cert.Ffn (rms)

/-- Channel `j` of head `h`. -/
def chan (h : Fin 4) (j : Fin 512) : Fin 2048 := ⟨512 * h.val + j.val, by omega⟩
/-- The head of a channel. -/
def headOf (J : Fin 2048) : Fin 4 := ⟨J.val / 512, by omega⟩
/-- A channel's place in its head. -/
def placeOf (J : Fin 2048) : Fin 512 := ⟨J.val % 512, by omega⟩

theorem headOf_chan (h : Fin 4) (j : Fin 512) : headOf (chan h j) = h := Fin.ext (by show (512 * h.val + j.val) / 512 = h.val; omega)
theorem placeOf_chan (h : Fin 4) (j : Fin 512) : placeOf (chan h j) = j := Fin.ext (by show (512 * h.val + j.val) % 512 = j.val; omega)
theorem chan_of (J : Fin 2048) : chan (headOf J) (placeOf J) = J :=
  Fin.ext (by show 512 * (J.val / 512) + J.val % 512 = J.val; omega)

/-- The mean of a head's channels. -/
def mean (s : Fin 512 → EReal) : EReal := Ideal.div (∑ j, s j) (Ideal.ofBits .f32 1140850688#32)

/-- The reciprocal root of the variance of a head's channels, with the small constant under the root. -/
def spread (s : Fin 512 → EReal) : EReal :=
  Ideal.rsqrt (Ideal.div (∑ j, (s j - mean s) * (s j - mean s)) (Ideal.ofBits .f32 1140850688#32) + Ideal.ofBits .f32 897988541#32)

/-- A channel of the mixer's output: the hidden state of both directions normalized over its head, the skipped input added, gated. -/
def channel (hf hb xc z g sk : Fin 2048 → EReal) (h : Fin 4) (j : Fin 512) : EReal :=
  ((hf (chan h j) + hb (chan h j) - mean fun i => hf (chan h i) + hb (chan h i)) * spread (fun i => hf (chan h i) + hb (chan h i))
        * g (chan h j) + sk (chan h j) * xc (chan h j))
    * (z (chan h j) * Ideal.logistic (z (chan h j)))

/-- A head's share of the projection. -/
def part (f : Fin 4 → Fin 512 → EReal) (w : Fin 2048 → Fin 1024 → EReal) (h : Fin 4) (n : Fin 1024) : EReal :=
  ∑ j, f h j * w (chan h j) n

/-- The projection of a row's channels. -/
def project (f : Fin 4 → Fin 512 → EReal) (w : Fin 2048 → Fin 1024 → EReal) (n : Fin 1024) : EReal :=
  ∑ J, f (headOf J) (placeOf J) * w J n

/-- A row with its gated and normalized projection added. -/
def residual (x y gate g : Fin 1024 → EReal) (n : Fin 1024) : EReal :=
  x n + y n * rms y * (gate n * g n)

/-- The output projection of a row. -/
def step (hf hb xc z : Fin 2048 → EReal) (x gate g : Fin 1024 → EReal) (ng sk : Fin 2048 → EReal) (w : Fin 2048 → Fin 1024 → EReal) :
    Fin 1024 → EReal :=
  residual x (project (channel hf hb xc z ng sk) w) gate g

/-- The projection, head by head. -/
theorem project_heads (f : Fin 4 → Fin 512 → EReal) (w : Fin 2048 → Fin 1024 → EReal) (n : Fin 1024) :
    project f w n = part f w 0 n + part f w 1 n + part f w 2 n + part f w 3 n := by
  rw [← Fin.sum_univ_four fun h => part f w h n]
  unfold project part
  rw [← Fintype.sum_prod_type' fun (h : Fin 4) (j : Fin 512) => f h j * w (chan h j) n]
  refine (Fintype.sum_equiv (finProdFinEquiv (m := 4) (n := 512)) _ _ fun p => ?_).symm
  have e : finProdFinEquiv p = chan p.1 p.2 := by
    apply Fin.ext
    simp [finProdFinEquiv, chan]
    omega
  rw [e, headOf_chan, placeOf_chan]

end Cert.OutProj

end
-- ==== Proof.OutProj.Body.lean ====
/- What a grid point of the output projection writes: the block of rows with the projection of its four heads' channels, which the scratch
   buffer sums head by head, normalized, gated and added. -/
module

public import proofs.«01_k».proof.Proof.OutProj.Row
public import proofs.«01_k».proof.Proof.Gen.Kernel4Ideal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.OutProj

open Idealize.ShloMosaic Idealize.ShloMosaic.TcCoe Cert.Kernel4Ideal Cert.Kernel4Ideal.Gen

section General

variable {F : FTy → Type} [FloatOps F]
  (x0 : Vec F S512x2048 .bf16) (x1 : Vec F S512x2048 .bf16) (x2 : Vec F S512x2048 .bf16) (x3 : Vec F S512x2048 .bf16)
  (x4 : Vec F S512x1024 .f32) (x5 : Vec F S1x9x1024 .f32) (x6 : Vec F S6x1024 .f32) (x7 : Vec F S1x2048 .f32) (x8 : Vec F S1x2048 .f32)
  (x9 : Vec F S1x2048x1024 .bf16)

/-- The accumulator after the first head. -/
def acc0 : Vec F S512x1024 .f32 :=
  k0_pay3
    (k0_pay2
      (View.ld x0 (Rect.unit ![0, 0] ![512, 512] inb_S512x2048_S512x512_0_0))
      (View.ld x1 (Rect.unit ![0, 0] ![512, 512] inb_S512x2048_S512x512_0_0))
      (View.ld x7 (Rect.unit ![0, 0] ![1, 512] inb_S1x2048_S1x512_0_0))
      (View.ld x8 (Rect.unit ![0, 0] ![1, 512] inb_S1x2048_S1x512_0_0))
      (View.ld x2 (Rect.unit ![0, 0] ![512, 512] inb_S512x2048_S512x512_0_0))
      (View.ld x3 (Rect.unit ![0, 0] ![512, 512] inb_S512x2048_S512x512_0_0)))
    (View.ld x9 (Rect.unit ![0, 0, 0] ![1, 512, 1024] inb_S1x2048x1024_S1x512x1024_0_0_0))

/-- One more head: the second. -/
def acc1 (acc : Vec F S512x1024 .f32) : Vec F S512x1024 .f32 :=
  k0_pay6
    (k0_pay4
      (View.ld x0 (Rect.unit ![0, 512] ![512, 512] inb_S512x2048_S512x512_0_512))
      (View.ld x1 (Rect.unit ![0, 512] ![512, 512] inb_S512x2048_S512x512_0_512))
      (View.ld x7 (Rect.unit ![0, 512] ![1, 512] inb_S1x2048_S1x512_0_512))
      (View.ld x8 (Rect.unit ![0, 512] ![1, 512] inb_S1x2048_S1x512_0_512))
      (View.ld x2 (Rect.unit ![0, 512] ![512, 512] inb_S512x2048_S512x512_0_512)))
    (k0_pay5 (View.ld x3 (Rect.unit ![0, 512] ![512, 512] inb_S512x2048_S512x512_0_512)))
    (View.ld x9 (Rect.unit ![0, 512, 0] ![1, 512, 1024] inb_S1x2048x1024_S1x512x1024_0_512_0))
    acc

/-- One more head: the third. -/
def acc2 (acc : Vec F S512x1024 .f32) : Vec F S512x1024 .f32 :=
  k0_pay8
    (k0_pay7
      (View.ld x0 (Rect.unit ![0, 1024] ![512, 512] inb_S512x2048_S512x512_0_1024))
      (View.ld x1 (Rect.unit ![0, 1024] ![512, 512] inb_S512x2048_S512x512_0_1024))
      (View.ld x7 (Rect.unit ![0, 1024] ![1, 512] inb_S1x2048_S1x512_0_1024)))
    (View.ld x8 (Rect.unit ![0, 1024] ![1, 512] inb_S1x2048_S1x512_0_1024))
    (View.ld x2 (Rect.unit ![0, 1024] ![512, 512] inb_S512x2048_S512x512_0_1024))
    (View.ld x3 (Rect.unit ![0, 1024] ![512, 512] inb_S512x2048_S512x512_0_1024))
    (View.ld x9 (Rect.unit ![0, 1024, 0] ![1, 512, 1024] inb_S1x2048x1024_S1x512x1024_0_1024_0))
    acc

/-- One more head: the fourth. -/
def acc3 (acc : Vec F S512x1024 .f32) : Vec F S512x1024 .f32 :=
  k0_pay11
    (k0_pay9
      (View.ld x0 (Rect.unit ![0, 1536] ![512, 512] inb_S512x2048_S512x512_0_1536))
      (View.ld x1 (Rect.unit ![0, 1536] ![512, 512] inb_S512x2048_S512x512_0_1536)))
    (k0_pay10
      (View.ld x0 (Rect.unit ![0, 1536] ![512, 512] inb_S512x2048_S512x512_0_1536))
      (View.ld x1 (Rect.unit ![0, 1536] ![512, 512] inb_S512x2048_S512x512_0_1536)))
    (View.ld x7 (Rect.unit ![0, 1536] ![1, 512] inb_S1x2048_S1x512_0_1536))
    (View.ld x8 (Rect.unit ![0, 1536] ![1, 512] inb_S1x2048_S1x512_0_1536))
    (View.ld x2 (Rect.unit ![0, 1536] ![512, 512] inb_S512x2048_S512x512_0_1536))
    (View.ld x3 (Rect.unit ![0, 1536] ![512, 512] inb_S512x2048_S512x512_0_1536))
    (View.ld x9 (Rect.unit ![0, 1536, 0] ![1, 512, 1024] inb_S1x2048x1024_S1x512x1024_0_1536_0))
    acc

/-- The accumulator after the four heads. -/
def accum : Vec F S512x1024 .f32 :=
  acc3 x0 x1 x2 x3 x7 x8 x9 (acc2 x0 x1 x2 x3 x7 x8 x9 (acc1 x0 x1 x2 x3 x7 x8 x9 (acc0 x0 x1 x2 x3 x7 x8 x9)))

/-- What a point writes, over the accumulator that it ends with. -/
def finish (acc : Vec F S512x1024 .f32) : Vec F S512x1024 .f32 :=
  k0_pay1 x4 acc (k0_pay12 (View.ld x5 (Rect.unit ![0, 5, 0] ![1, 1, 1024] inb_S1x9x1024_S1x1x1024_0_5_0))
    (View.ld x6 (Rect.unit ![3, 0] ![1, 1024] inb_S6x1024_S1x1024_3_0)))

/-- A point writes the block with the normalized sum of the four heads. -/
theorem out_eq
    (c : Dev nD) (i : grid0.Coords) (arg1 : Memref sig .tc .vmem S512x2048 .bf16) (harg1 : arg1.IsWhole)
    (arg2 : Memref sig .tc .vmem S512x2048 .bf16) (harg2 : arg2.IsWhole) (arg3 : Memref sig .tc .vmem S512x2048 .bf16)
    (harg3 : arg3.IsWhole) (arg4 : Memref sig .tc .vmem S512x2048 .bf16) (harg4 : arg4.IsWhole)
    (arg5 : Memref sig .tc .vmem S512x1024 .f32) (harg5 : arg5.IsWhole) (arg6 : Memref sig .tc .vmem S1x9x1024 .f32) (harg6 : arg6.IsWhole)
    (arg7 : Memref sig .tc .vmem S6x1024 .f32) (harg7 : arg7.IsWhole) (arg8 : Memref sig .tc .vmem S1x2048 .f32) (harg8 : arg8.IsWhole)
    (arg9 : Memref sig .tc .vmem S1x2048 .f32) (harg9 : arg9.IsWhole) (arg10 : Memref sig .tc .vmem S1x2048x1024 .bf16)
    (harg10 : arg10.IsWhole) (arg11 : Memref sig .tc .vmem S512x1024 .f32) (harg11 : arg11.IsWhole)
    (arg12 : Memref sig .tc .vmem S512x1024 .f32) (harg12 : arg12.IsWhole) :
    out0_A_10 c i arg1 harg1 arg2 harg2 arg3 harg3 arg4 harg4 arg5 harg5 arg6 harg6 arg7 harg7 arg8 harg8 arg9 harg9 arg10 harg10 arg11
    harg11 arg12 harg12 x0 x1 x2 x3 x4 x5 x6 x7 x8 x9
      = finish x4 x5 x6 (accum x0 x1 x2 x3 x7 x8 x9) := by
  frame_open
  simp (disch := decide) only [↓ View.readCov_skip, ↓ View.readCov_cons_toLoadRect, ↓ View.readCov_fill]
  frame_out
  rfl

end General

section Ideal

variable (x0 : Vec Ideal S512x2048 .bf16) (x1 : Vec Ideal S512x2048 .bf16) (x2 : Vec Ideal S512x2048 .bf16)
  (x3 : Vec Ideal S512x2048 .bf16) (x4 : Vec Ideal S512x1024 .f32) (x5 : Vec Ideal S1x9x1024 .f32) (x6 : Vec Ideal S6x1024 .f32)
  (x7 : Vec Ideal S1x2048 .f32) (x8 : Vec Ideal S1x2048 .f32) (x9 : Vec Ideal S1x2048x1024 .bf16) (r : Fin 512)

/-- The channels of a block's row. -/
def chans : Fin 4 → Fin 512 → EReal :=
  channel (fun J => x0 (ix2 r J)) (fun J => x1 (ix2 r J)) (fun J => x2 (ix2 r J)) (fun J => x3 (ix2 r J)) (fun J => x7 (ix2 0 J))
    (fun J => x8 (ix2 0 J))

/-- The weight as a function of its row and column. -/
def wo (J : Fin 2048) (n : Fin 1024) : EReal := x9 (ix3 0 J n)

theorem acc0_apply (n : Fin 1024) : acc0 x0 x1 x2 x3 x7 x8 x9 (ix2 r n) = part (chans x0 x1 x2 x3 x7 x8 r) (wo x9) 0 n := by
  unfold acc0
  have e : ∀ (j : Fin 512) (h : j.val < 2048), (⟨j.val, h⟩ : Fin 2048) = chan 0 j := fun j _ => Fin.ext (Nat.zero_add _).symm
  pointwise [k0_pay3, k0_pay2]
  simp only [e]
  rfl

theorem acc1_apply (acc : Vec Ideal S512x1024 .f32) (n : Fin 1024) : acc1 x0 x1 x2 x3 x7 x8 x9 acc (ix2 r n)
    = acc (ix2 r n) + part (chans x0 x1 x2 x3 x7 x8 r) (wo x9) 1 n := by
  unfold acc1
  pointwise [k0_pay6, k0_pay4, k0_pay5]
  rfl

theorem acc2_apply (acc : Vec Ideal S512x1024 .f32) (n : Fin 1024) : acc2 x0 x1 x2 x3 x7 x8 x9 acc (ix2 r n)
    = acc (ix2 r n) + part (chans x0 x1 x2 x3 x7 x8 r) (wo x9) 2 n := by
  unfold acc2
  pointwise [k0_pay8, k0_pay7]
  rfl

theorem acc3_apply (acc : Vec Ideal S512x1024 .f32) (n : Fin 1024) : acc3 x0 x1 x2 x3 x7 x8 x9 acc (ix2 r n)
    = acc (ix2 r n) + part (chans x0 x1 x2 x3 x7 x8 r) (wo x9) 3 n := by
  unfold acc3
  pointwise [k0_pay11, k0_pay9, k0_pay10]
  rfl

/-- The accumulator ends with the projection of every row. -/
theorem accum_apply (n : Fin 1024) :
    accum x0 x1 x2 x3 x7 x8 x9 (ix2 r n) = project (chans x0 x1 x2 x3 x7 x8 r) (wo x9) n := by
  rw [project_heads]
  unfold accum
  rw [acc3_apply, acc2_apply, acc1_apply, acc0_apply]

/-- What a point writes is the output projection of its block's rows. -/
theorem finish_apply (n : Fin 1024) : finish x4 x5 x6 (accum x0 x1 x2 x3 x7 x8 x9) (ix2 r n)
    = residual (fun k => x4 (ix2 r k)) (project (chans x0 x1 x2 x3 x7 x8 r) (wo x9)) (fun k => x5 (ix3 0 5 k)) (fun k => x6 (ix2 3 k)) n := by
  have e : ∀ k, accum x0 x1 x2 x3 x7 x8 x9 (ix2 r k) = project (chans x0 x1 x2 x3 x7 x8 r) (wo x9) k := fun k =>
    accum_apply x0 x1 x2 x3 x7 x8 x9 r k
  unfold finish
  generalize accum x0 x1 x2 x3 x7 x8 x9 = acc at e ⊢
  pointwise [k0_pay1, k0_pay12]
  simp only [e]
  rfl

end Ideal

end Cert.OutProj

end
-- ==== Proof.OutProj.Grid.lean ====
/- The grid of the output projection: every point finds a block of rows with their batch's modulations, the two per-channel weights, which
   the host lays out as rows, and the whole projection weight, so after the last point the result holds the output projection of every row. -/
module

public import proofs.«01_k».proof.Proof.OutProj.Body
public import Idealize.ShloMosaic.Lib.Pipeline.ValueKit
public import Idealize.ShloMosaic.Lib.WordCmp
public import Idealize.ShloMosaic.Lib.StableHlo.RunRead
public import Idealize.ShloMosaic.Lib.Claim

@[expose] public section

set_option maxRecDepth 16384

noncomputable section

namespace Cert.OutProj

open Idealize.ShloMosaic Idealize.ShloMosaic.TcCoe Cert.Kernel4Ideal Cert.Kernel4Ideal.Gen

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![min (t.val / 16) 2, 0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0, 0] := by decide +kernel
theorem idx10 : ∀ t : Fin cfg0.N, win0_10.index t = ![t.val, 0] := by decide +kernel

/-- The row of modulations that a row of the hybrid trunk takes: its batch's, and the context's for the rows after the batches'. -/
def modRow (R : Fin 16896) : Fin 8 := ⟨R.val / 8192, by omega⟩

variable (m : (ℓ : Loc nD τ sig) → Buf (Elt Ideal) ℓ) (c : Dev nD)

/-- The arguments as arrays. -/
abbrev hfA : (S16896x2048).Idx → EReal := m ((c : Thread nD τ).loc main_arg0)
abbrev hbA : (S16896x2048).Idx → EReal := m ((c : Thread nD τ).loc main_arg1)
abbrev xcA : (S16896x2048).Idx → EReal := m ((c : Thread nD τ).loc main_arg2)
abbrev zA : (S16896x2048).Idx → EReal := m ((c : Thread nD τ).loc main_arg3)
abbrev xA : (S16896x1024).Idx → EReal := m ((c : Thread nD τ).loc main_arg4)
abbrev modA : (S8x9x1024).Idx → EReal := m ((c : Thread nD τ).loc main_arg5)
abbrev normA : (S6x1024).Idx → EReal := m ((c : Thread nD τ).loc main_arg6)
abbrev headA : (S2048).Idx → EReal := m ((c : Thread nD τ).loc main_arg7)
abbrev skipA : (S2048).Idx → EReal := m ((c : Thread nD τ).loc main_arg8)
abbrev woutA : (S2x2048x1024).Idx → EReal := m ((c : Thread nD τ).loc main_arg9)

/-- What the call leaves of the argument arrays, row by row. -/
def goal (hf hb xc z : (S16896x2048).Idx → EReal) (x : (S16896x1024).Idx → EReal) (mo : (S8x9x1024).Idx → EReal)
    (ng : (S6x1024).Idx → EReal) (g sk : (S2048).Idx → EReal) (w : (S2x2048x1024).Idx → EReal) (R : Fin 16896) (n : Fin 1024) : EReal :=
  step (fun J => hf (ix2 R J)) (fun J => hb (ix2 R J)) (fun J => xc (ix2 R J)) (fun J => z (ix2 R J)) (fun k => x (ix2 R k))
    (fun k => mo (ix3 (modRow R) 5 k)) (fun k => ng (ix2 3 k)) (fun J => g (ix1 J)) (fun J => sk (ix1 J)) (fun J n => w (ix3 0 J n)) n

/-- The host lays the per-channel weight of the normalization out as a row. -/
theorem entry_v0 (J : Fin 2048) : V m c main_v0 (ix2 0 J) = m ((c : Thread nD τ).loc main_arg7) (ix1 J) := by
  simp only [V, List.flatten_cons, List.flatten_nil, List.append_nil, List.cons_append, List.nil_append]
  after_reads_simp
  pointwise

/-- The host lays the per-channel weight of the skipped input out as a row. -/
theorem entry_v1 (J : Fin 2048) : V m c main_v1 (ix2 0 J) = m ((c : Thread nD τ).loc main_arg8) (ix1 J) := by
  simp only [V, List.flatten_cons, List.flatten_nil, List.append_nil, List.cons_append, List.nil_append]
  after_reads_simp
  pointwise

theorem blk0 (t : Fin cfg0.N) (r : Fin 512) (k : Fin 2048) (R : Fin 16896) (hR : R.val = 512 * t.val + r.val) :
    (iblk m c 0 t : Vec Ideal S512x2048 .bf16) (ix2 r k) = hfA m c (ix2 R k) := by
  have e := idx0 t
  blk_ext [iblk, V, e]

theorem blk1 (t : Fin cfg0.N) (r : Fin 512) (k : Fin 2048) (R : Fin 16896) (hR : R.val = 512 * t.val + r.val) :
    (iblk m c 1 t : Vec Ideal S512x2048 .bf16) (ix2 r k) = hbA m c (ix2 R k) := by
  have e := idx1 t
  blk_ext [iblk, V, e]

theorem blk2 (t : Fin cfg0.N) (r : Fin 512) (k : Fin 2048) (R : Fin 16896) (hR : R.val = 512 * t.val + r.val) :
    (iblk m c 2 t : Vec Ideal S512x2048 .bf16) (ix2 r k) = xcA m c (ix2 R k) := by
  have e := idx2 t
  blk_ext [iblk, V, e]

theorem blk3 (t : Fin cfg0.N) (r : Fin 512) (k : Fin 2048) (R : Fin 16896) (hR : R.val = 512 * t.val + r.val) :
    (iblk m c 3 t : Vec Ideal S512x2048 .bf16) (ix2 r k) = zA m c (ix2 R k) := by
  have e := idx3 t
  blk_ext [iblk, V, e]

theorem blk4 (t : Fin cfg0.N) (r : Fin 512) (k : Fin 1024) (R : Fin 16896) (hR : R.val = 512 * t.val + r.val) :
    (iblk m c 4 t : Vec Ideal S512x1024 .f32) (ix2 r k) = xA m c (ix2 R k) := by
  have e := idx4 t
  blk_ext [iblk, V, e]

theorem blk5 (t : Fin cfg0.N) (j : Fin 9) (k : Fin 1024) (M : Fin 8) (hM : M.val = min (t.val / 16) 2) :
    (iblk m c 5 t : Vec Ideal S1x9x1024 .f32) (ix3 0 j k) = modA m c (ix3 M j k) := by
  have e := idx5 t
  blk_ext [iblk, V, e]

theorem blk6 (t : Fin cfg0.N) (j : Fin 6) (k : Fin 1024) :
    (iblk m c 6 t : Vec Ideal S6x1024 .f32) (ix2 j k) = normA m c (ix2 j k) := by
  have e := idx6 t
  blk_ext [iblk, V, e]

theorem blk7 (t : Fin cfg0.N) (J : Fin 2048) : (iblk m c 7 t : Vec Ideal S1x2048 .f32) (ix2 0 J) = headA m c (ix1 J) := by
  have e := idx7 t
  show _ = m ((c : Thread nD τ).loc main_arg7) (ix1 J)
  rw [← entry_v0 m c]
  blk_ext [iblk, e]

theorem blk8 (t : Fin cfg0.N) (J : Fin 2048) : (iblk m c 8 t : Vec Ideal S1x2048 .f32) (ix2 0 J) = skipA m c (ix1 J) := by
  have e := idx8 t
  show _ = m ((c : Thread nD τ).loc main_arg8) (ix1 J)
  rw [← entry_v1 m c]
  blk_ext [iblk, e]

theorem blk9 (t : Fin cfg0.N) (J : Fin 2048) (n : Fin 1024) :
    (iblk m c 9 t : Vec Ideal S1x2048x1024 .bf16) (ix3 0 J n) = woutA m c (ix3 0 J n) := by
  have e := idx9 t
  blk_ext [iblk, V, e]

/-- The result holds the output projection of every row. -/
theorem result (R : Fin 16896) (n : Fin 1024) : ((dats m 0 c).arrAt 10 cfg0.N : (S16896x1024).Idx → EReal) (ix2 R n)
    = goal (hfA m c) (hbA m c) (xcA m c) (zA m c) (xA m c) (modA m c) (normA m c) (headA m c) (skipA m c) (woutA m c) R n := by
  have hN : cfg0.N = 33 := N_0
  have hR := R.isLt
  let t : Fin cfg0.N := ⟨R.val / 512, by omega⟩
  let r : Fin 512 := ⟨R.val % 512, by omega⟩
  have hrow : R.val = 512 * t.val + r.val := by show R.val = 512 * (R.val / 512) + R.val % 512; omega
  have hM : (modRow R).val = min (t.val / 16) 2 := by show R.val / 8192 = min (R.val / 512 / 16) 2; omega
  have hbl := congrFun (Value.blocks10 m c t (flush0_10 t)) (ix2 r n)
  rw [Value.flushed10_A] at hbl
  have he : ((cfg0.win 10).blk t).view.emb (ix2 r n) = (ix2 R n : S16896x1024.Idx) := by
    have e := idx10 t
    blk_ext [e]
  rw [View.read_apply, he] at hbl
  refine hbl.trans ?_
  refine (congrFun (out_eq ..) (ix2 r n)).trans ?_
  rw [finish_apply]
  have e9 : wo (iblk m c 9 t) = fun J n => woutA m c (ix3 0 J n) := funext fun J => funext fun n => blk9 m c t J n
  rw [e9]
  unfold goal step chans
  simp only [blk0 m c t r _ R hrow, blk1 m c t r _ R hrow, blk2 m c t r _ R hrow, blk3 m c t r _ R hrow, blk4 m c t r _ R hrow,
    blk5 m c t _ _ _ hM, blk6, blk7, blk8]

end Cert.OutProj

end
-- ==== Proof.OutProj.RefValue.lean ====
/- The reference over the extended reals: its result, stage by stage, holds the output projection of every row. -/
module

public import proofs.«01_k».proof.Proof.OutProj.Grid
public import proofs.«01_k».proof.Proof.Gen.Reference4Ideal.Run
public import Idealize.ShloMosaic.Lib.Pointwise

@[expose] public section

set_option maxRecDepth 16384

noncomputable section

namespace Cert.OutProj.Ref

open Idealize.ShloMosaic Idealize.ShloMosaic.TcCoe Cert.Reference4Ideal Cert.Reference4Ideal.Gen Cert.Reference4Ideal.Value
open Cert.Ffn (rms)

section Stages

variable {F : FTy → Type} [FloatOps F]

/-- The hidden states of both directions, head by head. -/
def hidden (hf hb : Vec F S16896x2048 .bf16) : FVec F S1x4x16896x512 .f32 :=
  transpose S1x4x16896x512 [0, 2, 1, 3] (shapeCast _ (addf (extf .f32 hf bitsLt_bf16_f32) (extf .f32 hb bitsLt_bf16_f32))
    shapeCasts_S16896x2048_S1x16896x4x512) transposes_S1x16896x4x512_S1x4x16896x512_0_2_1_3

/-- The mean over a head's channels. -/
def meanOf (s : FVec F S1x4x16896x512 .f32) : FVec F S1x4x16896x1 .f32 :=
  Host.divf (broadcastInDim S1x4x16896x1 ![0, 1, 2] bcast_S1x4x16896_S1x4x16896x1_0_1_2
      (Host.reduceAdd s (constant S_ .f32 0x00000000#32) reducesTo_S1x4x16896x512_S1x4x16896_d3 h_S_))
    (broadcastInDim S1x4x16896x1 ![] bcast_S_S1x4x16896x1 (constant S_ .f32 0x44000000#32))

/-- A head's channels less their mean. -/
def centred (s : FVec F S1x4x16896x512 .f32) : FVec F S1x4x16896x512 .f32 :=
  subf s (broadcastInDim S1x4x16896x512 ![0, 1, 2, 3] bcast_S1x4x16896x1_S1x4x16896x512_0_1_2_3 (meanOf s))

/-- Centred channels over the root of their mean square. -/
def scaled (d : FVec F S1x4x16896x512 .f32) : FVec F S1x4x16896x512 .f32 :=
  mulf d (broadcastInDim S1x4x16896x512 ![0, 1, 2, 3] bcast_S1x4x16896x1_S1x4x16896x512_0_1_2_3
    (Host.rsqrt (addf (meanOf (mulf d d)) (broadcastInDim S1x4x16896x1 ![] bcast_S_S1x4x16896x1 (constant S_ .f32 0x358637BD#32)))))

/-- The gated channels of every row. -/
def gated (u : FVec F S1x4x16896x512 .f32) (xc z : Vec F S16896x2048 .bf16) (g sk : Vec F S2048 .f32) : FVec F S1x16896x2048 .f32 :=
  mulf (addf (mulf (shapeCast _ (transpose S1x16896x4x512 [0, 2, 1, 3] u transposes_S1x4x16896x512_S1x16896x4x512_0_2_1_3)
        shapeCasts_S1x16896x4x512_S1x16896x2048) (broadcastInDim S1x16896x2048 ![0, 1, 2] bcast_S1x1x2048_S1x16896x2048_0_1_2
          (broadcastInDim S1x1x2048 ![2] bcast_S2048_S1x1x2048_2 g)))
      (mulf (broadcastInDim S1x16896x2048 ![0, 1, 2] bcast_S1x1x2048_S1x16896x2048_0_1_2
          (broadcastInDim S1x1x2048 ![2] bcast_S2048_S1x1x2048_2 sk))
        (extf .f32 (broadcastInDim S1x16896x2048 ![1, 2] bcast_S16896x2048_S1x16896x2048_1_2 xc) bitsLt_bf16_f32)))
    (mulf (extf .f32 (broadcastInDim S1x16896x2048 ![1, 2] bcast_S16896x2048_S1x16896x2048_1_2 z) bitsLt_bf16_f32)
      (Host.divf (broadcastInDim S1x16896x2048 ![] bcast_S_S1x16896x2048 (constant S_ .f32 0x3F800000#32))
        (addf (broadcastInDim S1x16896x2048 ![] bcast_S_S1x16896x2048 (constant S_ .f32 0x3F800000#32))
          (Host.exp (Host.negf (extf .f32 (broadcastInDim S1x16896x2048 ![1, 2] bcast_S16896x2048_S1x16896x2048_1_2 z) bitsLt_bf16_f32))))))

/-- The projection of every row. -/
def projected (f : FVec F S1x16896x2048 .f32) (w : Vec F S2x2048x1024 .bf16) : FVec F S16896x1024 .f32 :=
  shapeCast _ (Host.dotGeneral dot_S1x16896x2048_S2048x1024_S1x16896x1024_2_0_01_1_n_n none f
      (extf .f32 (shapeCast _ (extractStridedSlice S1x2048x1024 ![0, 0, 0] w slices_S2x2048x1024_S1x2048x1024_0_0_0)
        shapeCasts_S1x2048x1024_S2048x1024) bitsLt_bf16_f32))
    shapeCasts_S1x16896x1024_S16896x1024

/-- The rows with their gated and normalized projection added. -/
def added (x : Vec F S16896x1024 .f32) (y : FVec F S16896x1024 .f32) (mo : Vec F S8x9x1024 .f32) (ng : Vec F S6x1024 .f32) :
    FVec F S16896x1024 .f32 :=
  addf x (mulf (mulf (broadcastInDim S16896x1024 ![] bcast_S_S16896x1024 (constant S_ .f32 0x3F800000#32))
      (concatenate S16896x1024 0 [⟨S16384x1024, (shapeCast _ (broadcastInDim S2x8192x1024 ![0, 1, 2] bcast_S2x1x1024_S2x8192x1024_0_1_2
          (broadcastInDim S2x1x1024 ![0, 2] bcast_S2x1024_S2x1x1024_0_2 (shapeCast _ (extractStridedSlice S2x1x1024 ![0, 5, 0] mo
            slices_S8x9x1024_S2x1x1024_0_5_0) shapeCasts_S2x1x1024_S2x1024))) shapeCasts_S2x8192x1024_S16384x1024)⟩,
        ⟨S512x1024, (broadcastInDim S512x1024 ![1] bcast_S1024_S512x1024_1 (shapeCast _ (extractStridedSlice S1x1x1024 ![2, 5, 0] mo
          slices_S8x9x1024_S1x1x1024_2_5_0) shapeCasts_S1x1x1024_S1024))⟩] concatenates_S16384x1024_S512x1024_S16896x1024_d0))
    (mulf (mulf y (broadcastInDim S16896x1024 ![0, 1] bcast_S16896x1_S16896x1024_0_1
        (Host.rsqrt (addf (Host.divf (broadcastInDim S16896x1 ![0] bcast_S16896_S16896x1_0 (Host.reduceAdd (mulf y y)
            (constant S_ .f32 0x00000000#32) reducesTo_S16896x1024_S16896_d1 h_S_))
          (broadcastInDim S16896x1 ![] bcast_S_S16896x1 (constant S_ .f32 0x44800000#32)))
          (broadcastInDim S16896x1 ![] bcast_S_S16896x1 (constant S_ .f32 0x358637BD#32))))))
      (broadcastInDim S16896x1024 ![0, 1] bcast_S1x1024_S16896x1024_0_1 (broadcastInDim S1x1024 ![1] bcast_S1024_S1x1024_1
        (shapeCast _ (extractStridedSlice S1x1024 ![3, 0] ng slices_S6x1024_S1x1024_3_0) shapeCasts_S1x1024_S1024)))))

/-- The result is these stages one after the other. -/
theorem res_eq (m : (ℓ : Loc nD τ sig) → Buf (Elt F) ℓ) (c : Dev nD) : res_main_v70 m c
    = added (m ((c.tc : Thread nD τ).loc main_arg4))
        (projected (gated (scaled (centred (hidden (m ((c.tc : Thread nD τ).loc main_arg0)) (m ((c.tc : Thread nD τ).loc main_arg1)))))
            (m ((c.tc : Thread nD τ).loc main_arg2)) (m ((c.tc : Thread nD τ).loc main_arg3))
            (m ((c.tc : Thread nD τ).loc main_arg7)) (m ((c.tc : Thread nD τ).loc main_arg8)))
          (m ((c.tc : Thread nD τ).loc main_arg9)))
        (m ((c.tc : Thread nD τ).loc main_arg5)) (m ((c.tc : Thread nD τ).loc main_arg6)) := rfl

end Stages

section Read

variable (hf hb xc z : Vec Ideal S16896x2048 .bf16) (x : Vec Ideal S16896x1024 .f32) (mo : Vec Ideal S8x9x1024 .f32)
  (ng : Vec Ideal S6x1024 .f32) (g sk : Vec Ideal S2048 .f32) (w : Vec Ideal S2x2048x1024 .bf16)

theorem hidden_apply (h : Fin 4) (R : Fin 16896) (j : Fin 512) :
    hidden hf hb (ix4 0 h R j) = hf (ix2 R (chan h j)) + hb (ix2 R (chan h j)) := by
  have e : ∀ p, (⟨h.val * 512 + j.val, p⟩ : Fin 2048) = chan h j := fun _ =>
    Fin.ext (by show h.val * 512 + j.val = 512 * h.val + j.val; omega)
  unfold hidden
  pointwise
  rw [e]

theorem meanOf_apply (s : FVec Ideal S1x4x16896x512 .f32) (h : Fin 4) (R : Fin 16896) :
    meanOf s (ix4 0 h R 0) = mean fun j => s (ix4 0 h R j) := by
  unfold meanOf
  pointwise
  rfl

theorem centred_apply (s : FVec Ideal S1x4x16896x512 .f32) (h : Fin 4) (R : Fin 16896) (j : Fin 512) :
    centred s (ix4 0 h R j) = s (ix4 0 h R j) - mean fun j => s (ix4 0 h R j) := by
  unfold centred
  pointwise
  rw [meanOf_apply]

theorem scaled_apply (d : FVec Ideal S1x4x16896x512 .f32) (h : Fin 4) (R : Fin 16896) (j : Fin 512) :
    scaled d (ix4 0 h R j) = d (ix4 0 h R j) * Ideal.rsqrt ((mean fun j => d (ix4 0 h R j) * d (ix4 0 h R j)) + Ideal.ofBits .f32 897988541#32) := by
  unfold scaled
  pointwise
  rw [meanOf_apply]
  rfl

theorem gated_apply (u : FVec Ideal S1x4x16896x512 .f32) (R : Fin 16896) (J : Fin 2048) : gated u xc z g sk (ix3 0 R J)
    = (u (ix4 0 (headOf J) R (placeOf J)) * g (ix1 J) + sk (ix1 J) * xc (ix2 R J)) * (z (ix2 R J) * Ideal.logistic (z (ix2 R J))) := by
  unfold gated
  pointwise
  rfl

theorem projected_apply (f : FVec Ideal S1x16896x2048 .f32) (R : Fin 16896) (n : Fin 1024) :
    projected f w (ix2 R n) = ∑ J, f (ix3 0 R J) * w (ix3 0 J n) := by
  unfold projected
  pointwise

theorem added_apply (y : FVec Ideal S16896x1024 .f32) (R : Fin 16896) (n : Fin 1024) : added x y mo ng (ix2 R n)
    = residual (fun k => x (ix2 R k)) (fun k => y (ix2 R k)) (fun k => mo (ix3 (modRow R) 5 k)) (fun k => ng (ix2 3 k)) n := by
  unfold added residual
  by_cases h : R.val < 16384
  · pointwise
    simp only [dif_pos h]
    exact congrArg _ (mul_left_comm _ _ _)
  · have hM : modRow R = 2 := Fin.ext (by show R.val / 8192 = 2; omega)
    rw [hM]
    pointwise
    simp only [dif_neg h]
    exact congrArg _ (mul_left_comm _ _ _)

end Read

/-- The reference's result, row by row. -/
theorem res_apply (m : (ℓ : Loc nD τ sig) → Buf (Elt Ideal) ℓ) (c : Dev nD) (R : Fin 16896) (n : Fin 1024) :
    (res_main_v70 m c : (S16896x1024).Idx → EReal) (ix2 R n)
    = goal (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) R n := by
  refine (congrFun (res_eq m c) (ix2 R n)).trans ?_
  rw [added_apply]
  unfold goal step
  congr 1
  funext k
  rw [projected_apply]
  unfold project channel spread
  simp only [gated_apply, scaled_apply, centred_apply, hidden_apply, chan_of]
  rfl

end Cert.OutProj.Ref

end
-- ==== Proof.OutProj.Claims.lean ====
/- The output projection's claims: both programs run and leave their arguments, and over the extended reals both leave the output projection
   of every row. -/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.OutProj.Grid
public import proofs.«01_k».proof.Proof.OutProj.RefValue
public import Idealize.ShloMosaic.Adequacy
public import Idealize.ShloMosaic.Init

@[expose] public section

noncomputable section

namespace Cert.OutProj.Claims

open Idealize.ShloMosaic Idealize.ShloMosaic.TcCoe Idealize.SL.Sem

/-- The kernel's frame at the bit-exact instance. -/
theorem frame_kernel : Cert.quiescent_Kernel4 := fun m ρ _ => Cert.Kernel4.Gen.frame m ρ

/-- The kernel's frame over the extended reals. -/
theorem frame_ideal : Cert.quiescent_Kernel4Ideal := fun m ρ _ => Cert.Kernel4Ideal.Gen.frame m ρ

/-- The reference's frame. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

/-- THE VALUES: kernel and reference leave the same array. -/
theorem value : Cert.algebraic_Kernel4Ideal_Reference4Ideal := by
  intro m ρ m' ρ' _ hargs
  refine ⟨fun c => (Cert.Kernel4Ideal.Gen.dats m 0 c).arrAt 10 Cert.Kernel4Ideal.cfg0.N, Cert.Kernel4Ideal.Value.run_blocks m ρ, ?_⟩
  refine (θ_run Cert.Reference4Ideal.defs _ _).mono (fun r h c => ?_) (Cert.Reference4Ideal.Value.run m' ρ')
  obtain ⟨h0, hk⟩ := h c
  obtain ⟨e0, e1, e2, e3, e4, e5, e6, e7, e8, e9⟩ := hargs c
  refine ⟨h0.trans (funext fun i => ?_), hk⟩
  obtain ⟨R, n, rfl⟩ : ∃ (R : Fin 16896) (n : Fin 1024), i = ix2 R n := ⟨i 0, i 1, by funext a; fin_cases a <;> rfl⟩
  refine (Ref.res_apply m' c R n).trans ((result m c R n).trans ?_).symm
  rw [e0, e1, e2, e3, e4, e5, e6, e7, e8, e9]

end Cert.OutProj.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Scan.Claims
public import proofs.«01_k».proof.Proof.Ffn.Claims
public import proofs.«01_k».proof.Proof.InProj.Claims
public import proofs.«01_k».proof.Proof.OutProj.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Scan.Claims.preFacts,
    Cert.Scan.Claims.frame_kernel, Cert.Scan.Claims.frame_ideal, fun m ρ _ => Cert.Scan.Claims.frame_ideal m ρ trivial,
    Cert.Scan.Claims.frame_reference, fun m ρ _ => Cert.Scan.Claims.frame_reference m ρ trivial,
    Cert.Ffn.Claims.frame_kernel, Cert.Ffn.Claims.frame_ideal, Cert.Ffn.Claims.frame_reference,
    Cert.InProj.Claims.frame_kernel, Cert.InProj.Claims.frame_ideal, Cert.InProj.Claims.frame_reference,
    Cert.OutProj.Claims.frame_kernel, Cert.OutProj.Claims.frame_ideal, Cert.OutProj.Claims.frame_reference,
    trivial, Cert.Scan.Claims.value, trivial, Cert.Ffn.Claims.value, trivial, Cert.InProj.Claims.value, trivial, Cert.OutProj.Claims.value⟩

end Cert.Proof

end
